-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3)
      ∧ r.2.mem ((c.tc : Thread Cert.Kernel45.nD Cert.Kernel45.τ).loc Cert.Kernel45.main_arg4) = m ((c.tc : Thread Cert.Kernel45.nD Cert.Kernel45.τ).loc Cert.Kernel45.main_arg4)
      ∧ r.2.mem ((c.tc : Thread Cert.Kernel45.nD Cert.Kernel45.τ).loc Cert.Kernel45.main_arg5) = m ((c.tc : Thread Cert.Kernel45.nD Cert.Kernel45.τ).loc Cert.Kernel45.main_arg5))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
      ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4)
      ∧ r.2.mem ((c.tc : Thread Cert.Kernel45Ideal.nD Cert.Kernel45Ideal.τ).loc Cert.Kernel45Ideal.main_arg5) = m ((c.tc : Thread Cert.Kernel45Ideal.nD Cert.Kernel45Ideal.τ).loc Cert.Kernel45Ideal.main_arg5))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3)
      ∧ r.2.mem ((c.tc : Thread Cert.Reference45Ideal.nD Cert.Reference45Ideal.τ).loc Cert.Reference45Ideal.main_arg4) = m ((c.tc : Thread Cert.Reference45Ideal.nD Cert.Reference45Ideal.τ).loc Cert.Reference45Ideal.main_arg4)
      ∧ r.2.mem ((c.tc : Thread Cert.Reference45Ideal.nD Cert.Reference45Ideal.τ).loc Cert.Reference45Ideal.main_arg5) = m ((c.tc : Thread Cert.Reference45Ideal.nD Cert.Reference45Ideal.τ).loc Cert.Reference45Ideal.main_arg5))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v32) = v0 c
          ∧ r.2.mem ((c.tc : Thread Cert.Reference20Ideal.nD Cert.Reference20Ideal.τ).loc Cert.Reference20Ideal.main_v33) = v1 c
          ∧ r.2.mem ((c.tc : Thread Cert.Reference20Ideal.nD Cert.Reference20Ideal.τ).loc Cert.Reference20Ideal.main_v34) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v17) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v16) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v9) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg1) = v0 c
          ∧ r.2.mem ((c.tc : Thread Cert.Reference24Ideal.nD Cert.Reference24Ideal.τ).loc Cert.Reference24Ideal.main_v23) = v1 c
          ∧ r.2.mem ((c.tc : Thread Cert.Reference24Ideal.nD Cert.Reference24Ideal.τ).loc Cert.Reference24Ideal.main_v4) = v2 c
          ∧ r.2.mem ((c.tc : Thread Cert.Reference24Ideal.nD Cert.Reference24Ideal.τ).loc Cert.Reference24Ideal.main_v10) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg1) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v10) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg1) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg1) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg1) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)) (v3 : (c : Dev Cert.Kernel29Ideal.nD) → Buf (Elt Ideal) ((c.tc : Thread Cert.Kernel29Ideal.nD Cert.Kernel29Ideal.τ).loc Cert.Kernel29Ideal.main_v4_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_v4_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_v27) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)) (v3 : (c : Dev Cert.Kernel30Ideal.nD) → Buf (Elt Ideal) ((c.tc : Thread Cert.Kernel30Ideal.nD Cert.Kernel30Ideal.τ).loc Cert.Kernel30Ideal.main_v4_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_v4_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v24) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v26) = v2 c
          ∧ r.2.mem ((c.tc : Thread Cert.Reference30Ideal.nD Cert.Reference30Ideal.τ).loc Cert.Reference30Ideal.main_v27) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)) (v3 : (c : Dev Cert.Kernel31Ideal.nD) → Buf (Elt Ideal) ((c.tc : Thread Cert.Kernel31Ideal.nD Cert.Kernel31Ideal.τ).loc Cert.Kernel31Ideal.main_v4_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_v4_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v26) = v2 c
          ∧ r.2.mem ((c.tc : Thread Cert.Reference31Ideal.nD Cert.Reference31Ideal.τ).loc Cert.Reference31Ideal.main_v27) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)) (v2 : (c : Dev Cert.Kernel32Ideal.nD) → Buf (Elt Ideal) ((c.tc : Thread Cert.Kernel32Ideal.nD Cert.Kernel32Ideal.τ).loc Cert.Kernel32Ideal.main_v4_2)) (v3 : (c : Dev Cert.Kernel32Ideal.nD) → Buf (Elt Ideal) ((c.tc : Thread Cert.Kernel32Ideal.nD Cert.Kernel32Ideal.τ).loc Cert.Kernel32Ideal.main_v4_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_v4_2) = v2 c
          ∧ r.2.mem ((c.tc : Thread Cert.Kernel32Ideal.nD Cert.Kernel32Ideal.τ).loc Cert.Kernel32Ideal.main_v4_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v24) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v26) = v2 c
          ∧ r.2.mem ((c.tc : Thread Cert.Reference32Ideal.nD Cert.Reference32Ideal.τ).loc Cert.Reference32Ideal.main_v27) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v2_0)) (v1 : (c : Dev Cert.Kernel33Ideal.nD) → Buf (Elt Ideal) ((c.tc : Thread Cert.Kernel33Ideal.nD Cert.Kernel33Ideal.τ).loc Cert.Kernel33Ideal.main_v2_1)) (v2 : (c : Dev Cert.Kernel33Ideal.nD) → Buf (Elt Ideal) ((c.tc : Thread Cert.Kernel33Ideal.nD Cert.Kernel33Ideal.τ).loc Cert.Kernel33Ideal.main_v2_2)) (v3 : (c : Dev Cert.Kernel33Ideal.nD) → Buf (Elt Ideal) ((c.tc : Thread Cert.Kernel33Ideal.nD Cert.Kernel33Ideal.τ).loc Cert.Kernel33Ideal.main_v2_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2_0) = v0 c
          ∧ r.2.mem ((c.tc : Thread Cert.Kernel33Ideal.nD Cert.Kernel33Ideal.τ).loc Cert.Kernel33Ideal.main_v2_1) = v1 c
          ∧ r.2.mem ((c.tc : Thread Cert.Kernel33Ideal.nD Cert.Kernel33Ideal.τ).loc Cert.Kernel33Ideal.main_v2_2) = v2 c
          ∧ r.2.mem ((c.tc : Thread Cert.Kernel33Ideal.nD Cert.Kernel33Ideal.τ).loc Cert.Kernel33Ideal.main_v2_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v6) = v0 c
          ∧ r.2.mem ((c.tc : Thread Cert.Reference33Ideal.nD Cert.Reference33Ideal.τ).loc Cert.Reference33Ideal.main_v30) = v1 c
          ∧ r.2.mem ((c.tc : Thread Cert.Reference33Ideal.nD Cert.Reference33Ideal.τ).loc Cert.Reference33Ideal.main_v11) = v2 c
          ∧ r.2.mem ((c.tc : Thread Cert.Reference33Ideal.nD Cert.Reference33Ideal.τ).loc Cert.Reference33Ideal.main_v17) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)) →
    ∃ (v0 : (c : Dev Cert.Kernel34Ideal.nD) → Buf (Elt Ideal) ((c.tc : Thread Cert.Kernel34Ideal.nD Cert.Kernel34Ideal.τ).loc Cert.Kernel34Ideal.main_v2_0)) (v1 : (c : Dev Cert.Kernel34Ideal.nD) → Buf (Elt Ideal) ((c.tc : Thread Cert.Kernel34Ideal.nD Cert.Kernel34Ideal.τ).loc Cert.Kernel34Ideal.main_v2_1)) (v2 : (c : Dev Cert.Kernel34Ideal.nD) → Buf (Elt Ideal) ((c.tc : Thread Cert.Kernel34Ideal.nD Cert.Kernel34Ideal.τ).loc Cert.Kernel34Ideal.main_v2_2)) (v3 : (c : Dev Cert.Kernel34Ideal.nD) → Buf (Elt Ideal) ((c.tc : Thread Cert.Kernel34Ideal.nD Cert.Kernel34Ideal.τ).loc Cert.Kernel34Ideal.main_v2_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v2_0) = v0 c
          ∧ r.2.mem ((c.tc : Thread Cert.Kernel34Ideal.nD Cert.Kernel34Ideal.τ).loc Cert.Kernel34Ideal.main_v2_1) = v1 c
          ∧ r.2.mem ((c.tc : Thread Cert.Kernel34Ideal.nD Cert.Kernel34Ideal.τ).loc Cert.Kernel34Ideal.main_v2_2) = v2 c
          ∧ r.2.mem ((c.tc : Thread Cert.Kernel34Ideal.nD Cert.Kernel34Ideal.τ).loc Cert.Kernel34Ideal.main_v2_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v6) = v0 c
          ∧ r.2.mem ((c.tc : Thread Cert.Reference34Ideal.nD Cert.Reference34Ideal.τ).loc Cert.Reference34Ideal.main_v30) = v1 c
          ∧ r.2.mem ((c.tc : Thread Cert.Reference34Ideal.nD Cert.Reference34Ideal.τ).loc Cert.Reference34Ideal.main_v11) = v2 c
          ∧ r.2.mem ((c.tc : Thread Cert.Reference34Ideal.nD Cert.Reference34Ideal.τ).loc Cert.Reference34Ideal.main_v17) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v2_0)) (v1 : (c : Dev Cert.Kernel35Ideal.nD) → Buf (Elt Ideal) ((c.tc : Thread Cert.Kernel35Ideal.nD Cert.Kernel35Ideal.τ).loc Cert.Kernel35Ideal.main_v2_1)) (v2 : (c : Dev Cert.Kernel35Ideal.nD) → Buf (Elt Ideal) ((c.tc : Thread Cert.Kernel35Ideal.nD Cert.Kernel35Ideal.τ).loc Cert.Kernel35Ideal.main_v2_2)) (v3 : (c : Dev Cert.Kernel35Ideal.nD) → Buf (Elt Ideal) ((c.tc : Thread Cert.Kernel35Ideal.nD Cert.Kernel35Ideal.τ).loc Cert.Kernel35Ideal.main_v2_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v2_0) = v0 c
          ∧ r.2.mem ((c.tc : Thread Cert.Kernel35Ideal.nD Cert.Kernel35Ideal.τ).loc Cert.Kernel35Ideal.main_v2_1) = v1 c
          ∧ r.2.mem ((c.tc : Thread Cert.Kernel35Ideal.nD Cert.Kernel35Ideal.τ).loc Cert.Kernel35Ideal.main_v2_2) = v2 c
          ∧ r.2.mem ((c.tc : Thread Cert.Kernel35Ideal.nD Cert.Kernel35Ideal.τ).loc Cert.Kernel35Ideal.main_v2_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v6) = v0 c
          ∧ r.2.mem ((c.tc : Thread Cert.Reference35Ideal.nD Cert.Reference35Ideal.τ).loc Cert.Reference35Ideal.main_v30) = v1 c
          ∧ r.2.mem ((c.tc : Thread Cert.Reference35Ideal.nD Cert.Reference35Ideal.τ).loc Cert.Reference35Ideal.main_v11) = v2 c
          ∧ r.2.mem ((c.tc : Thread Cert.Reference35Ideal.nD Cert.Reference35Ideal.τ).loc Cert.Reference35Ideal.main_v17) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)) →
    ∃ (v0 : (c : Dev Cert.Kernel36Ideal.nD) → Buf (Elt Ideal) ((c.tc : Thread Cert.Kernel36Ideal.nD Cert.Kernel36Ideal.τ).loc Cert.Kernel36Ideal.main_v2_0)) (v1 : (c : Dev Cert.Kernel36Ideal.nD) → Buf (Elt Ideal) ((c.tc : Thread Cert.Kernel36Ideal.nD Cert.Kernel36Ideal.τ).loc Cert.Kernel36Ideal.main_v2_1)) (v2 : (c : Dev Cert.Kernel36Ideal.nD) → Buf (Elt Ideal) ((c.tc : Thread Cert.Kernel36Ideal.nD Cert.Kernel36Ideal.τ).loc Cert.Kernel36Ideal.main_v2_2)) (v3 : (c : Dev Cert.Kernel36Ideal.nD) → Buf (Elt Ideal) ((c.tc : Thread Cert.Kernel36Ideal.nD Cert.Kernel36Ideal.τ).loc Cert.Kernel36Ideal.main_v2_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v2_0) = v0 c
          ∧ r.2.mem ((c.tc : Thread Cert.Kernel36Ideal.nD Cert.Kernel36Ideal.τ).loc Cert.Kernel36Ideal.main_v2_1) = v1 c
          ∧ r.2.mem ((c.tc : Thread Cert.Kernel36Ideal.nD Cert.Kernel36Ideal.τ).loc Cert.Kernel36Ideal.main_v2_2) = v2 c
          ∧ r.2.mem ((c.tc : Thread Cert.Kernel36Ideal.nD Cert.Kernel36Ideal.τ).loc Cert.Kernel36Ideal.main_v2_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v6) = v0 c
          ∧ r.2.mem ((c.tc : Thread Cert.Reference36Ideal.nD Cert.Reference36Ideal.τ).loc Cert.Reference36Ideal.main_v30) = v1 c
          ∧ r.2.mem ((c.tc : Thread Cert.Reference36Ideal.nD Cert.Reference36Ideal.τ).loc Cert.Reference36Ideal.main_v11) = v2 c
          ∧ r.2.mem ((c.tc : Thread Cert.Reference36Ideal.nD Cert.Reference36Ideal.τ).loc Cert.Reference36Ideal.main_v17) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)) →
    ∃ (v0 : (c : Dev Cert.Kernel37Ideal.nD) → Buf (Elt Ideal) ((c.tc : Thread Cert.Kernel37Ideal.nD Cert.Kernel37Ideal.τ).loc Cert.Kernel37Ideal.main_v2_0)) (v1 : (c : Dev Cert.Kernel37Ideal.nD) → Buf (Elt Ideal) ((c.tc : Thread Cert.Kernel37Ideal.nD Cert.Kernel37Ideal.τ).loc Cert.Kernel37Ideal.main_v2_1)) (v2 : (c : Dev Cert.Kernel37Ideal.nD) → Buf (Elt Ideal) ((c.tc : Thread Cert.Kernel37Ideal.nD Cert.Kernel37Ideal.τ).loc Cert.Kernel37Ideal.main_v2_2)) (v3 : (c : Dev Cert.Kernel37Ideal.nD) → Buf (Elt Ideal) ((c.tc : Thread Cert.Kernel37Ideal.nD Cert.Kernel37Ideal.τ).loc Cert.Kernel37Ideal.main_v2_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v2_0) = v0 c
          ∧ r.2.mem ((c.tc : Thread Cert.Kernel37Ideal.nD Cert.Kernel37Ideal.τ).loc Cert.Kernel37Ideal.main_v2_1) = v1 c
          ∧ r.2.mem ((c.tc : Thread Cert.Kernel37Ideal.nD Cert.Kernel37Ideal.τ).loc Cert.Kernel37Ideal.main_v2_2) = v2 c
          ∧ r.2.mem ((c.tc : Thread Cert.Kernel37Ideal.nD Cert.Kernel37Ideal.τ).loc Cert.Kernel37Ideal.main_v2_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v6) = v0 c
          ∧ r.2.mem ((c.tc : Thread Cert.Reference37Ideal.nD Cert.Reference37Ideal.τ).loc Cert.Reference37Ideal.main_v30) = v1 c
          ∧ r.2.mem ((c.tc : Thread Cert.Reference37Ideal.nD Cert.Reference37Ideal.τ).loc Cert.Reference37Ideal.main_v11) = v2 c
          ∧ r.2.mem ((c.tc : Thread Cert.Reference37Ideal.nD Cert.Reference37Ideal.τ).loc Cert.Reference37Ideal.main_v17) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v1_0)) (v1 : (c : Dev Cert.Kernel38Ideal.nD) → Buf (Elt Ideal) ((c.tc : Thread Cert.Kernel38Ideal.nD Cert.Kernel38Ideal.τ).loc Cert.Kernel38Ideal.main_v1_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1_0) = v0 c
          ∧ r.2.mem ((c.tc : Thread Cert.Kernel38Ideal.nD Cert.Kernel38Ideal.τ).loc Cert.Kernel38Ideal.main_v1_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v36) = v0 c
          ∧ r.2.mem ((c.tc : Thread Cert.Reference38Ideal.nD Cert.Reference38Ideal.τ).loc Cert.Reference38Ideal.main_v37) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v14) = v0 c
          ∧ r.2.mem ((c.tc : Thread Cert.Reference39Ideal.nD Cert.Reference39Ideal.τ).loc Cert.Reference39Ideal.main_v15) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v1) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v13) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v1)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v1) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v15) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v1_0)) (v1 : (c : Dev Cert.Kernel42Ideal.nD) → Buf (Elt Ideal) ((c.tc : Thread Cert.Kernel42Ideal.nD Cert.Kernel42Ideal.τ).loc Cert.Kernel42Ideal.main_v1_1)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v1_0) = v0 c
          ∧ r.2.mem ((c.tc : Thread Cert.Kernel42Ideal.nD Cert.Kernel42Ideal.τ).loc Cert.Kernel42Ideal.main_v1_1) = v1 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v40) = v0 c
          ∧ r.2.mem ((c.tc : Thread Cert.Reference42Ideal.nD Cert.Reference42Ideal.τ).loc Cert.Reference42Ideal.main_v41) = v1 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)) →
    ∃ (v0 : (c : Dev Cert.Kernel43Ideal.nD) → Buf (Elt Ideal) ((c.tc : Thread Cert.Kernel43Ideal.nD Cert.Kernel43Ideal.τ).loc Cert.Kernel43Ideal.main_v1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v1) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v13) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)) →
    ∃ (v0 : (c : Dev Cert.Kernel44Ideal.nD) → Buf (Elt Ideal) ((c.tc : Thread Cert.Kernel44Ideal.nD Cert.Kernel44Ideal.τ).loc Cert.Kernel44Ideal.main_v1_0)) (v1 : (c : Dev Cert.Kernel44Ideal.nD) → Buf (Elt Ideal) ((c.tc : Thread Cert.Kernel44Ideal.nD Cert.Kernel44Ideal.τ).loc Cert.Kernel44Ideal.main_v1_1)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v1_0) = v0 c
          ∧ r.2.mem ((c.tc : Thread Cert.Kernel44Ideal.nD Cert.Kernel44Ideal.τ).loc Cert.Kernel44Ideal.main_v1_1) = v1 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v36) = v0 c
          ∧ r.2.mem ((c.tc : Thread Cert.Reference44Ideal.nD Cert.Reference44Ideal.τ).loc Cert.Reference44Ideal.main_v37) = v1 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)
      ∧ m' ((c.tc : Thread Cert.Reference45Ideal.nD Cert.Reference45Ideal.τ).loc Cert.Reference45Ideal.main_arg4) = m ((c.tc : Thread Cert.Kernel45Ideal.nD Cert.Kernel45Ideal.τ).loc Cert.Kernel45Ideal.main_arg4)
      ∧ m' ((c.tc : Thread Cert.Reference45Ideal.nD Cert.Reference45Ideal.τ).loc Cert.Reference45Ideal.main_arg5) = m ((c.tc : Thread Cert.Kernel45Ideal.nD Cert.Kernel45Ideal.τ).loc Cert.Kernel45Ideal.main_arg5)) →
    ∃ (v0 : (c : Dev Cert.Kernel45Ideal.nD) → Buf (Elt Ideal) ((c.tc : Thread Cert.Kernel45Ideal.nD Cert.Kernel45Ideal.τ).loc Cert.Kernel45Ideal.main_v1_0)) (v1 : (c : Dev Cert.Kernel45Ideal.nD) → Buf (Elt Ideal) ((c.tc : Thread Cert.Kernel45Ideal.nD Cert.Kernel45Ideal.τ).loc Cert.Kernel45Ideal.main_v1_1)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v1_0) = v0 c
          ∧ r.2.mem ((c.tc : Thread Cert.Kernel45Ideal.nD Cert.Kernel45Ideal.τ).loc Cert.Kernel45Ideal.main_v1_1) = v1 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
          ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4)
          ∧ r.2.mem ((c.tc : Thread Cert.Kernel45Ideal.nD Cert.Kernel45Ideal.τ).loc Cert.Kernel45Ideal.main_arg5) = m ((c.tc : Thread Cert.Kernel45Ideal.nD Cert.Kernel45Ideal.τ).loc Cert.Kernel45Ideal.main_arg5))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v38) = v0 c
          ∧ r.2.mem ((c.tc : Thread Cert.Reference45Ideal.nD Cert.Reference45Ideal.τ).loc Cert.Reference45Ideal.main_v39) = v1 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3)
          ∧ r.2.mem ((c.tc : Thread Cert.Reference45Ideal.nD Cert.Reference45Ideal.τ).loc Cert.Reference45Ideal.main_arg4) = m' ((c.tc : Thread Cert.Reference45Ideal.nD Cert.Reference45Ideal.τ).loc Cert.Reference45Ideal.main_arg4)
          ∧ r.2.mem ((c.tc : Thread Cert.Reference45Ideal.nD Cert.Reference45Ideal.τ).loc Cert.Reference45Ideal.main_arg5) = m' ((c.tc : Thread Cert.Reference45Ideal.nD Cert.Reference45Ideal.τ).loc Cert.Reference45Ideal.main_arg5))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v1)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v1) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v2) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v1)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v1) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v4) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)) →
    ∃ (v0 : (c : Dev Cert.Kernel48Ideal.nD) → Buf (Elt Ideal) ((c.tc : Thread Cert.Kernel48Ideal.nD Cert.Kernel48Ideal.τ).loc Cert.Kernel48Ideal.main_v2)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v2) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v0) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
-- ==== Kernel2.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x1x704x1024 : Shape := ⟨4, ![4, 1, 704, 1024]⟩
abbrev S1x2048x704 : Shape := ⟨3, ![1, 2048, 704]⟩
abbrev S2048x512 : Shape := ⟨2, ![2048, 512]⟩
abbrev S1x1x704x512 : Shape := ⟨4, ![1, 1, 704, 512]⟩
abbrev S704x512 : Shape := ⟨2, ![704, 512]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S2048x1024, .bf16⟩
  | .hbm, ⟨6, _⟩ => ⟨S4x1x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x512, .bf16⟩
  | .local _ .vmem, ⟨3, _⟩ => ⟨S2048x512, .bf16⟩
  | .local _ .vmem, ⟨4, _⟩ => ⟨S1x1x704x512, .bf16⟩
  | .local _ .vmem, ⟨5, _⟩ => ⟨S1x1x704x512, .bf16⟩
  | .local _ .vmem, ⟨6, _⟩ => ⟨S704x512, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S4x1x704x1024 : Shape := ⟨4, ![4, 1, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S4x1x704x1024, .f32⟩
  | .hbm, ⟨8, _⟩ => ⟨S4x1x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2048x1024 : Shape := ⟨2, ![2048, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩
abbrev S4x1x704x1024 : Shape := ⟨4, ![4, 1, 704, 1024]⟩
abbrev S1x2x2048x704 : Shape := ⟨4, ![1, 2, 2048, 704]⟩
abbrev S1x1x704x1024 : Shape := ⟨4, ![1, 1, 704, 1024]⟩
abbrev S1x1x2048x704 : Shape := ⟨4, ![1, 1, 2048, 704]⟩
abbrev S2048x704 : Shape := ⟨2, ![2048, 704]⟩
abbrev S704x1024 : Shape := ⟨2, ![704, 1024]⟩

abbrev nBuf : Space → Nat
  | .hbm => 14
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x4x704, .f32⟩
  | .hbm, ⟨4, _⟩ => ⟨S4x2048x704, .f32⟩
  | .hbm, ⟨5, _⟩ => ⟨S2048x4x704, .f32⟩
  | .hbm, ⟨6, _⟩ => ⟨S4x2048x704, .f32⟩
  | .hbm, ⟨7, _⟩ => ⟨S4x1x2048x704, .f32⟩
  | .hbm, ⟨8, _⟩ => ⟨S4x1x2048x704, .f32⟩
  | .hbm, ⟨9, _⟩ => ⟨S4x2x2048x704, .f32⟩
  | .hbm, ⟨10, _⟩ => ⟨S4x2x2048x704, .bf16⟩
  | .hbm, ⟨11, _⟩ => ⟨S2048x1024, .bf16⟩
  | .hbm, ⟨12, _⟩ => ⟨S4x1x704x1024, .bf16⟩
  | .hbm, ⟨13, _⟩ => ⟨S4x1x704x1024, .bf16⟩
  | .local _ .vmem, ⟨0, _⟩ => ⟨S2048x1024, .bf16⟩
  | .local _ .vmem, ⟨1, _⟩ => ⟨S1x2x2048x704, .bf16⟩
  | .local _ .vmem, ⟨2, _⟩ => ⟨S1x2x2048x704, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩
abbrev S4x1x704x1024 : Shape := ⟨4, ![4, 1, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S_, .f32⟩
  | .hbm, ⟨4, _⟩ => ⟨S1024x2816, .f32⟩
  | .hbm, ⟨5, _⟩ => ⟨S2048x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S4x1x704x1024, .f32⟩
  | .hbm, ⟨10, _⟩ => ⟨S4x1x704x1024, .bf16⟩
  | .hbm, ⟨11, _⟩ => ⟨S2048x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S4x1x704x1024, .f32⟩
  | .hbm, ⟨16, _⟩ => ⟨S4x1x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel4.lean ====
abbrev S2048x2816 : Shape := ⟨2, ![2048, 2816]⟩
abbrev S1024x2816 : Shape := ⟨2, ![1024, 2816]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩
abbrev S2816x1024 : Shape := ⟨2, ![2816, 1024]⟩
abbrev S4x1x704x1024 : Shape := ⟨4, ![4, 1, 704, 1024]⟩
abbrev S2048x1024 : Shape := ⟨2, ![2048, 1024]⟩
abbrev S1x2x1024x704 : Shape := ⟨4, ![1, 2, 1024, 704]⟩
abbrev S1x1x704x1024 : Shape := ⟨4, ![1, 1, 704, 1024]⟩
abbrev S1024x1024 : Shape := ⟨2, ![1024, 1024]⟩
abbrev S1x1x1024x704 : Shape := ⟨4, ![1, 1, 1024, 704]⟩
abbrev S1024x704 : Shape := ⟨2, ![1024, 704]⟩
abbrev S704x1024 : Shape := ⟨2, ![704, 1024]⟩

abbrev nBuf : Space → Nat
  | .hbm => 19
  | .vmem => 8
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x2816, .f32⟩
  | .hbm, ⟨3, _⟩ => ⟨S1024x2816, .f32⟩
  | .hbm, ⟨4, _⟩ => ⟨S2048x4x704, .f32⟩
  | .hbm, ⟨5, _⟩ => ⟨S4x2048x704, .f32⟩
  | .hbm, ⟨6, _⟩ => ⟨S2048x4x704, .f32⟩
  | .hbm, ⟨7, _⟩ => ⟨S4x2048x704, .f32⟩
  | .hbm, ⟨8, _⟩ => ⟨S4x1x2048x704, .f32⟩
  | .hbm, ⟨9, _⟩ => ⟨S4x1x2048x704, .f32⟩
  | .hbm, ⟨10, _⟩ => ⟨S4x2x2048x704, .f32⟩
  | .hbm, ⟨11, _⟩ => ⟨S4x2x2048x704, .bf16⟩
  | .hbm, ⟨12, _⟩ => ⟨S2816x1024, .f32⟩
  | .hbm, ⟨13, _⟩ => ⟨S2816x1024, .bf16⟩
  | .hbm, ⟨14, _⟩ => ⟨S4x1x704x1024, .bf16⟩
  | .hbm, ⟨15, _⟩ => ⟨S2816x1024, .f32⟩
  | .hbm, ⟨16, _⟩ => ⟨S2816x1024, .bf16⟩
  | .hbm, ⟨17, _⟩ => ⟨S4x1x704x1024, .bf16⟩
  | .hbm, ⟨18, _⟩ => ⟨S2048x1024, .f32⟩
  | .local _ .vmem, ⟨0, _⟩ => ⟨S1x2x1024x704, .bf16⟩
  | .local _ .vmem, ⟨1, _⟩ => ⟨S1x2x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1024x1024, .f32⟩
  | .local _ .vmem, ⟨7, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S2048x2816 : Shape := ⟨2, ![2048, 2816]⟩
abbrev S1024x2816 : Shape := ⟨2, ![1024, 2816]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x2816, .f32⟩
  | .hbm, ⟨3, _⟩ => ⟨S1024x2816, .f32⟩
  | .hbm, ⟨4, _⟩ => ⟨S_, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S2048x1024, .f32⟩
  | .hbm, ⟨9, _⟩ => ⟨S2048x1024, .f32⟩
  | .hbm, ⟨10, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S2048x1024 : Shape := ⟨2, ![2048, 1024]⟩
abbrev S2816x1024 : Shape := ⟨2, ![2816, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩
abbrev S4x1x704x1024 : Shape := ⟨4, ![4, 1, 704, 1024]⟩
abbrev S1024x1024 : Shape := ⟨2, ![1024, 1024]⟩
abbrev S1x1x704x1024 : Shape := ⟨4, ![1, 1, 704, 1024]⟩
abbrev S1x2x1024x704 : Shape := ⟨4, ![1, 2, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 16
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .f32⟩
  | .hbm, ⟨3, _⟩ => ⟨S2048x2816, .f32⟩
  | .hbm, ⟨4, _⟩ => ⟨S2048x4x704, .f32⟩
  | .hbm, ⟨5, _⟩ => ⟨S4x2048x704, .f32⟩
  | .hbm, ⟨6, _⟩ => ⟨S2048x4x704, .f32⟩
  | .hbm, ⟨7, _⟩ => ⟨S4x2048x704, .f32⟩
  | .hbm, ⟨8, _⟩ => ⟨S4x1x2048x704, .f32⟩
  | .hbm, ⟨9, _⟩ => ⟨S4x1x2048x704, .f32⟩
  | .hbm, ⟨10, _⟩ => ⟨S4x2x2048x704, .f32⟩
  | .hbm, ⟨11, _⟩ => ⟨S4x2x2048x704, .bf16⟩
  | .hbm, ⟨12, _⟩ => ⟨S2048x1024, .bf16⟩
  | .hbm, ⟨13, _⟩ => ⟨S2816x1024, .bf16⟩
  | .hbm, ⟨14, _⟩ => ⟨S4x1x704x1024, .bf16⟩
  | .hbm, ⟨15, _⟩ => ⟨S4x2x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x2x1024x704, .bf16⟩
  | .local _ .vmem, ⟨5, _⟩ => ⟨S1x2x1024x704, .bf16⟩
  | .local _ .vmem, ⟨6, _⟩ => ⟨S1x2x1024x704, .bf16⟩
  | .local _ .vmem, ⟨7, _⟩ => ⟨S1x2x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x4x704, .f32⟩
  | .hbm, ⟨27, _⟩ => ⟨S4x2048x704, .f32⟩
  | .hbm, ⟨28, _⟩ => ⟨S4x2048x704, .bf16⟩
  | .hbm, ⟨29, _⟩ => ⟨S2048x4x704, .f32⟩
  | .hbm, ⟨30, _⟩ => ⟨S4x2048x704, .f32⟩
  | .hbm, ⟨31, _⟩ => ⟨S4x2048x704, .bf16⟩
  | .hbm, ⟨32, _⟩ => ⟨S4x1x2048x704, .bf16⟩
  | .hbm, ⟨33, _⟩ => ⟨S4x1x2048x704, .bf16⟩
  | .hbm, ⟨34, _⟩ => ⟨S4x2x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel6.lean ====
abbrev S2048x1024 : Shape := ⟨2, ![2048, 1024]⟩
abbrev S1024x2816 : Shape := ⟨2, ![1024, 2816]⟩
abbrev S2816x1024 : Shape := ⟨2, ![2816, 1024]⟩
abbrev S4x1x704x1024 : Shape := ⟨4, ![4, 1, 704, 1024]⟩
abbrev S4x2x2048x704 : Shape := ⟨4, ![4, 2, 2048, 704]⟩
abbrev S4x2048x704 : Shape := ⟨3, ![4, 2048, 704]⟩
abbrev S1024x1024 : Shape := ⟨2, ![1024, 1024]⟩
abbrev S1x1x704x1024 : Shape := ⟨4, ![1, 1, 704, 1024]⟩
abbrev S1x2x1024x704 : Shape := ⟨4, ![1, 2, 1024, 704]⟩
abbrev S1x1024x704 : Shape := ⟨3, ![1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 12
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x1024, .bf16⟩
  | .hbm, ⟨4, _⟩ => ⟨S2816x1024, .f32⟩
  | .hbm, ⟨5, _⟩ => ⟨S2816x1024, .bf16⟩
  | .hbm, ⟨6, _⟩ => ⟨S4x1x704x1024, .bf16⟩
  | .hbm, ⟨7, _⟩ => ⟨S2816x1024, .f32⟩
  | .hbm, ⟨8, _⟩ => ⟨S2816x1024, .bf16⟩
  | .hbm, ⟨9, _⟩ => ⟨S4x1x704x1024, .bf16⟩
  | .hbm, ⟨10, _⟩ => ⟨S4x2x2048x704, .bf16⟩
  | .hbm, ⟨11, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x2x1024x704, .bf16⟩
  | .local _ .vmem, ⟨7, _⟩ => ⟨S1x2x1024x704, .bf16⟩
  | .local _ .vmem, ⟨8, _⟩ => ⟨S1x1024x704, .bf16⟩
  | .local _ .vmem, ⟨9, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2048x1024 : Shape := ⟨2, ![2048, 1024]⟩
abbrev S1024x2816 : Shape := ⟨2, ![1024, 2816]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x4x704, .f32⟩
  | .hbm, ⟨16, _⟩ => ⟨S4x2048x704, .f32⟩
  | .hbm, ⟨17, _⟩ => ⟨S4x2048x704, .bf16⟩
  | .hbm, ⟨18, _⟩ => ⟨S2048x4x704, .f32⟩
  | .hbm, ⟨19, _⟩ => ⟨S4x2048x704, .f32⟩
  | .hbm, ⟨20, _⟩ => ⟨S4x2048x704, .bf16⟩
  | .hbm, ⟨21, _⟩ => ⟨S4x1x2048x704, .bf16⟩
  | .hbm, ⟨22, _⟩ => ⟨S4x1x2048x704, .bf16⟩
  | .hbm, ⟨23, _⟩ => ⟨S4x2x2048x704, .bf16⟩
  | .hbm, ⟨24, _⟩ => ⟨S2048x4x704, .f32⟩
  | .hbm, ⟨25, _⟩ => ⟨S4x2048x704, .f32⟩
  | .hbm, ⟨26, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Kernel7.lean ====
abbrev S2048x2816 : Shape := ⟨2, ![2048, 2816]⟩
abbrev S2816x1024 : Shape := ⟨2, ![2816, 1024]⟩
abbrev S2048x4x704 : Shape := ⟨3, ![2048, 4, 704]⟩
abbrev S4x2048x704 : Shape := ⟨3, ![4, 2048, 704]⟩
abbrev S4x1x704x1024 : Shape := ⟨4, ![4, 1, 704, 1024]⟩
abbrev S2048x1024 : Shape := ⟨2, ![2048, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S2816x1024, .bf16⟩
  | .hbm, ⟨6, _⟩ => ⟨S4x1x704x1024, .bf16⟩
  | .hbm, ⟨7, _⟩ => ⟨S2048x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S2048x7168 : Shape := ⟨2, ![2048, 7168]⟩
abbrev S1024x7168 : Shape := ⟨2, ![1024, 7168]⟩
abbrev S2048x1024 : Shape := ⟨2, ![2048, 1024]⟩
abbrev S2048x1792 : Shape := ⟨2, ![2048, 1792]⟩
abbrev S512x1792 : Shape := ⟨2, ![512, 1792]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x7168, .f32⟩
  | .hbm, ⟨1, _⟩ => ⟨S1024x7168, .f32⟩
  | .hbm, ⟨2, _⟩ => ⟨S2048x7168, .bf16⟩
  | .hbm, ⟨3, _⟩ => ⟨S1024x7168, .bf16⟩
  | .hbm, ⟨4, _⟩ => ⟨S2048x1024, .f32⟩
  | .local _ .vmem, ⟨0, _⟩ => ⟨S2048x1792, .bf16⟩
  | .local _ .vmem, ⟨1, _⟩ => ⟨S2048x1792, .bf16⟩
  | .local _ .vmem, ⟨2, _⟩ => ⟨S512x1792, .bf16⟩
  | .local _ .vmem, ⟨3, _⟩ => ⟨S512x1792, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x7168 : Shape := ⟨2, ![2048, 7168]⟩
abbrev S1024x7168 : Shape := ⟨2, ![1024, 7168]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S1024x7168, .f32⟩
  | .hbm, ⟨2, _⟩ => ⟨S_, .f32⟩
  | .hbm, ⟨3, _⟩ => ⟨S2048x1024, .f32⟩
  | .hbm, ⟨4, _⟩ => ⟨S2048x7168, .f32⟩
  | .hbm, ⟨5, _⟩ => ⟨S2048x1024, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S2048x7168 : Shape := ⟨2, ![2048, 7168]⟩
abbrev S1024x7168 : Shape := ⟨2, ![1024, 7168]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x7168, .f32⟩
  | .hbm, ⟨2, _⟩ => ⟨S2048x1024, .bf16⟩
  | .hbm, ⟨3, _⟩ => ⟨S2048x7168, .bf16⟩
  | .hbm, ⟨4, _⟩ => ⟨S1024x7168, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 14, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S2048x7168 : Shape := ⟨2, ![2048, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x7168, .f32⟩
  | .hbm, ⟨2, _⟩ => ⟨S_, .f32⟩
  | .hbm, ⟨3, _⟩ => ⟨S1024x7168, .f32⟩
  | .hbm, ⟨4, _⟩ => ⟨S2048x7168, .f32⟩
  | .hbm, ⟨5, _⟩ => ⟨S7168x1024, .f32⟩
  | .hbm, ⟨6, _⟩ => ⟨S1024x7168, .f32⟩
  | .hbm, ⟨7, _⟩ => ⟨S1024x7168, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x1024 : Shape := ⟨2, ![2048, 1024]⟩
abbrev S1024x7168 : Shape := ⟨2, ![1024, 7168]⟩
abbrev S2048x7168 : Shape := ⟨2, ![2048, 7168]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x1024, .bf16⟩
  | .hbm, ⟨3, _⟩ => ⟨S1024x7168, .bf16⟩
  | .hbm, ⟨4, _⟩ => ⟨S2048x7168, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 14, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S1024x7168 : Shape := ⟨2, ![1024, 7168]⟩
abbrev S2048x7168 : Shape := ⟨2, ![2048, 7168]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x7168, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S2048x1024 : Shape := ⟨2, ![2048, 1024]⟩
abbrev S2048x2048 : Shape := ⟨2, ![2048, 2048]⟩
abbrev S512x1024 : Shape := ⟨2, ![512, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S2048x2048, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S2048x2048 : Shape := ⟨2, ![2048, 2048]⟩
abbrev S2048x1024 : Shape := ⟨2, ![2048, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S2048x2048 : Shape := ⟨2, ![2048, 2048]⟩
abbrev S2048x1024 : Shape := ⟨2, ![2048, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S2048x2048, .bf16⟩
  | .hbm, ⟨3, _⟩ => ⟨S1024x2048, .bf16⟩
  | .hbm, ⟨4, _⟩ => ⟨S2048x1024, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S2048x1024 : Shape := ⟨2, ![2048, 1024]⟩
abbrev S2048x2048 : Shape := ⟨2, ![2048, 2048]⟩
abbrev S8x1x1024x256 : Shape := ⟨4, ![8, 1, 1024, 256]⟩
abbrev S2048x256 : Shape := ⟨2, ![2048, 256]⟩
abbrev S1x1x1024x256 : Shape := ⟨4, ![1, 1, 1024, 256]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S8x1x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1x1024x256, .bf16⟩
  | .local _ .vmem, ⟨4, _⟩ => ⟨S1x1x1024x256, .bf16⟩
  | .local _ .vmem, ⟨5, _⟩ => ⟨S1024x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩
abbrev S8x1x1024x256 : Shape := ⟨4, ![8, 1, 1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1x1024x256, .f32⟩
  | .hbm, ⟨10, _⟩ => ⟨S8x1x1024x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S2048x1024 : Shape := ⟨2, ![2048, 1024]⟩
abbrev S1024x2048 : Shape := ⟨2, ![1024, 2048]⟩
abbrev S2048x2048 : Shape := ⟨2, ![2048, 2048]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .bf16⟩
  | .hbm, ⟨3, _⟩ => ⟨S1024x2048, .bf16⟩
  | .hbm, ⟨4, _⟩ => ⟨S2048x2048, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S2048x7168 : Shape := ⟨2, ![2048, 7168]⟩
abbrev S2048x1024 : Shape := ⟨2, ![2048, 1024]⟩
abbrev S2048x2048 : Shape := ⟨2, ![2048, 2048]⟩
abbrev S512x1024 : Shape := ⟨2, ![512, 1024]⟩
abbrev S512x2048 : Shape := ⟨2, ![512, 2048]⟩

abbrev nBuf : Space → Nat
  | .hbm => 7
  | .vmem => 16
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x2048, .bf16⟩
  | .hbm, ⟨5, _⟩ => ⟨S2048x1024, .bf16⟩
  | .hbm, ⟨6, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== Reference20Ideal.lean ====
abbrev S2048x7168 : Shape := ⟨2, ![2048, 7168]⟩
abbrev S2048x1024 : Shape := ⟨2, ![2048, 1024]⟩
abbrev S_ : Shape := ⟨0, ![]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x2048, .f32⟩
  | .hbm, ⟨42, _⟩ => ⟨S2048x2048, .bf16⟩
  | .hbm, ⟨43, _⟩ => ⟨S2048x1024, .bf16⟩
  | .hbm, ⟨44, _⟩ => ⟨S2048x1024, .bf16⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel21.lean ====
abbrev S2048x7168 : Shape := ⟨2, ![2048, 7168]⟩
abbrev S2048x1024 : Shape := ⟨2, ![2048, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference21Ideal.lean ====
abbrev S2048x7168 : Shape := ⟨2, ![2048, 7168]⟩
abbrev S2048x1024 : Shape := ⟨2, ![2048, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel22.lean ====
abbrev S2048x2048 : Shape := ⟨2, ![2048, 2048]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference22Ideal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x2048, .f32⟩
  | .hbm, ⟨21, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel23.lean ====
abbrev S2048x2048 : Shape := ⟨2, ![2048, 2048]⟩
abbrev S2048x1024 : Shape := ⟨2, ![2048, 1024]⟩
abbrev S512x1024 : Shape := ⟨2, ![512, 1024]⟩

abbrev nBuf : Space → Nat
  | .hbm => 2
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference23Ideal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel24.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Kernel24Ideal.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference24Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S2x3072 : Shape := ⟨2, ![2, 3072]⟩

abbrev nBuf : Space → Nat
  | .hbm => 8
  | .vmem => 8
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S2x3072, .f32⟩
  | .hbm, ⟨5, _⟩ => ⟨S2x3072, .f32⟩
  | .hbm, ⟨6, _⟩ => ⟨S2x3072, .f32⟩
  | .hbm, ⟨7, _⟩ => ⟨S2x3072, .f32⟩
  | .local _ .vmem, ⟨0, _⟩ => ⟨S2x3072, .f32⟩
  | .local _ .vmem, ⟨1, _⟩ => ⟨S2x3072, .f32⟩
  | .local _ .vmem, ⟨2, _⟩ => ⟨S2x3072, .f32⟩
  | .local _ .vmem, ⟨3, _⟩ => ⟨S2x3072, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | .local _ .vmem, ⟨7, _⟩ => ⟨S2x3072, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Kernel25Ideal.lean ====
abbrev S2x3072 : Shape := ⟨2, ![2, 3072]⟩

abbrev nBuf : Space → Nat
  | .hbm => 8
  | .vmem => 8
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S2x3072, .f32⟩
  | .hbm, ⟨5, _⟩ => ⟨S2x3072, .f32⟩
  | .hbm, ⟨6, _⟩ => ⟨S2x3072, .f32⟩
  | .hbm, ⟨7, _⟩ => ⟨S2x3072, .f32⟩
  | .local _ .vmem, ⟨0, _⟩ => ⟨S2x3072, .f32⟩
  | .local _ .vmem, ⟨1, _⟩ => ⟨S2x3072, .f32⟩
  | .local _ .vmem, ⟨2, _⟩ => ⟨S2x3072, .f32⟩
  | .local _ .vmem, ⟨3, _⟩ => ⟨S2x3072, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | .local _ .vmem, ⟨7, _⟩ => ⟨S2x3072, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference25Ideal.lean ====
abbrev S2x3072 : Shape := ⟨2, ![2, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S_, .f32⟩
  | .hbm, ⟨5, _⟩ => ⟨S2x3072, .f32⟩
  | .hbm, ⟨6, _⟩ => ⟨S2x3072, .f32⟩
  | .hbm, ⟨7, _⟩ => ⟨S_, .f32⟩
  | .hbm, ⟨8, _⟩ => ⟨S2x3072, .f32⟩
  | .hbm, ⟨9, _⟩ => ⟨S2x3072, .f32⟩
  | .hbm, ⟨10, _⟩ => ⟨S2x3072, .f32⟩
  | .hbm, ⟨11, _⟩ => ⟨S_, .f32⟩
  | .hbm, ⟨12, _⟩ => ⟨S2x3072, .f32⟩
  | .hbm, ⟨13, _⟩ => ⟨S2x3072, .f32⟩
  | .hbm, ⟨14, _⟩ => ⟨S2x3072, .f32⟩
  | .hbm, ⟨15, _⟩ => ⟨S_, .f32⟩
  | .hbm, ⟨16, _⟩ => ⟨S2x3072, .f32⟩
  | .hbm, ⟨17, _⟩ => ⟨S2x3072, .f32⟩
  | .hbm, ⟨18, _⟩ => ⟨S2x3072, .f32⟩
  | .hbm, ⟨19, _⟩ => ⟨S_, .f32⟩
  | .hbm, ⟨20, _⟩ => ⟨S2x3072, .f32⟩
  | .hbm, ⟨21, _⟩ => ⟨S2x3072, .f32⟩
  | .hbm, ⟨22, _⟩ => ⟨S_, .f32⟩
  | .hbm, ⟨23, _⟩ => ⟨S2x3072, .f32⟩
  | .hbm, ⟨24, _⟩ => ⟨S2x3072, .f32⟩
  | .hbm, ⟨25, _⟩ => ⟨S2x3072, .f32⟩
  | .hbm, ⟨26, _⟩ => ⟨S_, .f32⟩
  | .hbm, ⟨27, _⟩ => ⟨S2x3072, .f32⟩
  | .hbm, ⟨28, _⟩ => ⟨S2x3072, .f32⟩
  | .hbm, ⟨29, _⟩ => ⟨S2x3072, .f32⟩
  | .hbm, ⟨30, _⟩ => ⟨S_, .f32⟩
  | .hbm, ⟨31, _⟩ => ⟨S2x3072, .f32⟩
  | .hbm, ⟨32, _⟩ => ⟨S2x3072, .f32⟩
  | .hbm, ⟨33, _⟩ => ⟨S2x3072, .f32⟩
  | .hbm, ⟨34, _⟩ => ⟨S_, .f32⟩
  | .hbm, ⟨35, _⟩ => ⟨S2x3072, .f32⟩
  | .hbm, ⟨36, _⟩ => ⟨S2x3072, .f32⟩
  | _, _ => ⟨S2x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x2048 : Shape := ⟨2, ![2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | .local _ .vmem, ⟨7, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Kernel26Ideal.lean ====
abbrev S2x2048 : Shape := ⟨2, ![2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | .local _ .vmem, ⟨7, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference26Ideal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2x32 : Shape := ⟨2, ![2, 32]⟩

abbrev nBuf : Space → Nat
  | .hbm => 8
  | .vmem => 8
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .hbm, ⟨7, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | .local _ .vmem, ⟨7, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Kernel27Ideal.lean ====
abbrev S2x32 : Shape := ⟨2, ![2, 32]⟩

abbrev nBuf : Space → Nat
  | .hbm => 8
  | .vmem => 8
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .hbm, ⟨7, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | .local _ .vmem, ⟨7, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference27Ideal.lean ====
abbrev S2x32 : Shape := ⟨2, ![2, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S_, .f32⟩
  | .hbm, ⟨5, _⟩ => ⟨S2x32, .f32⟩
  | .hbm, ⟨6, _⟩ => ⟨S2x32, .f32⟩
  | .hbm, ⟨7, _⟩ => ⟨S_, .f32⟩
  | .hbm, ⟨8, _⟩ => ⟨S2x32, .f32⟩
  | .hbm, ⟨9, _⟩ => ⟨S2x32, .f32⟩
  | .hbm, ⟨10, _⟩ => ⟨S2x32, .f32⟩
  | .hbm, ⟨11, _⟩ => ⟨S_, .f32⟩
  | .hbm, ⟨12, _⟩ => ⟨S2x32, .f32⟩
  | .hbm, ⟨13, _⟩ => ⟨S2x32, .f32⟩
  | .hbm, ⟨14, _⟩ => ⟨S2x32, .f32⟩
  | .hbm, ⟨15, _⟩ => ⟨S_, .f32⟩
  | .hbm, ⟨16, _⟩ => ⟨S2x32, .f32⟩
  | .hbm, ⟨17, _⟩ => ⟨S2x32, .f32⟩
  | .hbm, ⟨18, _⟩ => ⟨S2x32, .f32⟩
  | .hbm, ⟨19, _⟩ => ⟨S_, .f32⟩
  | .hbm, ⟨20, _⟩ => ⟨S2x32, .f32⟩
  | .hbm, ⟨21, _⟩ => ⟨S2x32, .f32⟩
  | .hbm, ⟨22, _⟩ => ⟨S_, .f32⟩
  | .hbm, ⟨23, _⟩ => ⟨S2x32, .f32⟩
  | .hbm, ⟨24, _⟩ => ⟨S2x32, .f32⟩
  | .hbm, ⟨25, _⟩ => ⟨S2x32, .f32⟩
  | .hbm, ⟨26, _⟩ => ⟨S_, .f32⟩
  | .hbm, ⟨27, _⟩ => ⟨S2x32, .f32⟩
  | .hbm, ⟨28, _⟩ => ⟨S2x32, .f32⟩
  | .hbm, ⟨29, _⟩ => ⟨S2x32, .f32⟩
  | .hbm, ⟨30, _⟩ => ⟨S_, .f32⟩
  | .hbm, ⟨31, _⟩ => ⟨S2x32, .f32⟩
  | .hbm, ⟨32, _⟩ => ⟨S2x32, .f32⟩
  | .hbm, ⟨33, _⟩ => ⟨S2x32, .f32⟩
  | .hbm, ⟨34, _⟩ => ⟨S_, .f32⟩
  | .hbm, ⟨35, _⟩ => ⟨S2x32, .f32⟩
  | .hbm, ⟨36, _⟩ => ⟨S2x32, .f32⟩
  | _, _ => ⟨S2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2x64 : Shape := ⟨2, ![2, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | .local _ .vmem, ⟨7, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Kernel28Ideal.lean ====
abbrev S2x64 : Shape := ⟨2, ![2, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | .local _ .vmem, ⟨7, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference28Ideal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x4x384 : Shape := ⟨3, ![2, 4, 384]⟩
abbrev S8x384 : Shape := ⟨2, ![8, 384]⟩

abbrev nBuf : Space → Nat
  | .hbm => 12
  | .vmem => 8
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .hbm, ⟨8, _⟩ => ⟨S8x384, .f32⟩
  | .hbm, ⟨9, _⟩ => ⟨S8x384, .f32⟩
  | .hbm, ⟨10, _⟩ => ⟨S8x384, .f32⟩
  | .hbm, ⟨11, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Kernel29Ideal.lean ====
abbrev S2x4x384 : Shape := ⟨3, ![2, 4, 384]⟩
abbrev S8x384 : Shape := ⟨2, ![8, 384]⟩

abbrev nBuf : Space → Nat
  | .hbm => 12
  | .vmem => 8
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .hbm, ⟨8, _⟩ => ⟨S8x384, .f32⟩
  | .hbm, ⟨9, _⟩ => ⟨S8x384, .f32⟩
  | .hbm, ⟨10, _⟩ => ⟨S8x384, .f32⟩
  | .hbm, ⟨11, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference29Ideal.lean ====
abbrev S2x4x384 : Shape := ⟨3, ![2, 4, 384]⟩
abbrev S_ : Shape := ⟨0, ![]⟩
abbrev S8x384 : Shape := ⟨2, ![8, 384]⟩

abbrev nBuf : Space → Nat
  | .hbm => 41
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S_, .f32⟩
  | .hbm, ⟨5, _⟩ => ⟨S2x4x384, .f32⟩
  | .hbm, ⟨6, _⟩ => ⟨S2x4x384, .f32⟩
  | .hbm, ⟨7, _⟩ => ⟨S_, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S_, .f32⟩
  | .hbm, ⟨12, _⟩ => ⟨S2x4x384, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S_, .f32⟩
  | .hbm, ⟨23, _⟩ => ⟨S2x4x384, .f32⟩
  | .hbm, ⟨24, _⟩ => ⟨S2x4x384, .f32⟩
  | .hbm, ⟨25, _⟩ => ⟨S2x4x384, .f32⟩
  | .hbm, ⟨26, _⟩ => ⟨S_, .f32⟩
  | .hbm, ⟨27, _⟩ => ⟨S2x4x384, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | .hbm, ⟨37, _⟩ => ⟨S8x384, .f32⟩
  | .hbm, ⟨38, _⟩ => ⟨S8x384, .f32⟩
  | .hbm, ⟨39, _⟩ => ⟨S8x384, .f32⟩
  | .hbm, ⟨40, _⟩ => ⟨S8x384, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel30.lean ====
abbrev S2x64x64 : Shape := ⟨3, ![2, 64, 64]⟩
abbrev S8x1024 : Shape := ⟨2, ![8, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64x64, .f32⟩
  | .hbm, ⟨3, _⟩ => ⟨S2x64x64, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Kernel30Ideal.lean ====
abbrev S2x64x64 : Shape := ⟨3, ![2, 64, 64]⟩
abbrev S8x1024 : Shape := ⟨2, ![8, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64x64, .f32⟩
  | .hbm, ⟨3, _⟩ => ⟨S2x64x64, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference30Ideal.lean ====
abbrev S2x64x64 : Shape := ⟨3, ![2, 64, 64]⟩
abbrev S_ : Shape := ⟨0, ![]⟩
abbrev S8x1024 : Shape := ⟨2, ![8, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64x64, .f32⟩
  | .hbm, ⟨3, _⟩ => ⟨S2x64x64, .f32⟩
  | .hbm, ⟨4, _⟩ => ⟨S_, .f32⟩
  | .hbm, ⟨5, _⟩ => ⟨S2x64x64, .f32⟩
  | .hbm, ⟨6, _⟩ => ⟨S2x64x64, .f32⟩
  | .hbm, ⟨7, _⟩ => ⟨S_, .f32⟩
  | .hbm, ⟨8, _⟩ => ⟨S2x64x64, .f32⟩
  | .hbm, ⟨9, _⟩ => ⟨S2x64x64, .f32⟩
  | .hbm, ⟨10, _⟩ => ⟨S2x64x64, .f32⟩
  | .hbm, ⟨11, _⟩ => ⟨S_, .f32⟩
  | .hbm, ⟨12, _⟩ => ⟨S2x64x64, .f32⟩
  | .hbm, ⟨13, _⟩ => ⟨S2x64x64, .f32⟩
  | .hbm, ⟨14, _⟩ => ⟨S2x64x64, .f32⟩
  | .hbm, ⟨15, _⟩ => ⟨S_, .f32⟩
  | .hbm, ⟨16, _⟩ => ⟨S2x64x64, .f32⟩
  | .hbm, ⟨17, _⟩ => ⟨S2x64x64, .f32⟩
  | .hbm, ⟨18, _⟩ => ⟨S2x64x64, .f32⟩
  | .hbm, ⟨19, _⟩ => ⟨S_, .f32⟩
  | .hbm, ⟨20, _⟩ => ⟨S2x64x64, .f32⟩
  | .hbm, ⟨21, _⟩ => ⟨S2x64x64, .f32⟩
  | .hbm, ⟨22, _⟩ => ⟨S_, .f32⟩
  | .hbm, ⟨23, _⟩ => ⟨S2x64x64, .f32⟩
  | .hbm, ⟨24, _⟩ => ⟨S2x64x64, .f32⟩
  | .hbm, ⟨25, _⟩ => ⟨S2x64x64, .f32⟩
  | .hbm, ⟨26, _⟩ => ⟨S_, .f32⟩
  | .hbm, ⟨27, _⟩ => ⟨S2x64x64, .f32⟩
  | .hbm, ⟨28, _⟩ => ⟨S2x64x64, .f32⟩
  | .hbm, ⟨29, _⟩ => ⟨S2x64x64, .f32⟩
  | .hbm, ⟨30, _⟩ => ⟨S_, .f32⟩
  | .hbm, ⟨31, _⟩ => ⟨S2x64x64, .f32⟩
  | .hbm, ⟨32, _⟩ => ⟨S2x64x64, .f32⟩
  | .hbm, ⟨33, _⟩ => ⟨S2x64x64, .f32⟩
  | .hbm, ⟨34, _⟩ => ⟨S_, .f32⟩
  | .hbm, ⟨35, _⟩ => ⟨S2x64x64, .f32⟩
  | .hbm, ⟨36, _⟩ => ⟨S2x64x64, .f32⟩
  | .hbm, ⟨37, _⟩ => ⟨S8x1024, .f32⟩
  | .hbm, ⟨38, _⟩ => ⟨S8x1024, .f32⟩
  | .hbm, ⟨39, _⟩ => ⟨S8x1024, .f32⟩
  | .hbm, ⟨40, _⟩ => ⟨S8x1024, .f32⟩
  | _, _ => ⟨S2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel31.lean ====
abbrev S2x64x64x16 : Shape := ⟨4, ![2, 64, 64, 16]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x64x64x16, .f32⟩
  | .hbm, ⟨1, _⟩ => ⟨S2x64x64x16, .f32⟩
  | .hbm, ⟨2, _⟩ => ⟨S2x64x64x16, .f32⟩
  | .hbm, ⟨3, _⟩ => ⟨S2x64x64x16, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S2x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Kernel31Ideal.lean ====
abbrev S2x64x64x16 : Shape := ⟨4, ![2, 64, 64, 16]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x64x64x16, .f32⟩
  | .hbm, ⟨1, _⟩ => ⟨S2x64x64x16, .f32⟩
  | .hbm, ⟨2, _⟩ => ⟨S2x64x64x16, .f32⟩
  | .hbm, ⟨3, _⟩ => ⟨S2x64x64x16, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S2x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference31Ideal.lean ====
abbrev S2x64x64x16 : Shape := ⟨4, ![2, 64, 64, 16]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x64x64x16, .f32⟩
  | .hbm, ⟨1, _⟩ => ⟨S2x64x64x16, .f32⟩
  | .hbm, ⟨2, _⟩ => ⟨S2x64x64x16, .f32⟩
  | .hbm, ⟨3, _⟩ => ⟨S2x64x64x16, .f32⟩
  | .hbm, ⟨4, _⟩ => ⟨S_, .f32⟩
  | .hbm, ⟨5, _⟩ => ⟨S2x64x64x16, .f32⟩
  | .hbm, ⟨6, _⟩ => ⟨S2x64x64x16, .f32⟩
  | .hbm, ⟨7, _⟩ => ⟨S_, .f32⟩
  | .hbm, ⟨8, _⟩ => ⟨S2x64x64x16, .f32⟩
  | .hbm, ⟨9, _⟩ => ⟨S2x64x64x16, .f32⟩
  | .hbm, ⟨10, _⟩ => ⟨S2x64x64x16, .f32⟩
  | .hbm, ⟨11, _⟩ => ⟨S_, .f32⟩
  | .hbm, ⟨12, _⟩ => ⟨S2x64x64x16, .f32⟩
  | .hbm, ⟨13, _⟩ => ⟨S2x64x64x16, .f32⟩
  | .hbm, ⟨14, _⟩ => ⟨S2x64x64x16, .f32⟩
  | .hbm, ⟨15, _⟩ => ⟨S_, .f32⟩
  | .hbm, ⟨16, _⟩ => ⟨S2x64x64x16, .f32⟩
  | .hbm, ⟨17, _⟩ => ⟨S2x64x64x16, .f32⟩
  | .hbm, ⟨18, _⟩ => ⟨S2x64x64x16, .f32⟩
  | .hbm, ⟨19, _⟩ => ⟨S_, .f32⟩
  | .hbm, ⟨20, _⟩ => ⟨S2x64x64x16, .f32⟩
  | .hbm, ⟨21, _⟩ => ⟨S2x64x64x16, .f32⟩
  | .hbm, ⟨22, _⟩ => ⟨S_, .f32⟩
  | .hbm, ⟨23, _⟩ => ⟨S2x64x64x16, .f32⟩
  | .hbm, ⟨24, _⟩ => ⟨S2x64x64x16, .f32⟩
  | .hbm, ⟨25, _⟩ => ⟨S2x64x64x16, .f32⟩
  | .hbm, ⟨26, _⟩ => ⟨S_, .f32⟩
  | .hbm, ⟨27, _⟩ => ⟨S2x64x64x16, .f32⟩
  | .hbm, ⟨28, _⟩ => ⟨S2x64x64x16, .f32⟩
  | .hbm, ⟨29, _⟩ => ⟨S2x64x64x16, .f32⟩
  | .hbm, ⟨30, _⟩ => ⟨S_, .f32⟩
  | .hbm, ⟨31, _⟩ => ⟨S2x64x64x16, .f32⟩
  | .hbm, ⟨32, _⟩ => ⟨S2x64x64x16, .f32⟩
  | .hbm, ⟨33, _⟩ => ⟨S2x64x64x16, .f32⟩
  | .hbm, ⟨34, _⟩ => ⟨S_, .f32⟩
  | .hbm, ⟨35, _⟩ => ⟨S2x64x64x16, .f32⟩
  | .hbm, ⟨36, _⟩ => ⟨S2x64x64x16, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S128x1024, .f32⟩
  | _, _ => ⟨S2x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel32.lean ====
abbrev S2x64x16x64 : Shape := ⟨4, ![2, 64, 16, 64]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x64x16x64, .f32⟩
  | .hbm, ⟨1, _⟩ => ⟨S2x64x16x64, .f32⟩
  | .hbm, ⟨2, _⟩ => ⟨S2x64x16x64, .f32⟩
  | .hbm, ⟨3, _⟩ => ⟨S2x64x16x64, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S2x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference32Ideal.lean ====
abbrev S2x64x16x64 : Shape := ⟨4, ![2, 64, 16, 64]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x64x16x64, .f32⟩
  | .hbm, ⟨1, _⟩ => ⟨S2x64x16x64, .f32⟩
  | .hbm, ⟨2, _⟩ => ⟨S2x64x16x64, .f32⟩
  | .hbm, ⟨3, _⟩ => ⟨S2x64x16x64, .f32⟩
  | .hbm, ⟨4, _⟩ => ⟨S_, .f32⟩
  | .hbm, ⟨5, _⟩ => ⟨S2x64x16x64, .f32⟩
  | .hbm, ⟨6, _⟩ => ⟨S2x64x16x64, .f32⟩
  | .hbm, ⟨7, _⟩ => ⟨S_, .f32⟩
  | .hbm, ⟨8, _⟩ => ⟨S2x64x16x64, .f32⟩
  | .hbm, ⟨9, _⟩ => ⟨S2x64x16x64, .f32⟩
  | .hbm, ⟨10, _⟩ => ⟨S2x64x16x64, .f32⟩
  | .hbm, ⟨11, _⟩ => ⟨S_, .f32⟩
  | .hbm, ⟨12, _⟩ => ⟨S2x64x16x64, .f32⟩
  | .hbm, ⟨13, _⟩ => ⟨S2x64x16x64, .f32⟩
  | .hbm, ⟨14, _⟩ => ⟨S2x64x16x64, .f32⟩
  | .hbm, ⟨15, _⟩ => ⟨S_, .f32⟩
  | .hbm, ⟨16, _⟩ => ⟨S2x64x16x64, .f32⟩
  | .hbm, ⟨17, _⟩ => ⟨S2x64x16x64, .f32⟩
  | .hbm, ⟨18, _⟩ => ⟨S2x64x16x64, .f32⟩
  | .hbm, ⟨19, _⟩ => ⟨S_, .f32⟩
  | .hbm, ⟨20, _⟩ => ⟨S2x64x16x64, .f32⟩
  | .hbm, ⟨21, _⟩ => ⟨S2x64x16x64, .f32⟩
  | .hbm, ⟨22, _⟩ => ⟨S_, .f32⟩
  | .hbm, ⟨23, _⟩ => ⟨S2x64x16x64, .f32⟩
  | .hbm, ⟨24, _⟩ => ⟨S2x64x16x64, .f32⟩
  | .hbm, ⟨25, _⟩ => ⟨S2x64x16x64, .f32⟩
  | .hbm, ⟨26, _⟩ => ⟨S_, .f32⟩
  | .hbm, ⟨27, _⟩ => ⟨S2x64x16x64, .f32⟩
  | .hbm, ⟨28, _⟩ => ⟨S2x64x16x64, .f32⟩
  | .hbm, ⟨29, _⟩ => ⟨S2x64x16x64, .f32⟩
  | .hbm, ⟨30, _⟩ => ⟨S_, .f32⟩
  | .hbm, ⟨31, _⟩ => ⟨S2x64x16x64, .f32⟩
  | .hbm, ⟨32, _⟩ => ⟨S2x64x16x64, .f32⟩
  | .hbm, ⟨33, _⟩ => ⟨S2x64x16x64, .f32⟩
  | .hbm, ⟨34, _⟩ => ⟨S_, .f32⟩
  | .hbm, ⟨35, _⟩ => ⟨S2x64x16x64, .f32⟩
  | .hbm, ⟨36, _⟩ => ⟨S2x64x16x64, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S128x1024, .f32⟩
  | _, _ => ⟨S2x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel33.lean ====
abbrev S2x352x1024 : Shape := ⟨3, ![2, 352, 1024]⟩
abbrev S4x1x352x1024 : Shape := ⟨4, ![4, 1, 352, 1024]⟩
abbrev S1x176x1024 : Shape := ⟨3, ![1, 176, 1024]⟩
abbrev S4x1x176x1024 : Shape := ⟨4, ![4, 1, 176, 1024]⟩
abbrev S1x1x176x1024 : Shape := ⟨4, ![1, 1, 176, 1024]⟩
abbrev S176x1024 : Shape := ⟨2, ![176, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2x352x1024, .f32⟩
  | .hbm, ⟨1, _⟩ => ⟨S4x1x352x1024, .f32⟩
  | .hbm, ⟨2, _⟩ => ⟨S4x1x352x1024, .f32⟩
  | .hbm, ⟨3, _⟩ => ⟨S2x352x1024, .f32⟩
  | .hbm, ⟨4, _⟩ => ⟨S2x352x1024, .f32⟩
  | .hbm, ⟨5, _⟩ => ⟨S4x1x352x1024, .bf16⟩
  | .hbm, ⟨6, _⟩ => ⟨S4x1x352x1024, .bf16⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S1x176x1024, .f32⟩
  | .local _ .vmem, ⟨1, _⟩ => ⟨S1x176x1024, .f32⟩
  | .local _ .vmem, ⟨2, _⟩ => ⟨S4x1x176x1024, .bf16⟩
  | .local _ .vmem, ⟨3, _⟩ => ⟨S4x1x176x1024, .bf16⟩
  | .local _ .vmem, ⟨4, _⟩ => ⟨S4x1x176x1024, .bf16⟩
  | .local _ .vmem, ⟨5, _⟩ => ⟨S4x1x176x1024, .bf16⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel33Ideal.lean ====
abbrev S2x352x1024 : Shape := ⟨3, ![2, 352, 1024]⟩
abbrev S4x1x352x1024 : Shape := ⟨4, ![4, 1, 352, 1024]⟩
abbrev S1x176x1024 : Shape := ⟨3, ![1, 176, 1024]⟩
abbrev S4x1x176x1024 : Shape := ⟨4, ![4, 1, 176, 1024]⟩
abbrev S1x1x176x1024 : Shape := ⟨4, ![1, 1, 176, 1024]⟩
abbrev S176x1024 : Shape := ⟨2, ![176, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2x352x1024, .f32⟩
  | .hbm, ⟨1, _⟩ => ⟨S4x1x352x1024, .f32⟩
  | .hbm, ⟨2, _⟩ => ⟨S4x1x352x1024, .f32⟩
  | .hbm, ⟨3, _⟩ => ⟨S2x352x1024, .f32⟩
  | .hbm, ⟨4, _⟩ => ⟨S2x352x1024, .f32⟩
  | .hbm, ⟨5, _⟩ => ⟨S4x1x352x1024, .bf16⟩
  | .hbm, ⟨6, _⟩ => ⟨S4x1x352x1024, .bf16⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S1x176x1024, .f32⟩
  | .local _ .vmem, ⟨1, _⟩ => ⟨S1x176x1024, .f32⟩
  | .local _ .vmem, ⟨2, _⟩ => ⟨S4x1x176x1024, .bf16⟩
  | .local _ .vmem, ⟨3, _⟩ => ⟨S4x1x176x1024, .bf16⟩
  | .local _ .vmem, ⟨4, _⟩ => ⟨S4x1x176x1024, .bf16⟩
  | .local _ .vmem, ⟨5, _⟩ => ⟨S4x1x176x1024, .bf16⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference33Ideal.lean ====
abbrev S2x352x1024 : Shape := ⟨3, ![2, 352, 1024]⟩
abbrev S4x1x352x1024 : Shape := ⟨4, ![4, 1, 352, 1024]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S4x1x352x1024, .f32⟩
  | .hbm, ⟨2, _⟩ => ⟨S4x1x352x1024, .f32⟩
  | .hbm, ⟨3, _⟩ => ⟨S2x352x1024, .f32⟩
  | .hbm, ⟨4, _⟩ => ⟨S2x352x1024, .f32⟩
  | .hbm, ⟨5, _⟩ => ⟨S4x352x1024, .f32⟩
  | .hbm, ⟨6, _⟩ => ⟨S_, .f32⟩
  | .hbm, ⟨7, _⟩ => ⟨S352x1024, .f32⟩
  | .hbm, ⟨8, _⟩ => ⟨S4x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel34.lean ====
abbrev S2x1024x1028 : Shape := ⟨3, ![2, 1024, 1028]⟩
abbrev S4x1x1024x1028 : Shape := ⟨4, ![4, 1, 1024, 1028]⟩
abbrev S1x256x1028 : Shape := ⟨3, ![1, 256, 1028]⟩
abbrev S4x1x256x1028 : Shape := ⟨4, ![4, 1, 256, 1028]⟩
abbrev S1x1x256x1028 : Shape := ⟨4, ![1, 1, 256, 1028]⟩
abbrev S256x1028 : Shape := ⟨2, ![256, 1028]⟩

abbrev nBuf : Space → Nat
  | .hbm => 11
  | .vmem => 18
  | .smem => 0
  | _ => 0

abbrev bufTy : (tb : Table) → Fin (tcTables nBuf tb) → BufTy
  | .hbm, ⟨0, _⟩ => ⟨S2x1024x1028, .f32⟩
  | .hbm, ⟨1, _⟩ => ⟨S4x1x1024x1028, .f32⟩
  | .hbm, ⟨2, _⟩ => ⟨S4x1x1024x1028, .f32⟩
  | .hbm, ⟨3, _⟩ => ⟨S2x1024x1028, .f32⟩
  | .hbm, ⟨4, _⟩ => ⟨S2x1024x1028, .f32⟩
  | .hbm, ⟨5, _⟩ => ⟨S4x1x1024x1028, .bf16⟩
  | .hbm, ⟨6, _⟩ => ⟨S4x1x1024x1028, .bf16⟩
  | .hbm, ⟨7, _⟩ => ⟨S2x1024x1028, .f32⟩
  | .hbm, ⟨8, _⟩ => ⟨S2x1024x1028, .f32⟩
  | .hbm, ⟨9, _⟩ => ⟨S2x1024x1028, .f32⟩
  | .hbm, ⟨10, _⟩ => ⟨S2x1024x1028, .f32⟩
  | .local _ .vmem, ⟨0, _⟩ => ⟨S1x256x1028, .f32⟩
  | .local _ .vmem, ⟨1, _⟩ => ⟨S1x256x1028, .f32⟩
  | .local _ .vmem, ⟨2, _⟩ => ⟨S4x1x256x1028, .bf16⟩
  | .local _ .vmem, ⟨3, _⟩ => ⟨S4x1x256x1028, .bf16⟩
  | .local _ .vmem, ⟨4, _⟩ => ⟨S4x1x256x1028, .bf16⟩
  | .local _ .vmem, ⟨5, _⟩ => ⟨S4x1x256x1028, .bf16⟩
  | .local _ .vmem, ⟨6, _⟩ => ⟨S1x256x1028, .f32⟩
  | .local _ .vmem, ⟨7, _⟩ => ⟨S1x256x1028, .f32⟩
  | .local _ .vmem, ⟨8, _⟩ => ⟨S1x256x1028, .f32⟩
  | .local _ .vmem, ⟨9, _⟩ => ⟨S1x256x1028, .f32⟩
  | .local _ .vmem, ⟨10, _⟩ => ⟨S1x256x1028, .f32⟩
  | .local _ .vmem, ⟨11, _⟩ => ⟨S1x256x1028, .f32⟩
  | .local _ .vmem, ⟨12, _⟩ => ⟨S1x256x1028, .f32⟩
  | .local _ .vmem, ⟨13, _⟩ => ⟨S1x256x1028, .f32⟩
  | .local _ .vmem, ⟨14, _⟩ => ⟨S1x256x1028, .f32⟩
  | .local _ .vmem, ⟨15, _⟩ => ⟨S1x256x1028, .f32⟩
  | .local _ .vmem, ⟨16, _⟩ => ⟨S1x256x1028, .f32⟩
  | .local _ .vmem, ⟨17, _⟩ => ⟨S1x256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x256x1028 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x1028 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1028 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel34Ideal.lean ====
abbrev S2x1024x1028 : Shape := ⟨3, ![2, 1024, 1028]⟩
abbrev S4x1x1024x1028 : Shape := ⟨4, ![4, 1, 1024, 1028]⟩
abbrev S1x256x1028 : Shape := ⟨3, ![1, 256, 1028]⟩
abbrev S4x1x256x1028 : Shape := ⟨4, ![4, 1, 256, 1028]⟩
abbrev S1x1x256x1028 : Shape := ⟨4, ![1, 1, 256, 1028]⟩
abbrev S256x1028 : Shape := ⟨2, ![256, 1028]⟩

abbrev nBuf : Space → Nat
  | .hbm => 11
  | .vmem => 18
  | .smem => 0
  | _ => 0

abbrev bufTy : (tb : Table) → Fin (tcTables nBuf tb) → BufTy
  | .hbm, ⟨0, _⟩ => ⟨S2x1024x1028, .f32⟩
  | .hbm, ⟨1, _⟩ => ⟨S4x1x1024x1028, .f32⟩
  | .hbm, ⟨2, _⟩ => ⟨S4x1x1024x1028, .f32⟩
  | .hbm, ⟨3, _⟩ => ⟨S2x1024x1028, .f32⟩
  | .hbm, ⟨4, _⟩ => ⟨S2x1024x1028, .f32⟩
  | .hbm, ⟨5, _⟩ => ⟨S4x1x1024x1028, .bf16⟩
  | .hbm, ⟨6, _⟩ => ⟨S4x1x1024x1028, .bf16⟩
  | .hbm, ⟨7, _⟩ => ⟨S2x1024x1028, .f32⟩
  | .hbm, ⟨8, _⟩ => ⟨S2x1024x1028, .f32⟩
  | .hbm, ⟨9, _⟩ => ⟨S2x1024x1028, .f32⟩
  | .hbm, ⟨10, _⟩ => ⟨S2x1024x1028, .f32⟩
  | .local _ .vmem, ⟨0, _⟩ => ⟨S1x256x1028, .f32⟩
  | .local _ .vmem, ⟨1, _⟩ => ⟨S1x256x1028, .f32⟩
  | .local _ .vmem, ⟨2, _⟩ => ⟨S4x1x256x1028, .bf16⟩
  | .local _ .vmem, ⟨3, _⟩ => ⟨S4x1x256x1028, .bf16⟩
  | .local _ .vmem, ⟨4, _⟩ => ⟨S4x1x256x1028, .bf16⟩
  | .local _ .vmem, ⟨5, _⟩ => ⟨S4x1x256x1028, .bf16⟩
  | .local _ .vmem, ⟨6, _⟩ => ⟨S1x256x1028, .f32⟩
  | .local _ .vmem, ⟨7, _⟩ => ⟨S1x256x1028, .f32⟩
  | .local _ .vmem, ⟨8, _⟩ => ⟨S1x256x1028, .f32⟩
  | .local _ .vmem, ⟨9, _⟩ => ⟨S1x256x1028, .f32⟩
  | .local _ .vmem, ⟨10, _⟩ => ⟨S1x256x1028, .f32⟩
  | .local _ .vmem, ⟨11, _⟩ => ⟨S1x256x1028, .f32⟩
  | .local _ .vmem, ⟨12, _⟩ => ⟨S1x256x1028, .f32⟩
  | .local _ .vmem, ⟨13, _⟩ => ⟨S1x256x1028, .f32⟩
  | .local _ .vmem, ⟨14, _⟩ => ⟨S1x256x1028, .f32⟩
  | .local _ .vmem, ⟨15, _⟩ => ⟨S1x256x1028, .f32⟩
  | .local _ .vmem, ⟨16, _⟩ => ⟨S1x256x1028, .f32⟩
  | .local _ .vmem, ⟨17, _⟩ => ⟨S1x256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x256x1028 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x1028 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1028 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference34Ideal.lean ====
abbrev S2x1024x1028 : Shape := ⟨3, ![2, 1024, 1028]⟩
abbrev S4x1x1024x1028 : Shape := ⟨4, ![4, 1, 1024, 1028]⟩
abbrev S4x1024x1028 : Shape := ⟨3, ![4, 1024, 1028]⟩
abbrev S_ : Shape := ⟨0, ![]⟩
abbrev S1024x1028 : Shape := ⟨2, ![1024, 1028]⟩
abbrev S1x1024x1028 : Shape := ⟨3, ![1, 1024, 1028]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x1028, .f32⟩
  | .hbm, ⟨1, _⟩ => ⟨S4x1x1024x1028, .f32⟩
  | .hbm, ⟨2, _⟩ => ⟨S4x1x1024x1028, .f32⟩
  | .hbm, ⟨3, _⟩ => ⟨S2x1024x1028, .f32⟩
  | .hbm, ⟨4, _⟩ => ⟨S2x1024x1028, .f32⟩
  | .hbm, ⟨5, _⟩ => ⟨S4x1024x1028, .f32⟩
  | .hbm, ⟨6, _⟩ => ⟨S_, .f32⟩
  | .hbm, ⟨7, _⟩ => ⟨S1024x1028, .f32⟩
  | .hbm, ⟨8, _⟩ => ⟨S4x1024x1028, .f32⟩
  | .hbm, ⟨9, _⟩ => ⟨S_, .f32⟩
  | .hbm, ⟨10, _⟩ => ⟨S1024x1028, .f32⟩
  | .hbm, ⟨11, _⟩ => ⟨S1x1024x1028, .f32⟩
  | .hbm, ⟨12, _⟩ => ⟨S1x1024x1028, .f32⟩
  | .hbm, ⟨13, _⟩ => ⟨S2x1024x1028, .f32⟩
  | .hbm, ⟨14, _⟩ => ⟨S_, .f32⟩
  | .hbm, ⟨15, _⟩ => ⟨S2x1024x1028, .f32⟩
  | .hbm, ⟨16, _⟩ => ⟨S2x1024x1028, .f32⟩
  | .hbm, ⟨17, _⟩ => ⟨S_, .f32⟩
  | .hbm, ⟨18, _⟩ => ⟨S2x1024x1028, .f32⟩
  | .hbm, ⟨19, _⟩ => ⟨S2x1024x1028, .f32⟩
  | .hbm, ⟨20, _⟩ => ⟨S2x1024x1028, .f32⟩
  | .hbm, ⟨21, _⟩ => ⟨S_, .f32⟩
  | .hbm, ⟨22, _⟩ => ⟨S2x1024x1028, .f32⟩
  | .hbm, ⟨23, _⟩ => ⟨S2x1024x1028, .f32⟩
  | .hbm, ⟨24, _⟩ => ⟨S2x1024x1028, .f32⟩
  | .hbm, ⟨25, _⟩ => ⟨S_, .f32⟩
  | .hbm, ⟨26, _⟩ => ⟨S2x1024x1028, .f32⟩
  | .hbm, ⟨27, _⟩ => ⟨S2x1024x1028, .f32⟩
  | .hbm, ⟨28, _⟩ => ⟨S2x1024x1028, .f32⟩
  | .hbm, ⟨29, _⟩ => ⟨S_, .f32⟩
  | .hbm, ⟨30, _⟩ => ⟨S2x1024x1028, .f32⟩
  | .hbm, ⟨31, _⟩ => ⟨S2x1024x1028, .f32⟩
  | .hbm, ⟨32, _⟩ => ⟨S_, .f32⟩
  | .hbm, ⟨33, _⟩ => ⟨S2x1024x1028, .f32⟩
  | .hbm, ⟨34, _⟩ => ⟨S2x1024x1028, .f32⟩
  | .hbm, ⟨35, _⟩ => ⟨S2x1024x1028, .f32⟩
  | .hbm, ⟨36, _⟩ => ⟨S_, .f32⟩
  | .hbm, ⟨37, _⟩ => ⟨S2x1024x1028, .f32⟩
  | .hbm, ⟨38, _⟩ => ⟨S2x1024x1028, .f32⟩
  | .hbm, ⟨39, _⟩ => ⟨S2x1024x1028, .f32⟩
  | .hbm, ⟨40, _⟩ => ⟨S_, .f32⟩
  | .hbm, ⟨41, _⟩ => ⟨S2x1024x1028, .f32⟩
  | .hbm, ⟨42, _⟩ => ⟨S2x1024x1028, .f32⟩
  | .hbm, ⟨43, _⟩ => ⟨S2x1024x1028, .f32⟩
  | .hbm, ⟨44, _⟩ => ⟨S_, .f32⟩
  | .hbm, ⟨45, _⟩ => ⟨S2x1024x1028, .f32⟩
  | .hbm, ⟨46, _⟩ => ⟨S2x1024x1028, .f32⟩
  | _, _ => ⟨S2x1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel35.lean ====
abbrev S2x256x1024 : Shape := ⟨3, ![2, 256, 1024]⟩
abbrev S4x1x256x1024 : Shape := ⟨4, ![4, 1, 256, 1024]⟩
abbrev S1x256x1024 : Shape := ⟨3, ![1, 256, 1024]⟩
abbrev S1x1x256x1024 : Shape := ⟨4, ![1, 1, 256, 1024]⟩
abbrev S256x1024 : Shape := ⟨2, ![256, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S4x1x256x1024, .f32⟩
  | .hbm, ⟨2, _⟩ => ⟨S4x1x256x1024, .f32⟩
  | .hbm, ⟨3, _⟩ => ⟨S2x256x1024, .f32⟩
  | .hbm, ⟨4, _⟩ => ⟨S2x256x1024, .f32⟩
  | .hbm, ⟨5, _⟩ => ⟨S4x1x256x1024, .bf16⟩
  | .hbm, ⟨6, _⟩ => ⟨S4x1x256x1024, .bf16⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S4x1x256x1024, .bf16⟩
  | .local _ .vmem, ⟨3, _⟩ => ⟨S4x1x256x1024, .bf16⟩
  | .local _ .vmem, ⟨4, _⟩ => ⟨S4x1x256x1024, .bf16⟩
  | .local _ .vmem, ⟨5, _⟩ => ⟨S4x1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  let c0_i32_6 : BitVec 32 := 0#32
  ![c0_i32_3.toNat, c0_i32_4.toNat, v3.toNat, c0_i32_5.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel35Ideal.lean ====
abbrev S2x256x1024 : Shape := ⟨3, ![2, 256, 1024]⟩
abbrev S4x1x256x1024 : Shape := ⟨4, ![4, 1, 256, 1024]⟩
abbrev S1x256x1024 : Shape := ⟨3, ![1, 256, 1024]⟩
abbrev S1x1x256x1024 : Shape := ⟨4, ![1, 1, 256, 1024]⟩
abbrev S256x1024 : Shape := ⟨2, ![256, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S4x1x256x1024, .f32⟩
  | .hbm, ⟨2, _⟩ => ⟨S4x1x256x1024, .f32⟩
  | .hbm, ⟨3, _⟩ => ⟨S2x256x1024, .f32⟩
  | .hbm, ⟨4, _⟩ => ⟨S2x256x1024, .f32⟩
  | .hbm, ⟨5, _⟩ => ⟨S4x1x256x1024, .bf16⟩
  | .hbm, ⟨6, _⟩ => ⟨S4x1x256x1024, .bf16⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S4x1x256x1024, .bf16⟩
  | .local _ .vmem, ⟨3, _⟩ => ⟨S4x1x256x1024, .bf16⟩
  | .local _ .vmem, ⟨4, _⟩ => ⟨S4x1x256x1024, .bf16⟩
  | .local _ .vmem, ⟨5, _⟩ => ⟨S4x1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  let c0_i32_6 : BitVec 32 := 0#32
  ![c0_i32_3.toNat, c0_i32_4.toNat, v3.toNat, c0_i32_5.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference35Ideal.lean ====
abbrev S2x256x1024 : Shape := ⟨3, ![2, 256, 1024]⟩
abbrev S4x1x256x1024 : Shape := ⟨4, ![4, 1, 256, 1024]⟩
abbrev S4x256x1024 : Shape := ⟨3, ![4, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1x256x1024, .f32⟩
  | .hbm, ⟨2, _⟩ => ⟨S4x1x256x1024, .f32⟩
  | .hbm, ⟨3, _⟩ => ⟨S2x256x1024, .f32⟩
  | .hbm, ⟨4, _⟩ => ⟨S2x256x1024, .f32⟩
  | .hbm, ⟨5, _⟩ => ⟨S4x256x1024, .f32⟩
  | .hbm, ⟨6, _⟩ => ⟨S_, .f32⟩
  | .hbm, ⟨7, _⟩ => ⟨S256x1024, .f32⟩
  | .hbm, ⟨8, _⟩ => ⟨S4x256x1024, .f32⟩
  | .hbm, ⟨9, _⟩ => ⟨S_, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel36.lean ====
abbrev S2x1024x256 : Shape := ⟨3, ![2, 1024, 256]⟩
abbrev S4x1x1024x256 : Shape := ⟨4, ![4, 1, 1024, 256]⟩
abbrev S1x256x256 : Shape := ⟨3, ![1, 256, 256]⟩
abbrev S4x1x256x256 : Shape := ⟨4, ![4, 1, 256, 256]⟩
abbrev S1x1x256x256 : Shape := ⟨4, ![1, 1, 256, 256]⟩
abbrev S256x256 : Shape := ⟨2, ![256, 256]⟩

abbrev nBuf : Space → Nat
  | .hbm => 11
  | .vmem => 18
  | .smem => 0
  | _ => 0

abbrev bufTy : (tb : Table) → Fin (tcTables nBuf tb) → BufTy
  | .hbm, ⟨0, _⟩ => ⟨S2x1024x256, .f32⟩
  | .hbm, ⟨1, _⟩ => ⟨S4x1x1024x256, .f32⟩
  | .hbm, ⟨2, _⟩ => ⟨S4x1x1024x256, .f32⟩
  | .hbm, ⟨3, _⟩ => ⟨S2x1024x256, .f32⟩
  | .hbm, ⟨4, _⟩ => ⟨S2x1024x256, .f32⟩
  | .hbm, ⟨5, _⟩ => ⟨S4x1x1024x256, .bf16⟩
  | .hbm, ⟨6, _⟩ => ⟨S4x1x1024x256, .bf16⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .local _ .vmem, ⟨0, _⟩ => ⟨S1x256x256, .f32⟩
  | .local _ .vmem, ⟨1, _⟩ => ⟨S1x256x256, .f32⟩
  | .local _ .vmem, ⟨2, _⟩ => ⟨S4x1x256x256, .bf16⟩
  | .local _ .vmem, ⟨3, _⟩ => ⟨S4x1x256x256, .bf16⟩
  | .local _ .vmem, ⟨4, _⟩ => ⟨S4x1x256x256, .bf16⟩
  | .local _ .vmem, ⟨5, _⟩ => ⟨S4x1x256x256, .bf16⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel36Ideal.lean ====
abbrev S2x1024x256 : Shape := ⟨3, ![2, 1024, 256]⟩
abbrev S4x1x1024x256 : Shape := ⟨4, ![4, 1, 1024, 256]⟩
abbrev S1x256x256 : Shape := ⟨3, ![1, 256, 256]⟩
abbrev S4x1x256x256 : Shape := ⟨4, ![4, 1, 256, 256]⟩
abbrev S1x1x256x256 : Shape := ⟨4, ![1, 1, 256, 256]⟩
abbrev S256x256 : Shape := ⟨2, ![256, 256]⟩

abbrev nBuf : Space → Nat
  | .hbm => 11
  | .vmem => 18
  | .smem => 0
  | _ => 0

abbrev bufTy : (tb : Table) → Fin (tcTables nBuf tb) → BufTy
  | .hbm, ⟨0, _⟩ => ⟨S2x1024x256, .f32⟩
  | .hbm, ⟨1, _⟩ => ⟨S4x1x1024x256, .f32⟩
  | .hbm, ⟨2, _⟩ => ⟨S4x1x1024x256, .f32⟩
  | .hbm, ⟨3, _⟩ => ⟨S2x1024x256, .f32⟩
  | .hbm, ⟨4, _⟩ => ⟨S2x1024x256, .f32⟩
  | .hbm, ⟨5, _⟩ => ⟨S4x1x1024x256, .bf16⟩
  | .hbm, ⟨6, _⟩ => ⟨S4x1x1024x256, .bf16⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .local _ .vmem, ⟨0, _⟩ => ⟨S1x256x256, .f32⟩
  | .local _ .vmem, ⟨1, _⟩ => ⟨S1x256x256, .f32⟩
  | .local _ .vmem, ⟨2, _⟩ => ⟨S4x1x256x256, .bf16⟩
  | .local _ .vmem, ⟨3, _⟩ => ⟨S4x1x256x256, .bf16⟩
  | .local _ .vmem, ⟨4, _⟩ => ⟨S4x1x256x256, .bf16⟩
  | .local _ .vmem, ⟨5, _⟩ => ⟨S4x1x256x256, .bf16⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference36Ideal.lean ====
abbrev S2x1024x256 : Shape := ⟨3, ![2, 1024, 256]⟩
abbrev S4x1x1024x256 : Shape := ⟨4, ![4, 1, 1024, 256]⟩
abbrev S4x1024x256 : Shape := ⟨3, ![4, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S4x1x1024x256, .f32⟩
  | .hbm, ⟨2, _⟩ => ⟨S4x1x1024x256, .f32⟩
  | .hbm, ⟨3, _⟩ => ⟨S2x1024x256, .f32⟩
  | .hbm, ⟨4, _⟩ => ⟨S2x1024x256, .f32⟩
  | .hbm, ⟨5, _⟩ => ⟨S4x1024x256, .f32⟩
  | .hbm, ⟨6, _⟩ => ⟨S_, .f32⟩
  | .hbm, ⟨7, _⟩ => ⟨S1024x256, .f32⟩
  | .hbm, ⟨8, _⟩ => ⟨S4x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1x1024x256, .f32⟩
  | .hbm, ⟨13, _⟩ => ⟨S2x1024x256, .f32⟩
  | .hbm, ⟨14, _⟩ => ⟨S_, .f32⟩
  | .hbm, ⟨15, _⟩ => ⟨S2x1024x256, .f32⟩
  | .hbm, ⟨16, _⟩ => ⟨S2x1024x256, .f32⟩
  | .hbm, ⟨17, _⟩ => ⟨S_, .f32⟩
  | .hbm, ⟨18, _⟩ => ⟨S2x1024x256, .f32⟩
  | .hbm, ⟨19, _⟩ => ⟨S2x1024x256, .f32⟩
  | .hbm, ⟨20, _⟩ => ⟨S2x1024x256, .f32⟩
  | .hbm, ⟨21, _⟩ => ⟨S_, .f32⟩
  | .hbm, ⟨22, _⟩ => ⟨S2x1024x256, .f32⟩
  | .hbm, ⟨23, _⟩ => ⟨S2x1024x256, .f32⟩
  | .hbm, ⟨24, _⟩ => ⟨S2x1024x256, .f32⟩
  | .hbm, ⟨25, _⟩ => ⟨S_, .f32⟩
  | .hbm, ⟨26, _⟩ => ⟨S2x1024x256, .f32⟩
  | .hbm, ⟨27, _⟩ => ⟨S2x1024x256, .f32⟩
  | .hbm, ⟨28, _⟩ => ⟨S2x1024x256, .f32⟩
  | .hbm, ⟨29, _⟩ => ⟨S_, .f32⟩
  | .hbm, ⟨30, _⟩ => ⟨S2x1024x256, .f32⟩
  | .hbm, ⟨31, _⟩ => ⟨S2x1024x256, .f32⟩
  | .hbm, ⟨32, _⟩ => ⟨S_, .f32⟩
  | .hbm, ⟨33, _⟩ => ⟨S2x1024x256, .f32⟩
  | .hbm, ⟨34, _⟩ => ⟨S2x1024x256, .f32⟩
  | .hbm, ⟨35, _⟩ => ⟨S2x1024x256, .f32⟩
  | .hbm, ⟨36, _⟩ => ⟨S_, .f32⟩
  | .hbm, ⟨37, _⟩ => ⟨S2x1024x256, .f32⟩
  | .hbm, ⟨38, _⟩ => ⟨S2x1024x256, .f32⟩
  | .hbm, ⟨39, _⟩ => ⟨S2x1024x256, .f32⟩
  | .hbm, ⟨40, _⟩ => ⟨S_, .f32⟩
  | .hbm, ⟨41, _⟩ => ⟨S2x1024x256, .f32⟩
  | .hbm, ⟨42, _⟩ => ⟨S2x1024x256, .f32⟩
  | .hbm, ⟨43, _⟩ => ⟨S2x1024x256, .f32⟩
  | .hbm, ⟨44, _⟩ => ⟨S_, .f32⟩
  | .hbm, ⟨45, _⟩ => ⟨S2x1024x256, .f32⟩
  | .hbm, ⟨46, _⟩ => ⟨S2x1024x256, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel37.lean ====
abbrev S2x128x1024 : Shape := ⟨3, ![2, 128, 1024]⟩
abbrev S4x1x128x1024 : Shape := ⟨4, ![4, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S4x1x128x1024, .f32⟩
  | .hbm, ⟨2, _⟩ => ⟨S4x1x128x1024, .f32⟩
  | .hbm, ⟨3, _⟩ => ⟨S2x128x1024, .f32⟩
  | .hbm, ⟨4, _⟩ => ⟨S2x128x1024, .f32⟩
  | .hbm, ⟨5, _⟩ => ⟨S4x1x128x1024, .bf16⟩
  | .hbm, ⟨6, _⟩ => ⟨S4x1x128x1024, .bf16⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S4x1x128x1024, .bf16⟩
  | .local _ .vmem, ⟨3, _⟩ => ⟨S4x1x128x1024, .bf16⟩
  | .local _ .vmem, ⟨4, _⟩ => ⟨S4x1x128x1024, .bf16⟩
  | .local _ .vmem, ⟨5, _⟩ => ⟨S4x1x128x1024, .bf16⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  let c0_i32_6 : BitVec 32 := 0#32
  ![c0_i32_3.toNat, c0_i32_4.toNat, v3.toNat, c0_i32_5.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference37Ideal.lean ====
abbrev S2x128x1024 : Shape := ⟨3, ![2, 128, 1024]⟩
abbrev S4x1x128x1024 : Shape := ⟨4, ![4, 1, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S4x1x128x1024, .f32⟩
  | .hbm, ⟨2, _⟩ => ⟨S4x1x128x1024, .f32⟩
  | .hbm, ⟨3, _⟩ => ⟨S2x128x1024, .f32⟩
  | .hbm, ⟨4, _⟩ => ⟨S2x128x1024, .f32⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S4x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel38.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference38Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel39.lean ====
abbrev S2048x1024 : Shape := ⟨2, ![2048, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference39Ideal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel40.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference40Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel41.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference41Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel42.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference42Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel43.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference43Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel44.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference44Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | .hbm, ⟨49, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel45.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference45Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel46.lean ====
abbrev S2048x32 : Shape := ⟨2, ![2048, 32]⟩
abbrev S1024x32 : Shape := ⟨2, ![1024, 32]⟩
abbrev S2048x1024 : Shape := ⟨2, ![2048, 1024]⟩
abbrev S512x32 : Shape := ⟨2, ![512, 32]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x32, .f32⟩
  | .hbm, ⟨1, _⟩ => ⟨S1024x32, .f32⟩
  | .hbm, ⟨2, _⟩ => ⟨S1024x32, .bf16⟩
  | .hbm, ⟨3, _⟩ => ⟨S2048x1024, .f32⟩
  | .local _ .vmem, ⟨0, _⟩ => ⟨S2048x32, .f32⟩
  | .local _ .vmem, ⟨1, _⟩ => ⟨S512x32, .bf16⟩
  | .local _ .vmem, ⟨2, _⟩ => ⟨S512x32, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference46Ideal.lean ====
abbrev S2048x32 : Shape := ⟨2, ![2048, 32]⟩
abbrev S1024x32 : Shape := ⟨2, ![1024, 32]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S1024x32, .f32⟩
  | .hbm, ⟨2, _⟩ => ⟨S_, .f32⟩
  | .hbm, ⟨3, _⟩ => ⟨S2048x1024, .f32⟩
  | .hbm, ⟨4, _⟩ => ⟨S2048x32, .f32⟩
  | .hbm, ⟨5, _⟩ => ⟨S2048x1024, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel47.lean ====
abbrev S2048x1024 : Shape := ⟨2, ![2048, 1024]⟩
abbrev S2048x32 : Shape := ⟨2, ![2048, 32]⟩
abbrev S1024x32 : Shape := ⟨2, ![1024, 32]⟩

abbrev nBuf : Space → Nat
  | .hbm => 4
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x32, .f32⟩
  | .hbm, ⟨2, _⟩ => ⟨S2048x1024, .bf16⟩
  | .hbm, ⟨3, _⟩ => ⟨S1024x32, .bf16⟩
  | .local _ .vmem, ⟨0, _⟩ => ⟨S2048x1024, .bf16⟩
  | .local _ .vmem, ⟨1, _⟩ => ⟨S2048x32, .f32⟩
  | .local _ .vmem, ⟨2, _⟩ => ⟨S1024x32, .bf16⟩
  | .local _ .vmem, ⟨3, _⟩ => ⟨S1024x32, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference47Ideal.lean ====
abbrev S2048x1024 : Shape := ⟨2, ![2048, 1024]⟩
abbrev S2048x32 : Shape := ⟨2, ![2048, 32]⟩
abbrev S_ : Shape := ⟨0, ![]⟩
abbrev S1024x32 : Shape := ⟨2, ![1024, 32]⟩
abbrev S32x1024 : Shape := ⟨2, ![32, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x32, .f32⟩
  | .hbm, ⟨2, _⟩ => ⟨S_, .f32⟩
  | .hbm, ⟨3, _⟩ => ⟨S1024x32, .f32⟩
  | .hbm, ⟨4, _⟩ => ⟨S2048x32, .f32⟩
  | .hbm, ⟨5, _⟩ => ⟨S32x1024, .f32⟩
  | .hbm, ⟨6, _⟩ => ⟨S1024x32, .f32⟩
  | .hbm, ⟨7, _⟩ => ⟨S1024x32, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel48.lean ====
abbrev S2048x1024 : Shape := ⟨2, ![2048, 1024]⟩
abbrev S1024x32 : Shape := ⟨2, ![1024, 32]⟩
abbrev S2048x32 : Shape := ⟨2, ![2048, 32]⟩

abbrev nBuf : Space → Nat
  | .hbm => 5
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1024, .bf16⟩
  | .hbm, ⟨3, _⟩ => ⟨S1024x32, .bf16⟩
  | .hbm, ⟨4, _⟩ => ⟨S2048x32, .f32⟩
  | .local _ .vmem, ⟨0, _⟩ => ⟨S2048x1024, .bf16⟩
  | .local _ .vmem, ⟨1, _⟩ => ⟨S1024x32, .bf16⟩
  | .local _ .vmem, ⟨2, _⟩ => ⟨S2048x32, .f32⟩
  | .local _ .vmem, ⟨3, _⟩ => ⟨S2048x32, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference48Ideal.lean ====
abbrev S2048x1024 : Shape := ⟨2, ![2048, 1024]⟩
abbrev S1024x32 : Shape := ⟨2, ![1024, 32]⟩
abbrev S2048x32 : Shape := ⟨2, ![2048, 32]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x32, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Calls.FfnDownDw.lean ====
/- The gradient of the feed-forward layer's third weight, h^T ct. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- What the reference computes, over its arguments. -/
abbrev REF (a0 : FVec Ideal Cert.Reference2Ideal.S2048x2816 .f32) (a1 : FVec Ideal Cert.Reference2Ideal.S2048x1024 .f32) : FVec Ideal Cert.Reference2Ideal.S4x1x704x1024 .bf16 :=
  truncf .bf16 (shapeCast _ (transpose Cert.Reference2Ideal.S2816x1024 [1, 0] (Host.dotGeneral Cert.Reference2Ideal.dot_S2048x1024_S2048x2816_S1024x2816_0_0_1_1_n_n none a1 a0) Cert.Reference2Ideal.Gen.transposes_S1024x2816_S2816x1024_1_0) Cert.Reference2Ideal.Gen.shapeCasts_S2816x1024_S4x1x704x1024) Cert.Reference2Ideal.Gen.bitsLt_bf16_f32

/-- Every window's block at every grid point. -/
theorem idx : ∀ t : Fin cfg0.N, win0_0.index t = ![t.val / 2, 0, 0]
    ∧ win0_1.index t = ![0, t.val % 2]
    ∧ win0_2.index t = ![t.val / 2, 0, 0, t.val % 2] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, k0_pay3, REF]
  refine Fin.sum_fin_congr fun k => (mul_comm (_ : EReal) _).trans ?_
  blk_point [iblk, V, idx t]

end Cert.Kernel2Ideal.Value

end
-- ==== Proof.Calls.FfnUpDw.lean ====
/- The gradients of the feed-forward layer's first two weights. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- What the reference computes, over its arguments. -/
abbrev REF0 (a0 : FVec Ideal Cert.Reference3Ideal.S2048x1024 .f32) (a1 : FVec Ideal Cert.Reference3Ideal.S2048x2816 .f32) : FVec Ideal Cert.Reference3Ideal.S4x1x704x1024 .bf16 :=
  truncf .bf16 (shapeCast _ (transpose Cert.Reference3Ideal.S2816x1024 [1, 0] (transpose Cert.Reference3Ideal.S1024x2816 [1, 0] (Host.dotGeneral Cert.Reference3Ideal.dot_S2048x2816_S2048x1024_S2816x1024_0_0_1_1_n_n none a1 a0) Cert.Reference3Ideal.Gen.transposes_S2816x1024_S1024x2816_1_0) Cert.Reference3Ideal.Gen.transposes_S1024x2816_S2816x1024_1_0) Cert.Reference3Ideal.Gen.shapeCasts_S2816x1024_S4x1x704x1024) Cert.Reference3Ideal.Gen.bitsLt_bf16_f32

/-- What the reference computes, over its arguments. -/
abbrev REF1 (a0 : FVec Ideal Cert.Reference3Ideal.S2048x1024 .f32) (a2 : FVec Ideal Cert.Reference3Ideal.S2048x2816 .f32) : FVec Ideal Cert.Reference3Ideal.S4x1x704x1024 .bf16 :=
  truncf .bf16 (shapeCast _ (transpose Cert.Reference3Ideal.S2816x1024 [1, 0] (transpose Cert.Reference3Ideal.S1024x2816 [1, 0] (Host.dotGeneral Cert.Reference3Ideal.dot_S2048x2816_S2048x1024_S2816x1024_0_0_1_1_n_n none a2 a0) Cert.Reference3Ideal.Gen.transposes_S2816x1024_S1024x2816_1_0) Cert.Reference3Ideal.Gen.transposes_S1024x2816_S2816x1024_1_0) Cert.Reference3Ideal.Gen.shapeCasts_S2816x1024_S4x1x704x1024) Cert.Reference3Ideal.Gen.bitsLt_bf16_f32

/-- Every window's block at every grid point. -/
theorem idx : ∀ t : Fin cfg0.N, win0_0.index t = ![0, 0]
    ∧ win0_1.index t = ![t.val, 0, 0, 0]
    ∧ win0_2.index t = ![t.val, 0, 0, 0]
    ∧ win0_3.index t = ![t.val, 0, 0, 0] :=
  (by decide +kernel : ∀ t : Fin grid0.N, _)

/-- The first of the two stacked gradients, by hidden blocks. -/
theorem stack0 (c : Dev nD) (j : Fin 4) (r : Fin 2048) (n : Fin 704) :
    V m c main_v7 (ix4 j 0 r n) = m ((c : Thread nD τ).loc main_arg1) (ix2 r ⟨j.val * 704 + n.val, by omega⟩) := by
  entry_read
  pointwise
  blk_ext

/-- The second of the two stacked gradients, by hidden blocks. -/
theorem stack1 (c : Dev nD) (j : Fin 4) (r : Fin 2048) (n : Fin 704) :
    V m c main_v7 (ix4 j 1 r n) = m ((c : Thread nD τ).loc main_arg2) (ix2 r ⟨j.val * 704 + n.val, by omega⟩) := by
  entry_read
  pointwise
  blk_ext

/-- The gradient of the first weight. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, k0_pay2, k0_pay3, REF0]
  have h4 : t.val < 4 := lt_of_lt_of_eq t.isLt N_0
  refine Fin.sum_fin_congr fun k => ?_
  refine congrArg₂ (fun a b : EReal => a * b) ?_ ?_
  · refine Eq.trans ?_ ((stack0 m c ⟨t.val, h4⟩ k (y 2)).trans ?_)
    · blk_ext [iblk, idx t]
    · blk_ext [idx t]
  · blk_point [iblk, V, idx t]

/-- The gradient of the second weight. -/
theorem final1 (c : Dev nD) : (dats m 0 c).arrAt 3 (cfgs 0).N = REF1 (m ((c : Thread nD τ).loc main_arg0)) (m ((c : Thread nD τ).loc main_arg2)) := by
  refine (dats m 0 c).arrAt_eq_of_covers 3 _ (by decide +kernel) fun t hf y => ?_
  blk_simp; rw [after0_3]; frame_out
  pointwise [k0_pay1, k0_pay2, k0_pay3, REF1]
  have h4 : t.val < 4 := lt_of_lt_of_eq t.isLt N_0
  refine Fin.sum_fin_congr fun k => ?_
  refine congrArg₂ (fun a b : EReal => a * b) ?_ ?_
  · refine Eq.trans ?_ ((stack1 m c ⟨t.val, h4⟩ k (y 2)).trans ?_)
    · blk_ext [iblk, idx t]
    · blk_ext [idx t]
  · blk_point [iblk, V, idx t]

end Cert.Kernel3Ideal.Value

end
-- ==== Proof.Calls.FfnUpDx.lean ====
/- The gradient at the feed-forward layer's input: two products, summed over the four hidden blocks. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-- What the reference computes, over its arguments. -/
abbrev REF (a0 : FVec Ideal Cert.Reference4Ideal.S2048x2816 .f32) (a1 : FVec Ideal Cert.Reference4Ideal.S2048x2816 .f32) (a2 : FVec Ideal Cert.Reference4Ideal.S1024x2816 .f32) (a3 : FVec Ideal Cert.Reference4Ideal.S1024x2816 .f32) : FVec Ideal Cert.Reference4Ideal.S2048x1024 .f32 :=
  addf (Host.dotGeneral Cert.Reference4Ideal.dot_S2048x2816_S1024x2816_S2048x1024_1_1_0_0_n_n none a1 a3) (Host.dotGeneral Cert.Reference4Ideal.dot_S2048x2816_S1024x2816_S2048x1024_1_1_0_0_n_n none a0 a2)

/-- Every window's block at every grid point. -/
theorem idx : ∀ t : Fin cfg0.N, win0_0.index t = ![t.val % 4, 0, t.val / 4, 0]
    ∧ win0_1.index t = ![t.val % 4, 0, 0, 0]
    ∧ win0_2.index t = ![t.val % 4, 0, 0, 0]
    ∧ win0_3.index t = ![t.val / 4, 0] :=
  (by decide +kernel : ∀ t : Fin grid0.N, _)

/-- The first of the two stacked gradients, by hidden blocks. -/
theorem stack0 (c : Dev nD) (j : Fin 4) (r : Fin 2048) (n : Fin 704) :
    V m c main_v7 (ix4 j 0 r n) = m ((c : Thread nD τ).loc main_arg0) (ix2 r ⟨j.val * 704 + n.val, by omega⟩) := by
  entry_read
  pointwise
  blk_ext

/-- The second of the two stacked gradients, by hidden blocks. -/
theorem stack1 (c : Dev nD) (j : Fin 4) (r : Fin 2048) (n : Fin 704) :
    V m c main_v7 (ix4 j 1 r n) = m ((c : Thread nD τ).loc main_arg1) (ix2 r ⟨j.val * 704 + n.val, by omega⟩) := by
  entry_read
  pointwise
  blk_ext

/-- The zero fill. -/
theorem hzero (j : S1024x1024.Idx) : k0_pay1 (F := Ideal) j = 0 := by pointwise! [k0_pay1]

/-- A point adds its two products to what the block held. -/
theorem hpay (v3 : Vec Ideal S1024x1024 .f32) (v5 : Vec Ideal S1x1x1024x704 .bf16) (v7 : Vec Ideal S1x1x704x1024 .bf16) (v10 : Vec Ideal S1x1x1024x704 .bf16) (v12 : Vec Ideal S1x1x704x1024 .bf16) (j : S1024x1024.Idx) :
    k0_pay2 v3 v5 v7 v10 v12 j = v3 j + ∑ k : Fin 704, (v5 (ix4 0 0 (j 0) k) * v7 (ix4 0 0 k (j 1)) + v10 (ix4 0 0 (j 0) k) * v12 (ix4 0 0 k (j 1))) := by
  pointwise [k0_pay2]
  rw [Finset.sum_add_distrib]

/-- The array the call leaves is the reference's. -/
theorem final (c : Dev nD) : (dats m 0 c).arrAt 3 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3, Pipeline.eq_sum_fin_of_reset_step_apply_of_flush (fun n h => (outsAt0 m c n h)) 4 (fun _ => 0) _
    (fun t h j => by rw [outsAt0_A m c t h]; frame_out; rw [hpay, hzero])
    (fun t h j => by rw [outsAt0_B m c t h]; frame_out; rw [hpay])
    t ((flush0_3 t).mp hf) _, zero_add]
  pointwise [REF]
  refine Eq.trans ?_ ((Finset.sum_add_distrib (M := EReal)).trans (add_comm (_ : EReal) _))
  refine Fin.sum_mul_add_congr fun s k hl => ?_
  have h4 : t.val / 4 < 2 := by have h := lt_of_lt_of_eq t.isLt N_0; omega
  have hr : t.val / 4 * 1024 + (y 0).val < 2048 := by have := (y 0).isLt; have : (y 0).val < 1024 := this; omega
  refine congrArg₂ (fun a b : EReal => a + b) (congrArg₂ (fun a b : EReal => a * b) ?_ ?_) (congrArg₂ (fun a b : EReal => a * b) ?_ ?_)
  · refine Eq.trans ?_ ((stack0 m c s ⟨t.val / 4 * 1024 + (y 0).val, hr⟩ k).trans ?_)
    · blk_ext [iblk, idx ⟨_, Pipeline.run_point_lt_of_flush t ((flush0_3 t).mp hf) s⟩]
    · blk_ext [idx t]
  · blk_point [iblk, V, idx t, idx ⟨_, Pipeline.run_point_lt_of_flush t ((flush0_3 t).mp hf) s⟩]
  · refine Eq.trans ?_ ((stack1 m c s ⟨t.val / 4 * 1024 + (y 0).val, hr⟩ k).trans ?_)
    · blk_ext [iblk, idx ⟨_, Pipeline.run_point_lt_of_flush t ((flush0_3 t).mp hf) s⟩]
    · blk_ext [idx t]
  · blk_point [iblk, V, idx t, idx ⟨_, Pipeline.run_point_lt_of_flush t ((flush0_3 t).mp hf) s⟩]

end Cert.Kernel4Ideal.Value

end
-- ==== Proof.Calls.Slope.lean ====
/- The logistic gate and its slope over the extended reals. -/
module

public import Idealize.ShloMosaic.Lib.Pipeline.ValueKit

@[expose] public section

noncomputable section

open Idealize.ShloMosaic

namespace Cert.Slope

/-- Gate: `1 / (1 + exp (-a))`. -/
abbrev gate (a : EReal) : EReal := Ideal.div 1 (1 + Ideal.exp (-a))

/-- The slope of the gate, as the call writes it and as the reference does, at every extended real. -/
theorem slope (a : EReal) : Ideal.div 1 ((1 + Ideal.exp (-a)) * (1 + Ideal.exp (-a))) * Ideal.exp (-a) = gate a * (1 - gate a) := by
  induction a using EReal.rec with
  | bot =>
    have h : (1 : EReal) + ⊤ = ⊤ := rfl
    simp [gate, Ideal.div, h]
  | top =>
    have h : (1 : EReal) - 1 = 0 := by rw [← EReal.coe_one, ← EReal.coe_sub, sub_self, EReal.coe_zero]
    simp [gate, Ideal.div, h]
  | coe r =>
    have h0 : (1 + Real.exp (-r)) ≠ 0 := by positivity
    have h1 : (1 : EReal) + Ideal.exp (-(r : EReal)) = ((1 + Real.exp (-r) : ℝ) : EReal) := by
      rw [← EReal.coe_neg, Ideal.exp_coe]; norm_cast
    have h2 : Ideal.exp (-(r : EReal)) = ((Real.exp (-r) : ℝ) : EReal) := by rw [← EReal.coe_neg, Ideal.exp_coe]
    simp only [gate, h1]
    rw [h2, ← EReal.coe_mul, Ideal.div_coe (mul_ne_zero h0 h0), Ideal.div_coe h0, one_mul, one_mul, ← EReal.coe_mul, ← EReal.coe_one, ← EReal.coe_sub, ← EReal.coe_mul]
    congr 1
    field_simp
    ring

/-- The chain rule through the gate, as the call writes it and as the reference does. -/
theorem chain2 (a p : EReal) : 0 - (0 - p * Ideal.div 1 ((1 + Ideal.exp (0 - a)) * (1 + Ideal.exp (0 - a)))) * Ideal.exp (0 - a)
    = p * (gate a * (1 - gate a)) := by
  simp only [zero_sub, EReal.neg_mul, neg_neg]
  rw [mul_assoc, slope]

/-- The same, of a product with the gate's own argument. -/
theorem chain (a x : EReal) : 0 - (0 - (a * x) * Ideal.div 1 ((1 + Ideal.exp (0 - a)) * (1 + Ideal.exp (0 - a))) ) * Ideal.exp (0 - a)
    = (a * x) * (gate a * (1 - gate a)) := chain2 a (a * x)

end Cert.Slope

end
-- ==== Proof.Calls.FfnDownDx.lean ====
/- The gradient of the gated unit and of the down projection by the two products before them. -/
module

public import proofs.«01_k».proof.Proof.Gen.Kernel5Ideal.Value
public import proofs.«01_k».proof.Proof.Gen.Reference5Ideal.Run
public import proofs.«01_k».proof.Proof.Calls.Slope
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Slope

variable (m : (ℓ : Loc nD τ sig) → Buf (Elt Ideal) ℓ)

/-- What the reference computes, over its arguments. -/
abbrev REF (a0 : FVec Ideal Cert.Reference5Ideal.S2048x1024 .f32) (a1 : FVec Ideal Cert.Reference5Ideal.S2816x1024 .f32) (a2 a3 : FVec Ideal Cert.Reference5Ideal.S2048x2816 .f32) : FVec Ideal Cert.Reference5Ideal.S4x2x2048x704 .bf16 :=
  concatenate Cert.Reference5Ideal.S4x2x2048x704 1 [⟨Cert.Reference5Ideal.S4x1x2048x704, (broadcastInDim Cert.Reference5Ideal.S4x1x2048x704 ![0, 2, 3] Cert.Reference5Ideal.Gen.bcast_S4x2048x704_S4x1x2048x704_0_2_3 (truncf .bf16 (transpose Cert.Reference5Ideal.S4x2048x704 [1, 0, 2] (shapeCast _ (addf (mulf (mulf (Host.dotGeneral Cert.Reference5Ideal.dot_S2048x1024_S2816x1024_S2048x2816_1_1_0_0_n_n none a0 a1) a3) (Host.divf (broadcastInDim Cert.Reference5Ideal.S2048x2816 ![] Cert.Reference5Ideal.Gen.bcast_S_S2048x2816 (constant Cert.Reference5Ideal.S_ .f32 0x3F800000#32)) (addf (broadcastInDim Cert.Reference5Ideal.S2048x2816 ![] Cert.Reference5Ideal.Gen.bcast_S_S2048x2816 (constant Cert.Reference5Ideal.S_ .f32 0x3F800000#32)) (Host.exp (Host.negf a2))))) (mulf (mulf a2 (mulf (Host.dotGeneral Cert.Reference5Ideal.dot_S2048x1024_S2816x1024_S2048x2816_1_1_0_0_n_n none a0 a1) a3)) (mulf (Host.divf (broadcastInDim Cert.Reference5Ideal.S2048x2816 ![] Cert.Reference5Ideal.Gen.bcast_S_S2048x2816 (constant Cert.Reference5Ideal.S_ .f32 0x3F800000#32)) (addf (broadcastInDim Cert.Reference5Ideal.S2048x2816 ![] Cert.Reference5Ideal.Gen.bcast_S_S2048x2816 (constant Cert.Reference5Ideal.S_ .f32 0x3F800000#32)) (Host.exp (Host.negf a2)))) (subf (broadcastInDim Cert.Reference5Ideal.S2048x2816 ![] Cert.Reference5Ideal.Gen.bcast_S_S2048x2816 (constant Cert.Reference5Ideal.S_ .f32 0x3F800000#32)) (Host.divf (broadcastInDim Cert.Reference5Ideal.S2048x2816 ![] Cert.Reference5Ideal.Gen.bcast_S_S2048x2816 (constant Cert.Reference5Ideal.S_ .f32 0x3F800000#32)) (addf (broadcastInDim Cert.Reference5Ideal.S2048x2816 ![] Cert.Reference5Ideal.Gen.bcast_S_S2048x2816 (constant Cert.Reference5Ideal.S_ .f32 0x3F800000#32)) (Host.exp (Host.negf a2)))))))) Cert.Reference5Ideal.Gen.shapeCasts_S2048x2816_S2048x4x704) Cert.Reference5Ideal.Gen.transposes_S2048x4x704_S4x2048x704_1_0_2) Cert.Reference5Ideal.Gen.bitsLt_bf16_f32))⟩, ⟨Cert.Reference5Ideal.S4x1x2048x704, (broadcastInDim Cert.Reference5Ideal.S4x1x2048x704 ![0, 2, 3] Cert.Reference5Ideal.Gen.bcast_S4x2048x704_S4x1x2048x704_0_2_3 (truncf .bf16 (transpose Cert.Reference5Ideal.S4x2048x704 [1, 0, 2] (shapeCast _ (mulf (mulf a2 (Host.divf (broadcastInDim Cert.Reference5Ideal.S2048x2816 ![] Cert.Reference5Ideal.Gen.bcast_S_S2048x2816 (constant Cert.Reference5Ideal.S_ .f32 0x3F800000#32)) (addf (broadcastInDim Cert.Reference5Ideal.S2048x2816 ![] Cert.Reference5Ideal.Gen.bcast_S_S2048x2816 (constant Cert.Reference5Ideal.S_ .f32 0x3F800000#32)) (Host.exp (Host.negf a2))))) (Host.dotGeneral Cert.Reference5Ideal.dot_S2048x1024_S2816x1024_S2048x2816_1_1_0_0_n_n none a0 a1)) Cert.Reference5Ideal.Gen.shapeCasts_S2048x2816_S2048x4x704) Cert.Reference5Ideal.Gen.transposes_S2048x4x704_S4x2048x704_1_0_2) Cert.Reference5Ideal.Gen.bitsLt_bf16_f32))⟩] Cert.Reference5Ideal.Gen.concatenates_S4x1x2048x704_S4x1x2048x704_S4x2x2048x704_d1

/-- Every window's block at every grid point. -/
theorem idx : ∀ t : Fin cfg0.N, win0_0.index t = ![t.val / 4, 0]
    ∧ win0_1.index t = ![t.val % 4, 0, 0, 0]
    ∧ win0_2.index t = ![t.val % 4, 0, t.val / 4, 0]
    ∧ win0_3.index t = ![t.val % 4, 0, t.val / 4, 0] :=
  (by decide +kernel : ∀ t : Fin grid0.N, _)

/-- The first of the two stacked products, by hidden blocks. -/
theorem stack0 (c : Dev nD) (j : Fin 4) (r : Fin 2048) (n : Fin 704) :
    V m c main_v7 (ix4 j 0 r n) = m ((c : Thread nD τ).loc main_arg2) (ix2 r ⟨j.val * 704 + n.val, by omega⟩) := by
  entry_read
  pointwise
  blk_ext

/-- The second of the two stacked products, by hidden blocks. -/
theorem stack1 (c : Dev nD) (j : Fin 4) (r : Fin 2048) (n : Fin 704) :
    V m c main_v7 (ix4 j 1 r n) = m ((c : Thread nD τ).loc main_arg3) (ix2 r ⟨j.val * 704 + n.val, by omega⟩) := by
  entry_read
  pointwise
  blk_ext

/-- The weight, by hidden blocks. -/
theorem weight (c : Dev nD) (j : Fin 4) (n : Fin 704) (k : Fin 1024) :
    V m c main_v10 (ix4 j 0 n k) = m ((c : Thread nD τ).loc main_arg1) (ix2 ⟨j.val * 704 + n.val, by omega⟩ k) := by
  entry_read
  pointwise
  blk_ext

/-- The reference's gradient by the first product. -/
theorem ref0 (a0 : FVec Ideal Cert.Reference5Ideal.S2048x1024 .f32) (a1 : FVec Ideal Cert.Reference5Ideal.S2816x1024 .f32) (a2 a3 : FVec Ideal Cert.Reference5Ideal.S2048x2816 .f32) (j : Fin 4) (r : Fin 2048) (n : Fin 704) :
    REF a0 a1 a2 a3 (ix4 j 0 r n) = ((∑ k : Fin 1024, a0 (ix2 r k) * a1 (ix2 ⟨j.val * 704 + n.val, by omega⟩ k)) * a3 (ix2 r ⟨j.val * 704 + n.val, by omega⟩)) * gate (a2 (ix2 r ⟨j.val * 704 + n.val, by omega⟩))
      + (a2 (ix2 r ⟨j.val * 704 + n.val, by omega⟩) * ((∑ k : Fin 1024, a0 (ix2 r k) * a1 (ix2 ⟨j.val * 704 + n.val, by omega⟩ k)) * a3 (ix2 r ⟨j.val * 704 + n.val, by omega⟩))) * (gate (a2 (ix2 r ⟨j.val * 704 + n.val, by omega⟩)) * (1 - gate (a2 (ix2 r ⟨j.val * 704 + n.val, by omega⟩)))) := by
  pointwise [REF]

/-- The reference's gradient by the second product. -/
theorem ref1 (a0 : FVec Ideal Cert.Reference5Ideal.S2048x1024 .f32) (a1 : FVec Ideal Cert.Reference5Ideal.S2816x1024 .f32) (a2 a3 : FVec Ideal Cert.Reference5Ideal.S2048x2816 .f32) (j : Fin 4) (r : Fin 2048) (n : Fin 704) :
    REF a0 a1 a2 a3 (ix4 j 1 r n) = (a2 (ix2 r ⟨j.val * 704 + n.val, by omega⟩) * gate (a2 (ix2 r ⟨j.val * 704 + n.val, by omega⟩))) * (∑ k : Fin 1024, a0 (ix2 r k) * a1 (ix2 ⟨j.val * 704 + n.val, by omega⟩ k)) := by
  pointwise [REF]

/-- What a point stores of the first gradient. -/
theorem pay0 (v0 : Vec Ideal S1024x1024 .bf16) (v2 : Vec Ideal S1x1x704x1024 .bf16) (v5 v8 : Vec Ideal S1x1x1024x704 .bf16) (j : S1x1x1024x704.Idx) :
    k0_pay1 (k0_pay9 v0 v2 v5 v8) j = ((∑ k : Fin 1024, v0 (ix2 (j 2) k) * v2 (ix4 0 0 (j 3) k)) * v8 j) * gate (v5 j)
      + (v5 j * ((∑ k : Fin 1024, v0 (ix2 (j 2) k) * v2 (ix4 0 0 (j 3) k)) * v8 j)) * (gate (v5 j) * (1 - gate (v5 j))) := by
  pointwise [k0_pay1, k0_pay2, k0_pay3, k0_pay4, k0_pay5, k0_pay6, k0_pay7, k0_pay8, k0_pay9]
  refine congrArg₂ (fun a b : EReal => a + b) ?_ (Eq.trans ?_ (chain (v5 j) ((∑ k : Fin 1024, v0 (ix2 (j 2) k) * v2 (ix4 0 0 (j 3) k)) * v8 j)))
  · simp only [gate, zero_sub]
  · rfl

/-- What a point stores of the second gradient. -/
theorem pay1 (v0 : Vec Ideal S1024x1024 .bf16) (v2 : Vec Ideal S1x1x704x1024 .bf16) (v5 : Vec Ideal S1x1x1024x704 .bf16) (j : S1x1x1024x704.Idx) :
    k0_pay2 (k0_pay8 v0 v2 v5) j = (v5 j * gate (v5 j)) * (∑ k : Fin 1024, v0 (ix2 (j 2) k) * v2 (ix4 0 0 (j 3) k)) := by
  pointwise [k0_pay1, k0_pay2, k0_pay3, k0_pay4, k0_pay5, k0_pay6, k0_pay7, k0_pay8, k0_pay9]
  simp only [gate, zero_sub]

/-- What a point reads of the first stacked product. -/
theorem read0 (c : Dev nD) (t : Fin cfg0.N) (x : S1x1x1024x704.Idx) (h4 : t.val % 4 < 4) (hr : t.val / 4 * 1024 + (x 2).val < 2048) :
    View.ld (iblk m c 2 t) r0_2 x = m ((c : Thread nD τ).loc main_arg2) (ix2 ⟨t.val / 4 * 1024 + (x 2).val, hr⟩ ⟨t.val % 4 * 704 + (x 3).val, by have : (x 3).val < 704 := (x 3).isLt; omega⟩) := by
  refine Eq.trans ?_ (stack0 m c ⟨t.val % 4, h4⟩ ⟨t.val / 4 * 1024 + (x 2).val, hr⟩ (x 3))
  blk_ext [iblk, View.ld, idx t]
  all_goals first
    | (show 0 + 1 * (x 1).val = _; omega)
    | (show _ + (0 + 1 * (x 2).val) = _; omega)
    | (show 0 + 1 * (x 3).val = _; omega)

/-- What a point reads of the second stacked product. -/
theorem read1 (c : Dev nD) (t : Fin cfg0.N) (x : S1x1x1024x704.Idx) (h4 : t.val % 4 < 4) (hr : t.val / 4 * 1024 + (x 2).val < 2048) :
    View.ld (iblk m c 2 t) r0_3 x = m ((c : Thread nD τ).loc main_arg3) (ix2 ⟨t.val / 4 * 1024 + (x 2).val, hr⟩ ⟨t.val % 4 * 704 + (x 3).val, by have : (x 3).val < 704 := (x 3).isLt; omega⟩) := by
  refine Eq.trans ?_ (stack1 m c ⟨t.val % 4, h4⟩ ⟨t.val / 4 * 1024 + (x 2).val, hr⟩ (x 3))
  blk_ext [iblk, View.ld, idx t]
  all_goals first
    | (show 1 + 1 * (x 1).val = _; omega)
    | (show _ + (0 + 1 * (x 2).val) = _; omega)
    | (show 0 + 1 * (x 3).val = _; omega)

/-- What a point reads of the incoming gradient. -/
theorem readC (c : Dev nD) (t : Fin cfg0.N) (x : S1x1x1024x704.Idx) (hr : t.val / 4 * 1024 + (x 2).val < 2048) (k : Fin 1024) :
    View.ld (iblk m c 0 t) r0_0 (ix2 (x 2) k) = m ((c : Thread nD τ).loc main_arg0) (ix2 ⟨t.val / 4 * 1024 + (x 2).val, hr⟩ k) := by
  blk_ext [iblk, V, View.ld, idx t]
  all_goals first
    | (show _ + (0 + 1 * (x 2).val) = _; omega)
    | (show 0 + 1 * k.val = _; omega)

/-- What a point reads of the weight. -/
theorem readW (c : Dev nD) (t : Fin cfg0.N) (x : S1x1x1024x704.Idx) (h4 : t.val % 4 < 4) (k : Fin 1024) :
    View.ld (iblk m c 1 t) r0_1 (ix4 0 0 (x 3) k) = m ((c : Thread nD τ).loc main_arg1) (ix2 ⟨t.val % 4 * 704 + (x 3).val, by have : (x 3).val < 704 := (x 3).isLt; omega⟩ k) := by
  refine Eq.trans ?_ (weight m c ⟨t.val % 4, h4⟩ (x 3) k)
  blk_ext [iblk, View.ld, idx t]
  all_goals first
    | (show 0 + 1 * (x 3).val = _; omega)
    | (show 0 + 1 * k.val = _; omega)
    | (show 0 + 1 * 0 = _; omega)

set_option maxHeartbeats 1600000 in
/-- One block of the two stacked gradients. -/
theorem point (c : Dev nD) (t : Fin cfg0.N) (y) :
    out0_3 (iblk m c 0 t) (iblk m c 1 t) (iblk m c 2 t) y = REF (m ((c : Thread nD τ).loc main_arg0)) (m ((c : Thread nD τ).loc main_arg1)) (m ((c : Thread nD τ).loc main_arg2)) (m ((c : Thread nD τ).loc main_arg3)) (((cfg0.win 3).blk t).view.emb y) := by
  have ht : t.val < 8 := lt_of_lt_of_eq t.isLt N_0
  canon_tiles x h
  · have h4 : t.val % 4 < 4 := by omega
    have hr : t.val / 4 * 1024 + (x 2).val < 2048 := by omega
    refine Eq.trans ?_ ((ref1 _ _ _ _ ⟨t.val % 4, h4⟩ ⟨t.val / 4 * 1024 + (x 2).val, hr⟩ (x 3)).symm.trans (congrArg _ ?_))
    · rw [pay1, read0 m c t x h4 hr]
      exact congrArg (_ * ·) (Fin.sum_fin_congr fun k => congrArg₂ (fun a b : EReal => a * b) (readC m c t x hr k) (readW m c t x h4 k))
    · blk_ext [idx t]
  · have h4 : t.val % 4 < 4 := by omega
    have hr : t.val / 4 * 1024 + (x 2).val < 2048 := by omega
    refine Eq.trans ?_ ((ref0 _ _ _ _ ⟨t.val % 4, h4⟩ ⟨t.val / 4 * 1024 + (x 2).val, hr⟩ (x 3)).symm.trans (congrArg _ ?_))
    · rw [pay0, read0 m c t x h4 hr, read1 m c t x h4 hr]
      exact congrArg (fun S : EReal => (S * _) * _ + (_ * (S * _)) * _) (Fin.sum_fin_congr fun k => congrArg₂ (fun a b : EReal => a * b) (readC m c t x hr k) (readW m c t x h4 k))
    · blk_ext [idx t]

/-- The array the call leaves is the reference's. -/
theorem final (c : Dev nD) : (dats m 0 c).arrAt 3 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp; rw [after0_3]
  exact point m c t y

end Cert.Kernel5Ideal.Value

end
-- ==== Proof.Calls.FfnUp.lean ====
/- The feed-forward layer's two input products, and their gated product. -/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

variable (m : (ℓ : Loc nD τ sig) → Buf (Elt Ideal) ℓ)

/-- What the reference computes, over its arguments. -/
abbrev REF0 (a0 : FVec Ideal Cert.Reference6Ideal.S2048x1024 .f32) (a1 a2 : FVec Ideal Cert.Reference6Ideal.S1024x2816 .f32) : FVec Ideal Cert.Reference6Ideal.S4x2x2048x704 .bf16 :=
  concatenate Cert.Reference6Ideal.S4x2x2048x704 1 [⟨Cert.Reference6Ideal.S4x1x2048x704, (broadcastInDim Cert.Reference6Ideal.S4x1x2048x704 ![0, 2, 3] Cert.Reference6Ideal.Gen.bcast_S4x2048x704_S4x1x2048x704_0_2_3 (truncf .bf16 (transpose Cert.Reference6Ideal.S4x2048x704 [1, 0, 2] (shapeCast _ (Host.dotGeneral Cert.Reference6Ideal.dot_S2048x1024_S1024x2816_S2048x2816_1_0_0_1_n_n none a0 a1) Cert.Reference6Ideal.Gen.shapeCasts_S2048x2816_S2048x4x704) Cert.Reference6Ideal.Gen.transposes_S2048x4x704_S4x2048x704_1_0_2) Cert.Reference6Ideal.Gen.bitsLt_bf16_f32))⟩, ⟨Cert.Reference6Ideal.S4x1x2048x704, (broadcastInDim Cert.Reference6Ideal.S4x1x2048x704 ![0, 2, 3] Cert.Reference6Ideal.Gen.bcast_S4x2048x704_S4x1x2048x704_0_2_3 (truncf .bf16 (transpose Cert.Reference6Ideal.S4x2048x704 [1, 0, 2] (shapeCast _ (Host.dotGeneral Cert.Reference6Ideal.dot_S2048x1024_S1024x2816_S2048x2816_1_0_0_1_n_n none a0 a2) Cert.Reference6Ideal.Gen.shapeCasts_S2048x2816_S2048x4x704) Cert.Reference6Ideal.Gen.transposes_S2048x4x704_S4x2048x704_1_0_2) Cert.Reference6Ideal.Gen.bitsLt_bf16_f32))⟩] Cert.Reference6Ideal.Gen.concatenates_S4x1x2048x704_S4x1x2048x704_S4x2x2048x704_d1

/-- What the reference computes, over its arguments. -/
abbrev REF1 (a0 : FVec Ideal Cert.Reference6Ideal.S2048x1024 .f32) (a1 a2 : FVec Ideal Cert.Reference6Ideal.S1024x2816 .f32) : FVec Ideal Cert.Reference6Ideal.S4x2048x704 .bf16 :=
  truncf .bf16 (transpose Cert.Reference6Ideal.S4x2048x704 [1, 0, 2] (shapeCast _ (mulf (mulf (Host.dotGeneral Cert.Reference6Ideal.dot_S2048x1024_S1024x2816_S2048x2816_1_0_0_1_n_n none a0 a1) (Host.divf (broadcastInDim Cert.Reference6Ideal.S2048x2816 ![] Cert.Reference6Ideal.Gen.bcast_S_S2048x2816 (constant Cert.Reference6Ideal.S_ .f32 0x3F800000#32)) (addf (broadcastInDim Cert.Reference6Ideal.S2048x2816 ![] Cert.Reference6Ideal.Gen.bcast_S_S2048x2816 (constant Cert.Reference6Ideal.S_ .f32 0x3F800000#32)) (Host.exp (Host.negf (Host.dotGeneral Cert.Reference6Ideal.dot_S2048x1024_S1024x2816_S2048x2816_1_0_0_1_n_n none a0 a1)))))) (Host.dotGeneral Cert.Reference6Ideal.dot_S2048x1024_S1024x2816_S2048x2816_1_0_0_1_n_n none a0 a2)) Cert.Reference6Ideal.Gen.shapeCasts_S2048x2816_S2048x4x704) Cert.Reference6Ideal.Gen.transposes_S2048x4x704_S4x2048x704_1_0_2) Cert.Reference6Ideal.Gen.bitsLt_bf16_f32

/-- Every window's block at every grid point. -/
theorem idx : ∀ t : Fin cfg0.N, win0_0.index t = ![t.val / 4, 0]
    ∧ win0_1.index t = ![t.val % 4, 0, 0, 0]
    ∧ win0_2.index t = ![t.val % 4, 0, 0, 0]
    ∧ win0_3.index t = ![t.val % 4, 0, t.val / 4, 0]
    ∧ win0_4.index t = ![t.val % 4, t.val / 4, 0] :=
  (by decide +kernel : ∀ t : Fin grid0.N, _)

/-- The first weight, by hidden blocks. -/
theorem weight1 (c : Dev nD) (j : Fin 4) (n : Fin 704) (k : Fin 1024) :
    V m c main_v3 (ix4 j 0 n k) = m ((c : Thread nD τ).loc main_arg1) (ix2 k ⟨j.val * 704 + n.val, by omega⟩) := by
  entry_read
  pointwise
  blk_ext

/-- The second weight, by hidden blocks. -/
theorem weight2 (c : Dev nD) (j : Fin 4) (n : Fin 704) (k : Fin 1024) :
    V m c main_v6 (ix4 j 0 n k) = m ((c : Thread nD τ).loc main_arg2) (ix2 k ⟨j.val * 704 + n.val, by omega⟩) := by
  entry_read
  pointwise
  blk_ext

/-- The reference's first product. -/
theorem ref0 (a0 : FVec Ideal Cert.Reference6Ideal.S2048x1024 .f32) (a1 a2 : FVec Ideal Cert.Reference6Ideal.S1024x2816 .f32) (j : Fin 4) (r : Fin 2048) (n : Fin 704) :
    REF0 a0 a1 a2 (ix4 j 0 r n) = ∑ k : Fin 1024, a0 (ix2 r k) * a1 (ix2 k ⟨j.val * 704 + n.val, by omega⟩) := by
  pointwise [REF0]
  blk_ext

/-- The reference's second product. -/
theorem ref1 (a0 : FVec Ideal Cert.Reference6Ideal.S2048x1024 .f32) (a1 a2 : FVec Ideal Cert.Reference6Ideal.S1024x2816 .f32) (j : Fin 4) (r : Fin 2048) (n : Fin 704) :
    REF0 a0 a1 a2 (ix4 j 1 r n) = ∑ k : Fin 1024, a0 (ix2 r k) * a2 (ix2 k ⟨j.val * 704 + n.val, by omega⟩) := by
  pointwise [REF0]
  blk_ext

set_option maxHeartbeats 1600000 in
/-- One block of the two stacked products. -/
theorem point0 (c : Dev nD) (t : Fin cfg0.N) (y) :
    out0_3 (iblk m c 0 t) (iblk m c 1 t) (iblk m c 2 t) y = REF0 (m ((c : Thread nD τ).loc main_arg0)) (m ((c : Thread nD τ).loc main_arg1)) (m ((c : Thread nD τ).loc main_arg2)) (((cfg0.win 3).blk t).view.emb y) := by
  have ht : t.val < 8 := lt_of_lt_of_eq t.isLt N_0
  canon_tiles x h
  · have h4 : t.val % 4 < 4 := by omega
    have hr : t.val / 4 * 1024 + (x 2).val < 2048 := by omega
    refine Eq.trans ?_ ((ref1 _ _ _ ⟨t.val % 4, h4⟩ ⟨t.val / 4 * 1024 + (x 2).val, hr⟩ (x 3)).symm.trans (congrArg _ ?_))
    · open_payloads
      pointwise
      refine Fin.sum_fin_congr fun k => congrArg₂ (fun a b : EReal => a * b) ?_ ?_
      · blk_point [iblk, V, idx t]
      · refine Eq.trans ?_ (weight2 m c ⟨t.val % 4, h4⟩ (x 3) k)
        blk_ext [iblk, idx t]
    · blk_ext [idx t]
  · have h4 : t.val % 4 < 4 := by omega
    have hr : t.val / 4 * 1024 + (x 2).val < 2048 := by omega
    refine Eq.trans ?_ ((ref0 _ _ _ ⟨t.val % 4, h4⟩ ⟨t.val / 4 * 1024 + (x 2).val, hr⟩ (x 3)).symm.trans (congrArg _ ?_))
    · open_payloads
      pointwise
      refine Fin.sum_fin_congr fun k => congrArg₂ (fun a b : EReal => a * b) ?_ ?_
      · blk_point [iblk, V, idx t]
      · refine Eq.trans ?_ (weight1 m c ⟨t.val % 4, h4⟩ (x 3) k)
        blk_ext [iblk, idx t]
    · blk_ext [idx t]

/-- The two products, by hidden blocks. -/
theorem final0 (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point0 m c t y

/-- One block of the first product. -/
theorem block0 (c : Dev nD) (t : Fin cfg0.N) (h4 : t.val % 4 < 4) (r : Fin 1024) (n : Fin 704) (hr : t.val / 4 * 1024 + r.val < 2048) :
    k0_pay4 (iblk m c 0 t) (iblk m c 1 t) (ix4 0 0 r n) = REF0 (m ((c : Thread nD τ).loc main_arg0)) (m ((c : Thread nD τ).loc main_arg1)) (m ((c : Thread nD τ).loc main_arg2)) (ix4 ⟨t.val % 4, h4⟩ 0 ⟨t.val / 4 * 1024 + r.val, hr⟩ n) := by
  rw [ref0]
  pointwise [k0_pay1, k0_pay2, k0_pay3, k0_pay4, k0_pay5, k0_pay6]
  refine Fin.sum_fin_congr fun k => congrArg₂ (fun a b : EReal => a * b) ?_ ?_
  · blk_point [iblk, V, idx t]
  · refine Eq.trans ?_ (weight1 m c ⟨t.val % 4, h4⟩ n k)
    blk_ext [iblk, idx t]

/-- One block of the second product. -/
theorem block1 (c : Dev nD) (t : Fin cfg0.N) (h4 : t.val % 4 < 4) (r : Fin 1024) (n : Fin 704) (hr : t.val / 4 * 1024 + r.val < 2048) :
    k0_pay5 (iblk m c 0 t) (iblk m c 2 t) (ix4 0 0 r n) = REF0 (m ((c : Thread nD τ).loc main_arg0)) (m ((c : Thread nD τ).loc main_arg1)) (m ((c : Thread nD τ).loc main_arg2)) (ix4 ⟨t.val % 4, h4⟩ 1 ⟨t.val / 4 * 1024 + r.val, hr⟩ n) := by
  rw [ref1]
  pointwise [k0_pay1, k0_pay2, k0_pay3, k0_pay4, k0_pay5, k0_pay6]
  refine Fin.sum_fin_congr fun k => congrArg₂ (fun a b : EReal => a * b) ?_ ?_
  · blk_point [iblk, V, idx t]
  · refine Eq.trans ?_ (weight2 m c ⟨t.val % 4, h4⟩ n k)
    blk_ext [iblk, idx t]

/-- The reference's gated product. -/
theorem ref2 (a0 : FVec Ideal Cert.Reference6Ideal.S2048x1024 .f32) (a1 a2 : FVec Ideal Cert.Reference6Ideal.S1024x2816 .f32) (j : Fin 4) (r : Fin 2048) (n : Fin 704) :
    REF1 a0 a1 a2 (ix3 j r n) = (REF0 a0 a1 a2 (ix4 j 0 r n) * Ideal.div 1 (1 + Ideal.exp (-(REF0 a0 a1 a2 (ix4 j 0 r n))))) * REF0 a0 a1 a2 (ix4 j 1 r n) := by
  rw [ref0, ref1]
  pointwise [REF1]

/-- The gate at a point. -/
theorem gate (v0 : Vec Ideal S1024x1024 .bf16) (v2 v5 : Vec Ideal S1x1x704x1024 .bf16) (j : S1x1024x704.Idx) :
    k0_pay6 v0 v2 v5 j = (k0_pay4 v0 v2 (ix4 0 0 (j 1) (j 2)) * Ideal.div 1 (1 + Ideal.exp (-(k0_pay4 v0 v2 (ix4 0 0 (j 1) (j 2)))))) * k0_pay5 v0 v5 (ix4 0 0 (j 1) (j 2)) := by
  pointwise [k0_pay1, k0_pay2, k0_pay3, k0_pay4, k0_pay5, k0_pay6]
  simp only [zero_sub]

/-- The gated product, by hidden blocks. -/
theorem final1 (c : Dev nD) : (dats m 0 c).arrAt 4 (cfgs 0).N = REF1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  have ht : t.val < 8 := lt_of_lt_of_eq t.isLt N_0
  have h4 : t.val % 4 < 4 := by omega
  have hy : (y 1).val < 1024 := (y 1).isLt
  have hr : t.val / 4 * 1024 + (y 1).val < 2048 := by omega
  rw [gate, block0 m c t h4 (y 1) (y 2) hr, block1 m c t h4 (y 1) (y 2) hr]
  refine (ref2 _ _ _ _ _ _).symm.trans (congrArg _ ?_)
  blk_ext [idx t]

end Cert.Kernel6Ideal.Value

end
-- ==== Proof.Calls.FfnDown.lean ====
/- The feed-forward layer's second half. -/
module

public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen

variable (m : (ℓ : Loc nD τ sig) → Buf (Elt Ideal) ℓ)

/-- What the reference computes, over its arguments. -/
abbrev REF (a0 : FVec Ideal Cert.Reference7Ideal.S2048x2816 .f32) (a1 : FVec Ideal Cert.Reference7Ideal.S2816x1024 .f32) : FVec Ideal Cert.Reference7Ideal.S2048x1024 .f32 :=
  Host.dotGeneral Cert.Reference7Ideal.dot_S2048x2816_S2816x1024_S2048x1024_1_0_0_1_n_n none a0 a1

/-- Every window's block at every grid point. -/
theorem idx : ∀ t : Fin cfg0.N, win0_0.index t = ![0, t.val, 0]
    ∧ win0_1.index t = ![0, 0, 0, 0]
    ∧ win0_2.index t = ![t.val, 0] :=
  (by decide +kernel : ∀ t : Fin grid0.N, _)

/-- The array the call leaves is the reference's: the hidden axis in four parts. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, REF]
  refine Eq.trans (Fin.sum_univ_four (fun s : Fin 4 => ∑ x : Fin 704, (show FVec Ideal S4x512x704 .bf16 from iblk m c 0 t) (ix3 s (y 0) x)
    * (show FVec Ideal S4x1x704x1024 .bf16 from iblk m c 1 t) (ix4 s 0 x (y 1)))).symm ?_
  refine Fin.sum_mul_add_congr fun s k hl => ?_
  blk_point [iblk, V, idx t]

end Cert.Kernel7Ideal.Value

end
-- ==== Proof.Calls.InDx.lean ====
/- The gradient at the mixer's input: a product contracted over 7168 columns, in four parts. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen

variable (m : (ℓ : Loc nD τ sig) → Buf (Elt Ideal) ℓ)

/-- What the reference computes, over its arguments. -/
abbrev REF (a0 : FVec Ideal Cert.Reference8Ideal.S2048x7168 .f32) (a1 : FVec Ideal Cert.Reference8Ideal.S1024x7168 .f32) : FVec Ideal Cert.Reference8Ideal.S2048x1024 .f32 :=
  Host.dotGeneral Cert.Reference8Ideal.dot_S2048x7168_S1024x7168_S2048x1024_1_1_0_0_n_n none a0 a1

/-- Every window's block at every grid point. -/
theorem idx : ∀ t : Fin cfg0.N, win0_0.index t = ![0, t.val % 4]
    ∧ win0_1.index t = ![t.val / 4, t.val % 4]
    ∧ win0_2.index t = ![0, t.val / 4] :=
  (by decide +kernel : ∀ t : Fin grid0.N, _)

/-- The zero fill. -/
theorem hzero (j : S2048x512.Idx) : k0_pay1 (F := Ideal) j = 0 := by pointwise! [k0_pay1]

/-- A point adds its product to what the block held. -/
theorem hpay (v3 : Vec Ideal S2048x512 .f32) (v4 : Vec Ideal S2048x1792 .bf16) (v6 : Vec Ideal S512x1792 .bf16) (j : S2048x512.Idx) :
    k0_pay2 v3 v4 v6 j = v3 j + ∑ k : Fin 1792, v4 (ix2 (j 0) k) * v6 (ix2 (j 1) k) := by
  pointwise [k0_pay2]

/-- At the last point of a run the block written back is the sum. -/
theorem last (c : Dev nD) (t : Fin cfg0.N) (h : t.val % 4 = 3) : (outsAt0 m c t.val t.isLt).1 = (outsAt0 m c t.val t.isLt).2 := by
  have h0 : ¬t.val % 4 = 0 := by omega
  rw [outsAt0_C m c t h0 h]
  frame_out

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h3 : t.val % 4 = 3
      · rw [outsAt0_C m c t h h3]; frame_out; rw [hpay]; exact congrArg (· + _) (congrFun (read_unread_whole cc0_scratch0 _ _) j)
      · rw [outsAt0_B m c t h h3]; frame_out; rw [hpay]; exact congrArg (· + _) (congrFun (read_unread_whole cc0_scratch0 _ _) j))
    t ((flush0_2 t).mp hf) _, zero_add]
  pointwise [REF]
  refine Fin.sum_mul_add_congr fun s k hl => ?_
  blk_point [iblk, V, idx t, idx ⟨_, Pipeline.run_point_lt_of_flush t ((flush0_2 t).mp hf) s⟩]

end Cert.Kernel8Ideal.Value

end
-- ==== Proof.Calls.InDw.lean ====
/- The gradient of the mixer's input weight. -/
module

public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

variable (m : (ℓ : Loc nD τ sig) → Buf (Elt Ideal) ℓ)

/-- What the reference computes, over its arguments. -/
abbrev REF (a0 : FVec Ideal Cert.Reference9Ideal.S2048x1024 .f32) (a1 : FVec Ideal Cert.Reference9Ideal.S2048x7168 .f32) : FVec Ideal Cert.Reference9Ideal.S1024x7168 .bf16 :=
  truncf .bf16 (transpose Cert.Reference9Ideal.S1024x7168 [1, 0] (Host.dotGeneral Cert.Reference9Ideal.dot_S2048x7168_S2048x1024_S7168x1024_0_0_1_1_n_n none a1 a0) Cert.Reference9Ideal.Gen.transposes_S7168x1024_S1024x7168_1_0) Cert.Reference9Ideal.Gen.bitsLt_bf16_f32

/-- Every window's block at every grid point. -/
theorem idx : ∀ t : Fin cfg0.N, win0_0.index t = ![0, 0]
    ∧ win0_1.index t = ![0, t.val]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, k0_pay3, REF]
  refine Fin.sum_fin_congr fun k => (mul_comm (_ : EReal) _).trans ?_
  blk_point [iblk, V, idx t]

end Cert.Kernel9Ideal.Value

end
-- ==== Proof.Calls.In.lean ====
/- The mixer's input product. -/
module

public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen

variable (m : (ℓ : Loc nD τ sig) → Buf (Elt Ideal) ℓ)

/-- What the reference computes, over its arguments. -/
abbrev REF (a0 : FVec Ideal Cert.Reference10Ideal.S2048x1024 .f32) (a1 : FVec Ideal Cert.Reference10Ideal.S1024x7168 .f32) : FVec Ideal Cert.Reference10Ideal.S2048x7168 .f32 :=
  Host.dotGeneral Cert.Reference10Ideal.dot_S2048x1024_S1024x7168_S2048x7168_1_0_0_1_n_n none a0 a1

/-- Every window's block at every grid point. -/
theorem idx : ∀ t : Fin cfg0.N, win0_0.index t = ![0, 0]
    ∧ win0_1.index t = ![0, t.val]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, REF]
  blk_point [iblk, V, idx t]

end Cert.Kernel10Ideal.Value

end
-- ==== Proof.Calls.OutDx.lean ====
/- The gradient at the input of a product with a square weight. -/
module

public import proofs.«01_k».proof.Proof.Gen.Kernel11Ideal.Value
public import proofs.«01_k».proof.Proof.Gen.Reference11Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen

variable (m : (ℓ : Loc nD τ sig) → Buf (Elt Ideal) ℓ)

/-- What the reference computes, over its arguments. -/
abbrev REF (a0 : FVec Ideal Cert.Reference11Ideal.S2048x1024 .f32) (a1 : FVec Ideal Cert.Reference11Ideal.S1024x1024 .f32) : FVec Ideal Cert.Reference11Ideal.S2048x1024 .f32 :=
  Host.dotGeneral Cert.Reference11Ideal.dot_S2048x1024_S1024x1024_S2048x1024_1_1_0_0_n_n none a0 a1

/-- Every window's block at every grid point. -/
theorem idx : ∀ t : Fin cfg0.N, win0_0.index t = ![0, 0]
    ∧ win0_1.index t = ![t.val, 0]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, REF]
  blk_point [iblk, V, idx t]

end Cert.Kernel11Ideal.Value

end
-- ==== Proof.Calls.OutDw.lean ====
/- The gradient of a square weight. -/
module

public import proofs.«01_k».proof.Proof.Gen.Kernel12Ideal.Value
public import proofs.«01_k».proof.Proof.Gen.Reference12Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen

variable (m : (ℓ : Loc nD τ sig) → Buf (Elt Ideal) ℓ)

/-- What the reference computes, over its arguments. -/
abbrev REF (a0 : FVec Ideal Cert.Reference12Ideal.S2048x1024 .f32) (a1 : FVec Ideal Cert.Reference12Ideal.S2048x1024 .f32) : FVec Ideal Cert.Reference12Ideal.S1024x1024 .bf16 :=
  truncf .bf16 (transpose Cert.Reference12Ideal.S1024x1024 [1, 0] (Host.dotGeneral Cert.Reference12Ideal.dot_S2048x1024_S2048x1024_S1024x1024_0_0_1_1_n_n none a1 a0) Cert.Reference12Ideal.Gen.transposes_S1024x1024_S1024x1024_1_0) Cert.Reference12Ideal.Gen.bitsLt_bf16_f32

/-- Every window's block at every grid point. -/
theorem idx : ∀ t : Fin cfg0.N, win0_0.index t = ![0, 0]
    ∧ win0_1.index t = ![0, t.val]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, k0_pay3, REF]
  refine Fin.sum_fin_congr fun k => (mul_comm (_ : EReal) _).trans ?_
  blk_point [iblk, V, idx t]

end Cert.Kernel12Ideal.Value

end
-- ==== Proof.Calls.Out.lean ====
/- A product with a square weight. -/
module

public import proofs.«01_k».proof.Proof.Gen.Kernel13Ideal.Value
public import proofs.«01_k».proof.Proof.Gen.Reference13Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen

variable (m : (ℓ : Loc nD τ sig) → Buf (Elt Ideal) ℓ)

/-- What the reference computes, over its arguments. -/
abbrev REF (a0 : FVec Ideal Cert.Reference13Ideal.S2048x1024 .f32) (a1 : FVec Ideal Cert.Reference13Ideal.S1024x1024 .f32) : FVec Ideal Cert.Reference13Ideal.S2048x1024 .f32 :=
  Host.dotGeneral Cert.Reference13Ideal.dot_S2048x1024_S1024x1024_S2048x1024_1_0_0_1_n_n none a0 a1

/-- Every window's block at every grid point. -/
theorem idx : ∀ t : Fin cfg0.N, win0_0.index t = ![0, 0]
    ∧ win0_1.index t = ![0, t.val]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, REF]
  blk_point [iblk, V, idx t]

end Cert.Kernel13Ideal.Value

end
-- ==== Proof.Calls.BranchDx.lean ====
/- The gradient at the input of the first branch's product. -/
module

public import proofs.«01_k».proof.Proof.Gen.Kernel14Ideal.Value
public import proofs.«01_k».proof.Proof.Gen.Reference14Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen

variable (m : (ℓ : Loc nD τ sig) → Buf (Elt Ideal) ℓ)

/-- What the reference computes, over its arguments. -/
abbrev REF (a0 : FVec Ideal Cert.Reference14Ideal.S2048x1024 .f32) (a1 : FVec Ideal Cert.Reference14Ideal.S2048x1024 .f32) : FVec Ideal Cert.Reference14Ideal.S2048x2048 .f32 :=
  Host.dotGeneral Cert.Reference14Ideal.dot_S2048x1024_S2048x1024_S2048x2048_1_1_0_0_n_n none a0 a1

/-- Every window's block at every grid point. -/
theorem idx : ∀ t : Fin cfg0.N, win0_0.index t = ![0, 0]
    ∧ win0_1.index t = ![t.val, 0]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, REF]
  blk_point [iblk, V, idx t]

end Cert.Kernel14Ideal.Value

end
-- ==== Proof.Calls.BranchDw.lean ====
/- The gradient of the first branch's weight. -/
module

public import proofs.«01_k».proof.Proof.Gen.Kernel15Ideal.Value
public import proofs.«01_k».proof.Proof.Gen.Reference15Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen

variable (m : (ℓ : Loc nD τ sig) → Buf (Elt Ideal) ℓ)

/-- What the reference computes, over its arguments. -/
abbrev REF (a0 : FVec Ideal Cert.Reference15Ideal.S2048x2048 .f32) (a1 : FVec Ideal Cert.Reference15Ideal.S2048x1024 .f32) : FVec Ideal Cert.Reference15Ideal.S2048x1024 .bf16 :=
  truncf .bf16 (transpose Cert.Reference15Ideal.S2048x1024 [1, 0] (Host.dotGeneral Cert.Reference15Ideal.dot_S2048x1024_S2048x2048_S1024x2048_0_0_1_1_n_n none a1 a0) Cert.Reference15Ideal.Gen.transposes_S1024x2048_S2048x1024_1_0) Cert.Reference15Ideal.Gen.bitsLt_bf16_f32

/-- Every window's block at every grid point. -/
theorem idx : ∀ t : Fin cfg0.N, win0_0.index t = ![0, 0]
    ∧ win0_1.index t = ![0, t.val]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, k0_pay3, REF]
  refine Fin.sum_fin_congr fun k => (mul_comm (_ : EReal) _).trans ?_
  blk_point [iblk, V, idx t]

end Cert.Kernel15Ideal.Value

end
-- ==== Proof.Calls.Branch.lean ====
/- The first branch's product. -/
module

public import proofs.«01_k».proof.Proof.Gen.Kernel16Ideal.Value
public import proofs.«01_k».proof.Proof.Gen.Reference16Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel16Ideal.Value

open Cert.Kernel16Ideal Cert.Kernel16Ideal.Gen

variable (m : (ℓ : Loc nD τ sig) → Buf (Elt Ideal) ℓ)

/-- What the reference computes, over its arguments. -/
abbrev REF (a0 : FVec Ideal Cert.Reference16Ideal.S2048x2048 .f32) (a1 : FVec Ideal Cert.Reference16Ideal.S2048x1024 .f32) : FVec Ideal Cert.Reference16Ideal.S2048x1024 .f32 :=
  Host.dotGeneral Cert.Reference16Ideal.dot_S2048x2048_S2048x1024_S2048x1024_1_0_0_1_n_n none a0 a1

/-- Every window's block at every grid point. -/
theorem idx : ∀ t : Fin cfg0.N, win0_0.index t = ![0, 0]
    ∧ win0_1.index t = ![0, t.val]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, REF]
  blk_point [iblk, V, idx t]

end Cert.Kernel16Ideal.Value

end
-- ==== Proof.Calls.GluDx.lean ====
/- The gradient at the input of the gated output product. -/
module

public import proofs.«01_k».proof.Proof.Gen.Kernel17Ideal.Value
public import proofs.«01_k».proof.Proof.Gen.Reference17Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen

variable (m : (ℓ : Loc nD τ sig) → Buf (Elt Ideal) ℓ)

/-- What the reference computes, over its arguments. -/
abbrev REF (a0 : FVec Ideal Cert.Reference17Ideal.S2048x2048 .f32) (a1 : FVec Ideal Cert.Reference17Ideal.S1024x2048 .f32) : FVec Ideal Cert.Reference17Ideal.S2048x1024 .f32 :=
  Host.dotGeneral Cert.Reference17Ideal.dot_S2048x2048_S1024x2048_S2048x1024_1_1_0_0_n_n none a0 a1

/-- Every window's block at every grid point. -/
theorem idx : ∀ t : Fin cfg0.N, win0_0.index t = ![0, 0]
    ∧ win0_1.index t = ![t.val, 0]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, REF]
  blk_point [iblk, V, idx t]

end Cert.Kernel17Ideal.Value

end
-- ==== Proof.Calls.GluDw.lean ====
/- The gradient of the gated output weight, in its eight column shards. -/
module

public import proofs.«01_k».proof.Proof.Gen.Kernel18Ideal.Value
public import proofs.«01_k».proof.Proof.Gen.Reference18Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel18Ideal.Value

open Cert.Kernel18Ideal Cert.Kernel18Ideal.Gen

variable (m : (ℓ : Loc nD τ sig) → Buf (Elt Ideal) ℓ)

/-- What the reference computes, over its arguments. -/
abbrev REF (a0 : FVec Ideal Cert.Reference18Ideal.S2048x1024 .f32) (a1 : FVec Ideal Cert.Reference18Ideal.S2048x2048 .f32) : FVec Ideal Cert.Reference18Ideal.S8x1x1024x256 .bf16 :=
  truncf .bf16 (broadcastInDim Cert.Reference18Ideal.S8x1x1024x256 ![0, 2, 3] Cert.Reference18Ideal.Gen.bcast_S8x1024x256_S8x1x1024x256_0_2_3 (transpose Cert.Reference18Ideal.S8x1024x256 [1, 0, 2] (shapeCast _ (transpose Cert.Reference18Ideal.S1024x2048 [1, 0] (Host.dotGeneral Cert.Reference18Ideal.dot_S2048x2048_S2048x1024_S2048x1024_0_0_1_1_n_n none a1 a0) Cert.Reference18Ideal.Gen.transposes_S2048x1024_S1024x2048_1_0) Cert.Reference18Ideal.Gen.shapeCasts_S1024x2048_S1024x8x256) Cert.Reference18Ideal.Gen.transposes_S1024x8x256_S8x1024x256_1_0_2)) Cert.Reference18Ideal.Gen.bitsLt_bf16_f32

/-- Every window's block at every grid point. -/
theorem idx : ∀ t : Fin cfg0.N, win0_0.index t = ![0, 0]
    ∧ win0_1.index t = ![0, t.val]
    ∧ win0_2.index t = ![t.val, 0, 0, 0] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, k0_pay3, REF]
  refine Fin.sum_fin_congr fun k => (mul_comm (_ : EReal) _).trans ?_
  blk_point [iblk, V, idx t]

end Cert.Kernel18Ideal.Value

end
-- ==== Proof.Calls.Glu.lean ====
/- The gated output product. -/
module

public import proofs.«01_k».proof.Proof.Gen.Kernel19Ideal.Value
public import proofs.«01_k».proof.Proof.Gen.Reference19Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel19Ideal.Value

open Cert.Kernel19Ideal Cert.Kernel19Ideal.Gen

variable (m : (ℓ : Loc nD τ sig) → Buf (Elt Ideal) ℓ)

/-- What the reference computes, over its arguments. -/
abbrev REF (a0 : FVec Ideal Cert.Reference19Ideal.S2048x1024 .f32) (a1 : FVec Ideal Cert.Reference19Ideal.S1024x2048 .f32) : FVec Ideal Cert.Reference19Ideal.S2048x2048 .f32 :=
  Host.dotGeneral Cert.Reference19Ideal.dot_S2048x1024_S1024x2048_S2048x2048_1_0_0_1_n_n none a0 a1

/-- Every window's block at every grid point. -/
theorem idx : ∀ t : Fin cfg0.N, win0_0.index t = ![0, 0]
    ∧ win0_1.index t = ![0, t.val]
    ∧ win0_2.index t = ![0, t.val] :=
  (by decide +kernel : ∀ t : Fin grid0.N, _)

/-- The array the call leaves is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, REF]
  blk_point [iblk, V, idx t]

end Cert.Kernel19Ideal.Value

end
-- ==== Proof.Calls.MergeDx.lean ====
/- The gradient of the mixer's two gates. -/
module

public import proofs.«01_k».proof.Proof.Gen.Kernel20Ideal.Value
public import proofs.«01_k».proof.Proof.Gen.Reference20Ideal.Run
public import proofs.«01_k».proof.Proof.Calls.Slope
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel20Ideal.Value

open Cert.Kernel20Ideal Cert.Kernel20Ideal.Gen Cert.Slope

variable (m : (ℓ : Loc nD τ sig) → Buf (Elt Ideal) ℓ)

/-- What the reference computes, over its arguments. -/
abbrev REF0 (a0 : FVec Ideal Cert.Reference20Ideal.S2048x7168 .f32) (a1 : FVec Ideal Cert.Reference20Ideal.S2048x1024 .f32) (a2 : FVec Ideal Cert.Reference20Ideal.S2048x1024 .f32) (a3 : FVec Ideal Cert.Reference20Ideal.S2048x1024 .f32) : FVec Ideal Cert.Reference20Ideal.S2048x2048 .bf16 :=
  truncf .bf16 (concatenate Cert.Reference20Ideal.S2048x2048 1 [⟨Cert.Reference20Ideal.S2048x1024, (mulf (mulf (shapeCast _ a3 Cert.Reference20Ideal.Gen.shapeCasts_S2048x1024_S2048x1024) a1) (mulf (Host.divf (broadcastInDim Cert.Reference20Ideal.S2048x1024 ![] Cert.Reference20Ideal.Gen.bcast_S_S2048x1024 (constant Cert.Reference20Ideal.S_ .f32 0x3F800000#32)) (addf (broadcastInDim Cert.Reference20Ideal.S2048x1024 ![] Cert.Reference20Ideal.Gen.bcast_S_S2048x1024 (constant Cert.Reference20Ideal.S_ .f32 0x3F800000#32)) (Host.exp (Host.negf (extractStridedSlice Cert.Reference20Ideal.S2048x1024 ![0, 5120] a0 Cert.Reference20Ideal.Gen.slices_S2048x7168_S2048x1024_0_5120))))) (subf (broadcastInDim Cert.Reference20Ideal.S2048x1024 ![] Cert.Reference20Ideal.Gen.bcast_S_S2048x1024 (constant Cert.Reference20Ideal.S_ .f32 0x3F800000#32)) (Host.divf (broadcastInDim Cert.Reference20Ideal.S2048x1024 ![] Cert.Reference20Ideal.Gen.bcast_S_S2048x1024 (constant Cert.Reference20Ideal.S_ .f32 0x3F800000#32)) (addf (broadcastInDim Cert.Reference20Ideal.S2048x1024 ![] Cert.Reference20Ideal.Gen.bcast_S_S2048x1024 (constant Cert.Reference20Ideal.S_ .f32 0x3F800000#32)) (Host.exp (Host.negf (extractStridedSlice Cert.Reference20Ideal.S2048x1024 ![0, 5120] a0 Cert.Reference20Ideal.Gen.slices_S2048x7168_S2048x1024_0_5120))))))))⟩, ⟨Cert.Reference20Ideal.S2048x1024, (mulf (mulf (shapeCast _ a3 Cert.Reference20Ideal.Gen.shapeCasts_S2048x1024_S2048x1024) a2) (mulf (Host.divf (broadcastInDim Cert.Reference20Ideal.S2048x1024 ![] Cert.Reference20Ideal.Gen.bcast_S_S2048x1024 (constant Cert.Reference20Ideal.S_ .f32 0x3F800000#32)) (addf (broadcastInDim Cert.Reference20Ideal.S2048x1024 ![] Cert.Reference20Ideal.Gen.bcast_S_S2048x1024 (constant Cert.Reference20Ideal.S_ .f32 0x3F800000#32)) (Host.exp (Host.negf (extractStridedSlice Cert.Reference20Ideal.S2048x1024 ![0, 6144] a0 Cert.Reference20Ideal.Gen.slices_S2048x7168_S2048x1024_0_6144))))) (subf (broadcastInDim Cert.Reference20Ideal.S2048x1024 ![] Cert.Reference20Ideal.Gen.bcast_S_S2048x1024 (constant Cert.Reference20Ideal.S_ .f32 0x3F800000#32)) (Host.divf (broadcastInDim Cert.Reference20Ideal.S2048x1024 ![] Cert.Reference20Ideal.Gen.bcast_S_S2048x1024 (constant Cert.Reference20Ideal.S_ .f32 0x3F800000#32)) (addf (broadcastInDim Cert.Reference20Ideal.S2048x1024 ![] Cert.Reference20Ideal.Gen.bcast_S_S2048x1024 (constant Cert.Reference20Ideal.S_ .f32 0x3F800000#32)) (Host.exp (Host.negf (extractStridedSlice Cert.Reference20Ideal.S2048x1024 ![0, 6144] a0 Cert.Reference20Ideal.Gen.slices_S2048x7168_S2048x1024_0_6144))))))))⟩] Cert.Reference20Ideal.Gen.concatenates_S2048x1024_S2048x1024_S2048x2048_d1) Cert.Reference20Ideal.Gen.bitsLt_bf16_f32

/-- What the reference computes, over its arguments. -/
abbrev REF1 (a0 : FVec Ideal Cert.Reference20Ideal.S2048x7168 .f32) (a3 : FVec Ideal Cert.Reference20Ideal.S2048x1024 .f32) : FVec Ideal Cert.Reference20Ideal.S2048x1024 .bf16 :=
  truncf .bf16 (mulf (Host.divf (broadcastInDim Cert.Reference20Ideal.S2048x1024 ![] Cert.Reference20Ideal.Gen.bcast_S_S2048x1024 (constant Cert.Reference20Ideal.S_ .f32 0x3F800000#32)) (addf (broadcastInDim Cert.Reference20Ideal.S2048x1024 ![] Cert.Reference20Ideal.Gen.bcast_S_S2048x1024 (constant Cert.Reference20Ideal.S_ .f32 0x3F800000#32)) (Host.exp (Host.negf (extractStridedSlice Cert.Reference20Ideal.S2048x1024 ![0, 5120] a0 Cert.Reference20Ideal.Gen.slices_S2048x7168_S2048x1024_0_5120))))) (shapeCast _ a3 Cert.Reference20Ideal.Gen.shapeCasts_S2048x1024_S2048x1024)) Cert.Reference20Ideal.Gen.bitsLt_bf16_f32

/-- What the reference computes, over its arguments. -/
abbrev REF2 (a0 : FVec Ideal Cert.Reference20Ideal.S2048x7168 .f32) (a3 : FVec Ideal Cert.Reference20Ideal.S2048x1024 .f32) : FVec Ideal Cert.Reference20Ideal.S2048x1024 .bf16 :=
  truncf .bf16 (mulf (Host.divf (broadcastInDim Cert.Reference20Ideal.S2048x1024 ![] Cert.Reference20Ideal.Gen.bcast_S_S2048x1024 (constant Cert.Reference20Ideal.S_ .f32 0x3F800000#32)) (addf (broadcastInDim Cert.Reference20Ideal.S2048x1024 ![] Cert.Reference20Ideal.Gen.bcast_S_S2048x1024 (constant Cert.Reference20Ideal.S_ .f32 0x3F800000#32)) (Host.exp (Host.negf (extractStridedSlice Cert.Reference20Ideal.S2048x1024 ![0, 6144] a0 Cert.Reference20Ideal.Gen.slices_S2048x7168_S2048x1024_0_6144))))) (shapeCast _ a3 Cert.Reference20Ideal.Gen.shapeCasts_S2048x1024_S2048x1024)) Cert.Reference20Ideal.Gen.bitsLt_bf16_f32

/-- The reference's gradient by the first gate. -/
theorem refL (a0 : FVec Ideal Cert.Reference20Ideal.S2048x7168 .f32) (a1 a2 a3 : FVec Ideal Cert.Reference20Ideal.S2048x1024 .f32) (r : Fin 2048) (n : Fin 1024) :
    REF0 a0 a1 a2 a3 (ix2 r ⟨n.val, by omega⟩) = (a3 (ix2 r n) * a1 (ix2 r n)) * (gate (a0 (ix2 r ⟨5120 + n.val, by omega⟩)) * (1 - gate (a0 (ix2 r ⟨5120 + n.val, by omega⟩)))) := by
  pointwise [REF0]

/-- The reference's gradient by the second gate. -/
theorem refR (a0 : FVec Ideal Cert.Reference20Ideal.S2048x7168 .f32) (a1 a2 a3 : FVec Ideal Cert.Reference20Ideal.S2048x1024 .f32) (r : Fin 2048) (n : Fin 1024) :
    REF0 a0 a1 a2 a3 (ix2 r ⟨1024 + n.val, by omega⟩) = (a3 (ix2 r n) * a2 (ix2 r n)) * (gate (a0 (ix2 r ⟨6144 + n.val, by omega⟩)) * (1 - gate (a0 (ix2 r ⟨6144 + n.val, by omega⟩)))) := by
  pointwise [REF0]

/-- What a point stores of the gradient by the first gate. -/
theorem payL (v0 v2 v4 : Vec Ideal S512x1024 .f32) (w : FVec Ideal S512x1024 .f32) (r : Fin 512) (n : Fin 1024) :
    k0_pay1 v2 (k0_pay4 v0) (k0_pay7 v0) (k0_pay10 v4) w (ix2 r ⟨n.val, by omega⟩) = (v4 (ix2 r n) * v2 (ix2 r n)) * (gate (v0 (ix2 r n)) * (1 - gate (v0 (ix2 r n)))) := by
  pointwise [k0_pay1, k0_pay4, k0_pay5, k0_pay7, k0_pay10]
  exact chain2 (v0 (ix2 r n)) (v4 (ix2 r n) * v2 (ix2 r n))

/-- The gradient by the second gate. -/
theorem pay13 (v1 v3 v4 : Vec Ideal S512x1024 .f32) (r : Fin 512) (n : Fin 1024) :
    k0_pay13 v1 v3 v4 (ix2 r n) = (v4 (ix2 r n) * v3 (ix2 r n)) * (gate (v1 (ix2 r n)) * (1 - gate (v1 (ix2 r n)))) := by
  pointwise [k0_pay8, k0_pay9, k0_pay11, k0_pay13]
  exact chain2 (v1 (ix2 r n)) (v4 (ix2 r n) * v3 (ix2 r n))

/-- What a point stores of the gradient by the second gate. -/
theorem payR (v2 : Vec Ideal S512x1024 .f32) (v7 v14 v25 w : FVec Ideal S512x1024 .f32) (r : Fin 512) (n : Fin 1024) :
    k0_pay1 v2 v7 v14 v25 w (ix2 r ⟨1024 + n.val, by omega⟩) = w (ix2 r n) := by
  pointwise [k0_pay1]

/-- Every window's block at every grid point. -/
theorem idx : ∀ t : Fin cfg0.N, win0_0.index t = ![t.val, 5] ∧ win0_1.index t = ![t.val, 6] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- What a point reads of the first gate. -/
theorem readA (c : Dev nD) (t : Fin cfg0.N) (r : Fin 512) (n : Fin 1024) (hr : t.val * 512 + r.val < 2048) :
    View.ld (iblk m c 0 t) r0_0 (ix2 r n) = m ((c : Thread nD τ).loc main_arg0) (ix2 ⟨t.val * 512 + r.val, hr⟩ ⟨5120 + n.val, by omega⟩) := by
  blk_ext [iblk, V, View.ld, idx t]
  all_goals first
    | (show _ + (0 + 1 * r.val) = _; omega)
    | (show _ + (0 + 1 * n.val) = _; omega)
    | (show 0 + 1 * n.val = _; omega)

/-- What a point reads of the second gate. -/
theorem readB (c : Dev nD) (t : Fin cfg0.N) (r : Fin 512) (n : Fin 1024) (hr : t.val * 512 + r.val < 2048) :
    View.ld (iblk m c 1 t) r0_0 (ix2 r n) = m ((c : Thread nD τ).loc main_arg0) (ix2 ⟨t.val * 512 + r.val, hr⟩ ⟨6144 + n.val, by omega⟩) := by
  blk_ext [iblk, V, View.ld, idx t]
  all_goals first
    | (show _ + (0 + 1 * r.val) = _; omega)
    | (show _ + (0 + 1 * n.val) = _; omega)
    | (show 0 + 1 * n.val = _; omega)

/-- What a point reads of the first branch. -/
theorem readY (c : Dev nD) (t : Fin cfg0.N) (r : Fin 512) (n : Fin 1024) (hr : t.val * 512 + r.val < 2048) :
    View.ld (iblk m c 2 t) r0_0 (ix2 r n) = m ((c : Thread nD τ).loc main_arg1) (ix2 ⟨t.val * 512 + r.val, hr⟩ n) := by
  blk_ext [iblk, V, View.ld, idx t]
  all_goals first
    | (show _ + (0 + 1 * r.val) = _; omega)
    | (show _ + (0 + 1 * n.val) = _; omega)
    | (show 0 + 1 * n.val = _; omega)

/-- What a point reads of the second branch. -/
theorem readZ (c : Dev nD) (t : Fin cfg0.N) (r : Fin 512) (n : Fin 1024) (hr : t.val * 512 + r.val < 2048) :
    View.ld (iblk m c 3 t) r0_0 (ix2 r n) = m ((c : Thread nD τ).loc main_arg2) (ix2 ⟨t.val * 512 + r.val, hr⟩ n) := by
  blk_ext [iblk, V, View.ld, idx t]
  all_goals first
    | (show _ + (0 + 1 * r.val) = _; omega)
    | (show _ + (0 + 1 * n.val) = _; omega)
    | (show 0 + 1 * n.val = _; omega)

/-- What a point reads of the incoming gradient. -/
theorem readC (c : Dev nD) (t : Fin cfg0.N) (r : Fin 512) (n : Fin 1024) (hr : t.val * 512 + r.val < 2048) :
    View.ld (iblk m c 4 t) r0_0 (ix2 r n) = m ((c : Thread nD τ).loc main_arg3) (ix2 ⟨t.val * 512 + r.val, hr⟩ n) := by
  blk_ext [iblk, V, View.ld, idx t]
  all_goals first
    | (show _ + (0 + 1 * r.val) = _; omega)
    | (show _ + (0 + 1 * n.val) = _; omega)
    | (show 0 + 1 * n.val = _; omega)

/-- The gradient by the two gates the call leaves is the reference's. -/
theorem final0 (c : Dev nD) : (dats m 0 c).arrAt 5 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  have ht : t.val < 4 := lt_of_lt_of_eq t.isLt N_0
  unfold out0_5 k0_pay14
  canon_tiles x h
  have hr : t.val * 512 + (x 0).val < 2048 := by have : (x 0).val < 512 := (x 0).isLt; omega
  by_cases hn : (x 1).val < 1024
  · have ex : x = ix2 (x 0) ⟨(⟨(x 1).val, hn⟩ : Fin 1024).val, by omega⟩ := by blk_ext
    refine Eq.trans (congrArg _ ex) ((payL _ _ _ _ (x 0) ⟨(x 1).val, hn⟩).trans (Eq.trans ?_ ((refL _ _ _ _ ⟨t.val * 512 + (x 0).val, hr⟩ ⟨(x 1).val, hn⟩).symm.trans (congrArg _ ?_))))
    · exact congrArg₂ (fun p b : EReal => p * (gate b * (1 - gate b))) (congrArg₂ (fun a d : EReal => a * d) (readC m c t _ _ hr) (readY m c t _ _ hr)) (readA m c t _ _ hr)
    · blk_ext [idx t]
  · have hx : (x 1).val < 2048 := (x 1).isLt
    have hn' : (x 1).val - 1024 < 1024 := by omega
    have ex : x = ix2 (x 0) ⟨1024 + (⟨(x 1).val - 1024, hn'⟩ : Fin 1024).val, by show 1024 + ((x 1).val - 1024) < 2048; omega⟩ := by
      blk_ext
      all_goals (show (x 1).val = 1024 + ((x 1).val - 1024); omega)
    refine Eq.trans (congrArg _ ex) ((payR _ _ _ _ _ (x 0) ⟨(x 1).val - 1024, hn'⟩).trans ((pay13 _ _ _ (x 0) ⟨(x 1).val - 1024, hn'⟩).trans (Eq.trans ?_ ((refR _ _ _ _ ⟨t.val * 512 + (x 0).val, hr⟩ ⟨(x 1).val - 1024, hn'⟩).symm.trans (congrArg _ ?_)))))
    · exact congrArg₂ (fun p b : EReal => p * (gate b * (1 - gate b))) (congrArg₂ (fun a d : EReal => a * d) (readC m c t _ _ hr) (readZ m c t _ _ hr)) (readB m c t _ _ hr)
    · blk_ext [idx t]

/-- The gradient by the first branch the call leaves is the reference's. -/
theorem final1 (c : Dev nD) : (dats m 0 c).arrAt 6 (cfgs 0).N = REF1 (m ((c : Thread nD τ).loc main_arg0)) (m ((c : Thread nD τ).loc main_arg3)) := by
  refine (dats m 0 c).arrAt_eq_of_covers 6 _ (by decide +kernel) fun t hf y => ?_
  blk_simp; rw [after0_6]; frame_out
  pointwise [k0_pay2, k0_pay4, k0_pay5, k0_pay6, k0_pay10, k0_pay14, REF1]
  simp only [zero_sub]
  blk_point [iblk, V, idx t]

/-- The gradient by the second branch the call leaves is the reference's. -/
theorem final2 (c : Dev nD) : (dats m 0 c).arrAt 7 (cfgs 0).N = REF2 (m ((c : Thread nD τ).loc main_arg0)) (m ((c : Thread nD τ).loc main_arg3)) := by
  refine (dats m 0 c).arrAt_eq_of_covers 7 _ (by decide +kernel) fun t hf y => ?_
  blk_simp; rw [after0_7]; frame_out
  pointwise [k0_pay3, k0_pay8, k0_pay9, k0_pay11, k0_pay12, k0_pay14, REF2]
  simp only [zero_sub]
  blk_point [iblk, V, idx t]

end Cert.Kernel20Ideal.Value

end
-- ==== Proof.Calls.Merge.lean ====
/- The mixer's two gates. -/
module

public import proofs.«01_k».proof.Proof.Gen.Kernel21Ideal.Value
public import proofs.«01_k».proof.Proof.Gen.Reference21Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel21Ideal.Value

open Cert.Kernel21Ideal Cert.Kernel21Ideal.Gen

variable (m : (ℓ : Loc nD τ sig) → Buf (Elt Ideal) ℓ)

/-- What the reference computes, over its arguments. -/
abbrev REF0 (a0 : FVec Ideal Cert.Reference21Ideal.S2048x7168 .f32) (a1 : FVec Ideal Cert.Reference21Ideal.S2048x1024 .f32) (a2 : FVec Ideal Cert.Reference21Ideal.S2048x1024 .f32) : FVec Ideal Cert.Reference21Ideal.S2048x1024 .bf16 :=
  truncf .bf16 (addf (mulf (Host.divf (broadcastInDim Cert.Reference21Ideal.S2048x1024 ![] Cert.Reference21Ideal.Gen.bcast_S_S2048x1024 (constant Cert.Reference21Ideal.S_ .f32 0x3F800000#32)) (addf (broadcastInDim Cert.Reference21Ideal.S2048x1024 ![] Cert.Reference21Ideal.Gen.bcast_S_S2048x1024 (constant Cert.Reference21Ideal.S_ .f32 0x3F800000#32)) (Host.exp (Host.negf (extractStridedSlice Cert.Reference21Ideal.S2048x1024 ![0, 5120] a0 Cert.Reference21Ideal.Gen.slices_S2048x7168_S2048x1024_0_5120))))) a1) (mulf (Host.divf (broadcastInDim Cert.Reference21Ideal.S2048x1024 ![] Cert.Reference21Ideal.Gen.bcast_S_S2048x1024 (constant Cert.Reference21Ideal.S_ .f32 0x3F800000#32)) (addf (broadcastInDim Cert.Reference21Ideal.S2048x1024 ![] Cert.Reference21Ideal.Gen.bcast_S_S2048x1024 (constant Cert.Reference21Ideal.S_ .f32 0x3F800000#32)) (Host.exp (Host.negf (extractStridedSlice Cert.Reference21Ideal.S2048x1024 ![0, 6144] a0 Cert.Reference21Ideal.Gen.slices_S2048x7168_S2048x1024_0_6144))))) a2)) Cert.Reference21Ideal.Gen.bitsLt_bf16_f32

/-- Every window's block at every grid point. -/
theorem idx : ∀ t : Fin cfg0.N, win0_0.index t = ![t.val, 5] ∧ win0_1.index t = ![t.val, 6] ∧ win0_2.index t = ![t.val, 0] ∧ win0_3.index t = ![t.val, 0] ∧ win0_4.index t = ![t.val, 0] :=
  (by decide +kernel : ∀ t : Fin grid0.N, _)

/-- The array the call leaves is the reference's. -/
theorem final (c : Dev nD) : (dats m 0 c).arrAt 4 (cfgs 0).N = REF0 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  pointwise [k0_pay1, REF0]
  simp only [zero_sub]
  blk_point [iblk, V, idx t]

end Cert.Kernel21Ideal.Value

end
-- ==== Proof.Calls.GateDx.lean ====
/- The gradient of the S5 gate by both halves of its product. -/
module

public import proofs.«01_k».proof.Proof.Gen.Kernel22Ideal.Value
public import proofs.«01_k».proof.Proof.Gen.Reference22Ideal.Run
public import proofs.«01_k».proof.Proof.Calls.Slope
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel22Ideal.Value

open Cert.Kernel22Ideal Cert.Kernel22Ideal.Gen Cert.Slope

variable (m : (ℓ : Loc nD τ sig) → Buf (Elt Ideal) ℓ)

/-- What the reference computes, over its arguments. -/
abbrev REF0 (a0 : FVec Ideal Cert.Reference22Ideal.S2048x2048 .f32) (a1 : FVec Ideal Cert.Reference22Ideal.S2048x1024 .f32) : FVec Ideal Cert.Reference22Ideal.S2048x2048 .bf16 :=
  truncf .bf16 (concatenate Cert.Reference22Ideal.S2048x2048 1 [⟨Cert.Reference22Ideal.S2048x1024, (mulf a1 (Host.divf (broadcastInDim Cert.Reference22Ideal.S2048x1024 ![] Cert.Reference22Ideal.Gen.bcast_S_S2048x1024 (constant Cert.Reference22Ideal.S_ .f32 0x3F800000#32)) (addf (broadcastInDim Cert.Reference22Ideal.S2048x1024 ![] Cert.Reference22Ideal.Gen.bcast_S_S2048x1024 (constant Cert.Reference22Ideal.S_ .f32 0x3F800000#32)) (Host.exp (Host.negf (extractStridedSlice Cert.Reference22Ideal.S2048x1024 ![0, 1024] a0 Cert.Reference22Ideal.Gen.slices_S2048x2048_S2048x1024_0_1024))))))⟩, ⟨Cert.Reference22Ideal.S2048x1024, (mulf (mulf (extractStridedSlice Cert.Reference22Ideal.S2048x1024 ![0, 0] a0 Cert.Reference22Ideal.Gen.slices_S2048x2048_S2048x1024_0_0) a1) (mulf (Host.divf (broadcastInDim Cert.Reference22Ideal.S2048x1024 ![] Cert.Reference22Ideal.Gen.bcast_S_S2048x1024 (constant Cert.Reference22Ideal.S_ .f32 0x3F800000#32)) (addf (broadcastInDim Cert.Reference22Ideal.S2048x1024 ![] Cert.Reference22Ideal.Gen.bcast_S_S2048x1024 (constant Cert.Reference22Ideal.S_ .f32 0x3F800000#32)) (Host.exp (Host.negf (extractStridedSlice Cert.Reference22Ideal.S2048x1024 ![0, 1024] a0 Cert.Reference22Ideal.Gen.slices_S2048x2048_S2048x1024_0_1024))))) (subf (broadcastInDim Cert.Reference22Ideal.S2048x1024 ![] Cert.Reference22Ideal.Gen.bcast_S_S2048x1024 (constant Cert.Reference22Ideal.S_ .f32 0x3F800000#32)) (Host.divf (broadcastInDim Cert.Reference22Ideal.S2048x1024 ![] Cert.Reference22Ideal.Gen.bcast_S_S2048x1024 (constant Cert.Reference22Ideal.S_ .f32 0x3F800000#32)) (addf (broadcastInDim Cert.Reference22Ideal.S2048x1024 ![] Cert.Reference22Ideal.Gen.bcast_S_S2048x1024 (constant Cert.Reference22Ideal.S_ .f32 0x3F800000#32)) (Host.exp (Host.negf (extractStridedSlice Cert.Reference22Ideal.S2048x1024 ![0, 1024] a0 Cert.Reference22Ideal.Gen.slices_S2048x2048_S2048x1024_0_1024))))))))⟩] Cert.Reference22Ideal.Gen.concatenates_S2048x1024_S2048x1024_S2048x2048_d1) Cert.Reference22Ideal.Gen.bitsLt_bf16_f32

/-- The reference's gradient by the value half. -/
theorem refL (a0 : FVec Ideal Cert.Reference22Ideal.S2048x2048 .f32) (a1 : FVec Ideal Cert.Reference22Ideal.S2048x1024 .f32) (r : Fin 2048) (n : Fin 1024) :
    REF0 a0 a1 (ix2 r ⟨n.val, by omega⟩) = a1 (ix2 r n) * gate (a0 (ix2 r ⟨1024 + n.val, by omega⟩)) := by
  pointwise [REF0]

/-- The reference's gradient by the gate half. -/
theorem refR (a0 : FVec Ideal Cert.Reference22Ideal.S2048x2048 .f32) (a1 : FVec Ideal Cert.Reference22Ideal.S2048x1024 .f32) (r : Fin 2048) (n : Fin 1024) :
    REF0 a0 a1 (ix2 r ⟨1024 + n.val, by omega⟩) = (a0 (ix2 r ⟨n.val, by omega⟩) * a1 (ix2 r n)) * (gate (a0 (ix2 r ⟨1024 + n.val, by omega⟩)) * (1 - gate (a0 (ix2 r ⟨1024 + n.val, by omega⟩)))) := by
  pointwise [REF0]

/-- What a point stores of the gradient by the value half. -/
theorem payL (v0 v1 v2 : Vec Ideal S512x1024 .f32) (r : Fin 512) (n : Fin 1024) :
    k0_pay1 v0 v1 v2 (ix2 r ⟨n.val, by omega⟩) = v2 (ix2 r n) * gate (v1 (ix2 r n)) := by
  pointwise [k0_pay1]
  simp only [gate, zero_sub]

/-- What a point stores of the gradient by the gate half. -/
theorem payR (v0 v1 v2 : Vec Ideal S512x1024 .f32) (r : Fin 512) (n : Fin 1024) :
    k0_pay1 v0 v1 v2 (ix2 r ⟨1024 + n.val, by omega⟩) = (v0 (ix2 r n) * v2 (ix2 r n)) * (gate (v1 (ix2 r n)) * (1 - gate (v1 (ix2 r n)))) := by
  pointwise [k0_pay1]
  exact chain2 (v1 (ix2 r n)) (v0 (ix2 r n) * v2 (ix2 r n))

/-- Every window's block at every grid point. -/
theorem idx : ∀ t : Fin cfg0.N, win0_0.index t = ![t.val, 0] ∧ win0_1.index t = ![t.val, 1] ∧ win0_2.index t = ![t.val, 0] ∧ win0_3.index t = ![t.val, 0] :=
  (by decide +kernel : ∀ t : Fin grid0.N, _)

/-- What a point reads of the value half. -/
theorem readV (c : Dev nD) (t : Fin cfg0.N) (r : Fin 512) (n : Fin 1024) (hr : t.val * 512 + r.val < 2048) :
    View.ld (iblk m c 0 t) r0_0 (ix2 r n) = m ((c : Thread nD τ).loc main_arg0) (ix2 ⟨t.val * 512 + r.val, hr⟩ ⟨n.val, by omega⟩) := by
  blk_ext [iblk, V, View.ld, idx t]
  all_goals first
    | (show _ + (0 + 1 * r.val) = _; omega)
    | (show _ + (0 + 1 * n.val) = _; omega)
    | (show 0 + 1 * n.val = _; omega)

/-- What a point reads of the gate half. -/
theorem readG (c : Dev nD) (t : Fin cfg0.N) (r : Fin 512) (n : Fin 1024) (hr : t.val * 512 + r.val < 2048) :
    View.ld (iblk m c 1 t) r0_0 (ix2 r n) = m ((c : Thread nD τ).loc main_arg0) (ix2 ⟨t.val * 512 + r.val, hr⟩ ⟨1024 + n.val, by omega⟩) := by
  blk_ext [iblk, V, View.ld, idx t]
  all_goals first
    | (show _ + (0 + 1 * r.val) = _; omega)
    | (show _ + (0 + 1 * n.val) = _; omega)
    | (show 0 + 1 * n.val = _; omega)

/-- What a point reads of the incoming gradient. -/
theorem readC (c : Dev nD) (t : Fin cfg0.N) (r : Fin 512) (n : Fin 1024) (hr : t.val * 512 + r.val < 2048) :
    View.ld (iblk m c 2 t) r0_0 (ix2 r n) = m ((c : Thread nD τ).loc main_arg1) (ix2 ⟨t.val * 512 + r.val, hr⟩ n) := by
  blk_ext [iblk, V, View.ld, idx t]
  all_goals first
    | (show _ + (0 + 1 * r.val) = _; omega)
    | (show _ + (0 + 1 * n.val) = _; omega)
    | (show 0 + 1 * n.val = _; omega)

/-- The array the call leaves is the reference's. -/
theorem final (c : Dev nD) : (dats m 0 c).arrAt 3 (cfgs 0).N = REF0 (m ((c : Thread nD τ).loc main_arg0)) (m ((c : Thread nD τ).loc main_arg1)) := by
  refine (dats m 0 c).arrAt_eq_of_covers 3 _ (by decide +kernel) fun t hf y => ?_
  blk_simp; rw [after0_3]
  have ht : t.val < 4 := lt_of_lt_of_eq t.isLt N_0
  unfold out0_3
  canon_tiles x h
  have hr : t.val * 512 + (x 0).val < 2048 := by have : (x 0).val < 512 := (x 0).isLt; omega
  by_cases hn : (x 1).val < 1024
  · have ex : x = ix2 (x 0) ⟨(⟨(x 1).val, hn⟩ : Fin 1024).val, by omega⟩ := by blk_ext
    refine Eq.trans (congrArg _ ex) ((payL _ _ _ (x 0) ⟨(x 1).val, hn⟩).trans (Eq.trans ?_ ((refL _ _ ⟨t.val * 512 + (x 0).val, hr⟩ ⟨(x 1).val, hn⟩).symm.trans (congrArg _ ?_))))
    · exact congrArg₂ (fun d a : EReal => d * gate a) (readC m c t _ _ hr) (readG m c t _ _ hr)
    · blk_ext [idx t]
  · have hx : (x 1).val < 2048 := (x 1).isLt
    have hn' : (x 1).val - 1024 < 1024 := by omega
    have ex : x = ix2 (x 0) ⟨1024 + (⟨(x 1).val - 1024, hn'⟩ : Fin 1024).val, by show 1024 + ((x 1).val - 1024) < 2048; omega⟩ := by
      blk_ext
      all_goals (show (x 1).val = 1024 + ((x 1).val - 1024); omega)
    refine Eq.trans (congrArg _ ex) ((payR _ _ _ (x 0) ⟨(x 1).val - 1024, hn'⟩).trans (Eq.trans ?_ ((refR _ _ ⟨t.val * 512 + (x 0).val, hr⟩ ⟨(x 1).val - 1024, hn'⟩).symm.trans (congrArg _ ?_))))
    · exact congrArg₂ (fun p b : EReal => p * (gate b * (1 - gate b))) (congrArg₂ (fun a d : EReal => a * d) (readV m c t _ _ hr) (readC m c t _ _ hr)) (readG m c t _ _ hr)
    · blk_ext [idx t]

end Cert.Kernel22Ideal.Value

end
-- ==== Proof.Calls.Gate.lean ====
/- The S5 gate. -/
module

public import proofs.«01_k».proof.Proof.Gen.Kernel23Ideal.Value
public import proofs.«01_k».proof.Proof.Gen.Reference23Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel23Ideal.Value

open Cert.Kernel23Ideal Cert.Kernel23Ideal.Gen

variable (m : (ℓ : Loc nD τ sig) → Buf (Elt Ideal) ℓ)

/-- What the reference computes, over its arguments. -/
abbrev REF0 (a0 : FVec Ideal Cert.Reference23Ideal.S2048x2048 .f32) : FVec Ideal Cert.Reference23Ideal.S2048x1024 .bf16 :=
  truncf .bf16 (mulf (extractStridedSlice Cert.Reference23Ideal.S2048x1024 ![0, 0] a0 Cert.Reference23Ideal.Gen.slices_S2048x2048_S2048x1024_0_0) (Host.divf (broadcastInDim Cert.Reference23Ideal.S2048x1024 ![] Cert.Reference23Ideal.Gen.bcast_S_S2048x1024 (constant Cert.Reference23Ideal.S_ .f32 0x3F800000#32)) (addf (broadcastInDim Cert.Reference23Ideal.S2048x1024 ![] Cert.Reference23Ideal.Gen.bcast_S_S2048x1024 (constant Cert.Reference23Ideal.S_ .f32 0x3F800000#32)) (Host.exp (Host.negf (extractStridedSlice Cert.Reference23Ideal.S2048x1024 ![0, 1024] a0 Cert.Reference23Ideal.Gen.slices_S2048x2048_S2048x1024_0_1024)))))) Cert.Reference23Ideal.Gen.bitsLt_bf16_f32

/-- Every window's block at every grid point. -/
theorem idx : ∀ t : Fin cfg0.N, win0_0.index t = ![t.val, 0] ∧ win0_1.index t = ![t.val, 1] ∧ win0_2.index t = ![t.val, 0] :=
  (by decide +kernel : ∀ t : Fin grid0.N, _)

/-- The array the call leaves is the reference's. -/
theorem final (c : Dev nD) : (dats m 0 c).arrAt 2 (cfgs 0).N = REF0 (m ((c : Thread nD τ).loc main_arg0)) := by
  refine (dats m 0 c).arrAt_eq_of_covers 2 _ (by decide +kernel) fun t hf y => ?_
  blk_simp; rw [after0_2]; frame_out
  pointwise [k0_pay1, REF0]
  simp only [zero_sub]
  blk_point [iblk, V, idx t]

end Cert.Kernel23Ideal.Value

end
-- ==== Proof.Calls.AdamGains.lean ====
/- The optimiser's step of the gains and of the S5 skip. -/
module

public import proofs.«01_k».proof.Proof.Gen.Kernel24Ideal.Value
public import proofs.«01_k».proof.Proof.Gen.Reference24Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel24Ideal.Value

open Cert.Kernel24Ideal Cert.Kernel24Ideal.Gen

variable (m : (ℓ : Loc nD τ sig) → Buf (Elt Ideal) ℓ)

/-- The reference's gradient, over its arguments. -/
abbrev REF0 (a1 : FVec Ideal Cert.Reference24Ideal.S2x1024 .f32) : FVec Ideal Cert.Reference24Ideal.S2x1024 .f32 :=
  a1

/-- The reference's change of the weight, over its arguments. -/
abbrev REF1 (a0 : FVec Ideal Cert.Reference24Ideal.S2x1024 .f32) (a1 : FVec Ideal Cert.Reference24Ideal.S2x1024 .f32) (a2 : FVec Ideal Cert.Reference24Ideal.S2x1024 .f32) (a3 : FVec Ideal Cert.Reference24Ideal.S2x1024 .f32) : FVec Ideal Cert.Reference24Ideal.S2x1024 .f32 :=
  mulf (broadcastInDim Cert.Reference24Ideal.S2x1024 ![] Cert.Reference24Ideal.Gen.bcast_S_S2x1024 (constant Cert.Reference24Ideal.S_ .f32 0xBA83126F#32)) (addf (Host.divf (Host.divf (addf (mulf (broadcastInDim Cert.Reference24Ideal.S2x1024 ![] Cert.Reference24Ideal.Gen.bcast_S_S2x1024 (constant Cert.Reference24Ideal.S_ .f32 0x3F666666#32)) a2) (mulf (broadcastInDim Cert.Reference24Ideal.S2x1024 ![] Cert.Reference24Ideal.Gen.bcast_S_S2x1024 (constant Cert.Reference24Ideal.S_ .f32 0x3DCCCCCD#32)) a1)) (broadcastInDim Cert.Reference24Ideal.S2x1024 ![] Cert.Reference24Ideal.Gen.bcast_S_S2x1024 (constant Cert.Reference24Ideal.S_ .f32 0x3F26BD02#32))) (addf (Host.sqrt (Host.divf (addf (mulf (broadcastInDim Cert.Reference24Ideal.S2x1024 ![] Cert.Reference24Ideal.Gen.bcast_S_S2x1024 (constant Cert.Reference24Ideal.S_ .f32 0x3F7FBE77#32)) a3) (mulf (broadcastInDim Cert.Reference24Ideal.S2x1024 ![] Cert.Reference24Ideal.Gen.bcast_S_S2x1024 (constant Cert.Reference24Ideal.S_ .f32 0x3A83126F#32)) (mulf a1 a1))) (broadcastInDim Cert.Reference24Ideal.S2x1024 ![] Cert.Reference24Ideal.Gen.bcast_S_S2x1024 (constant Cert.Reference24Ideal.S_ .f32 0x3C231ACC#32)))) (broadcastInDim Cert.Reference24Ideal.S2x1024 ![] Cert.Reference24Ideal.Gen.bcast_S_S2x1024 (constant Cert.Reference24Ideal.S_ .f32 0x322BCC77#32)))) (mulf (broadcastInDim Cert.Reference24Ideal.S2x1024 ![] Cert.Reference24Ideal.Gen.bcast_S_S2x1024 (constant Cert.Reference24Ideal.S_ .f32 0x3C23D70A#32)) a0))

/-- The reference's first moment, over its arguments. -/
abbrev REF2 (a1 : FVec Ideal Cert.Reference24Ideal.S2x1024 .f32) (a2 : FVec Ideal Cert.Reference24Ideal.S2x1024 .f32) : FVec Ideal Cert.Reference24Ideal.S2x1024 .f32 :=
  addf (mulf (broadcastInDim Cert.Reference24Ideal.S2x1024 ![] Cert.Reference24Ideal.Gen.bcast_S_S2x1024 (constant Cert.Reference24Ideal.S_ .f32 0x3F666666#32)) a2) (mulf (broadcastInDim Cert.Reference24Ideal.S2x1024 ![] Cert.Reference24Ideal.Gen.bcast_S_S2x1024 (constant Cert.Reference24Ideal.S_ .f32 0x3DCCCCCD#32)) a1)

/-- The reference's second moment, over its arguments. -/
abbrev REF3 (a1 : FVec Ideal Cert.Reference24Ideal.S2x1024 .f32) (a3 : FVec Ideal Cert.Reference24Ideal.S2x1024 .f32) : FVec Ideal Cert.Reference24Ideal.S2x1024 .f32 :=
  addf (mulf (broadcastInDim Cert.Reference24Ideal.S2x1024 ![] Cert.Reference24Ideal.Gen.bcast_S_S2x1024 (constant Cert.Reference24Ideal.S_ .f32 0x3F7FBE77#32)) a3) (mulf (broadcastInDim Cert.Reference24Ideal.S2x1024 ![] Cert.Reference24Ideal.Gen.bcast_S_S2x1024 (constant Cert.Reference24Ideal.S_ .f32 0x3A83126F#32)) (mulf a1 a1))

/-- Every window's block at the one grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The gradient the call leaves is the reference's. -/
theorem final0 (c : Dev nD) : (dats m 0 c).arrAt 4 (cfgs 0).N = REF0 (m ((c : Thread nD τ).loc main_arg1)) := by
  refine (dats m 0 c).arrAt_eq_of_covers 4 _ (by decide +kernel) fun t hf y => ?_
  blk_simp; rw [after0_4]; frame_out
  pointwise [k0_pay1, k0_pay2, k0_pay3, REF0]
  blk_point [iblk, V, idx t]

/-- The change of the weight the call leaves is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, REF1]
  blk_point [iblk, V, idx t]

/-- The first moment the call leaves is the reference's. -/
theorem final2 (c : Dev nD) : (dats m 0 c).arrAt 6 (cfgs 0).N = REF2 (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, REF2]
  blk_point [iblk, V, idx t]

/-- The second moment the call leaves is the reference's. -/
theorem final3 (c : Dev nD) : (dats m 0 c).arrAt 7 (cfgs 0).N = REF3 (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, REF3]
  blk_point [iblk, V, idx t]

end Cert.Kernel24Ideal.Value

end
-- ==== Proof.Calls.AdamConvB.lean ====
/- The optimiser's step of the convolution's bias. -/
module

public import proofs.«01_k».proof.Proof.Gen.Kernel25Ideal.Value
public import proofs.«01_k».proof.Proof.Gen.Reference25Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel25Ideal.Value

open Cert.Kernel25Ideal Cert.Kernel25Ideal.Gen

variable (m : (ℓ : Loc nD τ sig) → Buf (Elt Ideal) ℓ)

/-- The reference's gradient, over its arguments. -/
abbrev REF0 (a1 : FVec Ideal Cert.Reference25Ideal.S2x3072 .f32) : FVec Ideal Cert.Reference25Ideal.S2x3072 .f32 :=
  a1

/-- The reference's change of the weight, over its arguments. -/
abbrev REF1 (a0 : FVec Ideal Cert.Reference25Ideal.S2x3072 .f32) (a1 : FVec Ideal Cert.Reference25Ideal.S2x3072 .f32) (a2 : FVec Ideal Cert.Reference25Ideal.S2x3072 .f32) (a3 : FVec Ideal Cert.Reference25Ideal.S2x3072 .f32) : FVec Ideal Cert.Reference25Ideal.S2x3072 .f32 :=
  mulf (broadcastInDim Cert.Reference25Ideal.S2x3072 ![] Cert.Reference25Ideal.Gen.bcast_S_S2x3072 (constant Cert.Reference25Ideal.S_ .f32 0xBA83126F#32)) (addf (Host.divf (Host.divf (addf (mulf (broadcastInDim Cert.Reference25Ideal.S2x3072 ![] Cert.Reference25Ideal.Gen.bcast_S_S2x3072 (constant Cert.Reference25Ideal.S_ .f32 0x3F666666#32)) a2) (mulf (broadcastInDim Cert.Reference25Ideal.S2x3072 ![] Cert.Reference25Ideal.Gen.bcast_S_S2x3072 (constant Cert.Reference25Ideal.S_ .f32 0x3DCCCCCD#32)) a1)) (broadcastInDim Cert.Reference25Ideal.S2x3072 ![] Cert.Reference25Ideal.Gen.bcast_S_S2x3072 (constant Cert.Reference25Ideal.S_ .f32 0x3F26BD02#32))) (addf (Host.sqrt (Host.divf (addf (mulf (broadcastInDim Cert.Reference25Ideal.S2x3072 ![] Cert.Reference25Ideal.Gen.bcast_S_S2x3072 (constant Cert.Reference25Ideal.S_ .f32 0x3F7FBE77#32)) a3) (mulf (broadcastInDim Cert.Reference25Ideal.S2x3072 ![] Cert.Reference25Ideal.Gen.bcast_S_S2x3072 (constant Cert.Reference25Ideal.S_ .f32 0x3A83126F#32)) (mulf a1 a1))) (broadcastInDim Cert.Reference25Ideal.S2x3072 ![] Cert.Reference25Ideal.Gen.bcast_S_S2x3072 (constant Cert.Reference25Ideal.S_ .f32 0x3C231ACC#32)))) (broadcastInDim Cert.Reference25Ideal.S2x3072 ![] Cert.Reference25Ideal.Gen.bcast_S_S2x3072 (constant Cert.Reference25Ideal.S_ .f32 0x322BCC77#32)))) (mulf (broadcastInDim Cert.Reference25Ideal.S2x3072 ![] Cert.Reference25Ideal.Gen.bcast_S_S2x3072 (constant Cert.Reference25Ideal.S_ .f32 0x3C23D70A#32)) a0))

/-- The reference's first moment, over its arguments. -/
abbrev REF2 (a1 : FVec Ideal Cert.Reference25Ideal.S2x3072 .f32) (a2 : FVec Ideal Cert.Reference25Ideal.S2x3072 .f32) : FVec Ideal Cert.Reference25Ideal.S2x3072 .f32 :=
  addf (mulf (broadcastInDim Cert.Reference25Ideal.S2x3072 ![] Cert.Reference25Ideal.Gen.bcast_S_S2x3072 (constant Cert.Reference25Ideal.S_ .f32 0x3F666666#32)) a2) (mulf (broadcastInDim Cert.Reference25Ideal.S2x3072 ![] Cert.Reference25Ideal.Gen.bcast_S_S2x3072 (constant Cert.Reference25Ideal.S_ .f32 0x3DCCCCCD#32)) a1)

/-- The reference's second moment, over its arguments. -/
abbrev REF3 (a1 : FVec Ideal Cert.Reference25Ideal.S2x3072 .f32) (a3 : FVec Ideal Cert.Reference25Ideal.S2x3072 .f32) : FVec Ideal Cert.Reference25Ideal.S2x3072 .f32 :=
  addf (mulf (broadcastInDim Cert.Reference25Ideal.S2x3072 ![] Cert.Reference25Ideal.Gen.bcast_S_S2x3072 (constant Cert.Reference25Ideal.S_ .f32 0x3F7FBE77#32)) a3) (mulf (broadcastInDim Cert.Reference25Ideal.S2x3072 ![] Cert.Reference25Ideal.Gen.bcast_S_S2x3072 (constant Cert.Reference25Ideal.S_ .f32 0x3A83126F#32)) (mulf a1 a1))

/-- Every window's block at the one grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The gradient the call leaves is the reference's. -/
theorem final0 (c : Dev nD) : (dats m 0 c).arrAt 4 (cfgs 0).N = REF0 (m ((c : Thread nD τ).loc main_arg1)) := by
  refine (dats m 0 c).arrAt_eq_of_covers 4 _ (by decide +kernel) fun t hf y => ?_
  blk_simp; rw [after0_4]; frame_out
  pointwise [k0_pay1, k0_pay2, k0_pay3, REF0]
  blk_point [iblk, V, idx t]

/-- The change of the weight the call leaves is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, REF1]
  blk_point [iblk, V, idx t]

/-- The first moment the call leaves is the reference's. -/
theorem final2 (c : Dev nD) : (dats m 0 c).arrAt 6 (cfgs 0).N = REF2 (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, REF2]
  blk_point [iblk, V, idx t]

/-- The second moment the call leaves is the reference's. -/
theorem final3 (c : Dev nD) : (dats m 0 c).arrAt 7 (cfgs 0).N = REF3 (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, REF3]
  blk_point [iblk, V, idx t]

end Cert.Kernel25Ideal.Value

end
-- ==== Proof.Calls.AdamNorm.lean ====
/- The optimiser's step of the scan's norm. -/
module

public import proofs.«01_k».proof.Proof.Gen.Kernel26Ideal.Value
public import proofs.«01_k».proof.Proof.Gen.Reference26Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel26Ideal.Value

open Cert.Kernel26Ideal Cert.Kernel26Ideal.Gen

variable (m : (ℓ : Loc nD τ sig) → Buf (Elt Ideal) ℓ)

/-- The reference's gradient, over its arguments. -/
abbrev REF0 (a1 : FVec Ideal Cert.Reference26Ideal.S2x2048 .f32) : FVec Ideal Cert.Reference26Ideal.S2x2048 .f32 :=
  a1

/-- The reference's change of the weight, over its arguments. -/
abbrev REF1 (a0 : FVec Ideal Cert.Reference26Ideal.S2x2048 .f32) (a1 : FVec Ideal Cert.Reference26Ideal.S2x2048 .f32) (a2 : FVec Ideal Cert.Reference26Ideal.S2x2048 .f32) (a3 : FVec Ideal Cert.Reference26Ideal.S2x2048 .f32) : FVec Ideal Cert.Reference26Ideal.S2x2048 .f32 :=
  mulf (broadcastInDim Cert.Reference26Ideal.S2x2048 ![] Cert.Reference26Ideal.Gen.bcast_S_S2x2048 (constant Cert.Reference26Ideal.S_ .f32 0xBA83126F#32)) (addf (Host.divf (Host.divf (addf (mulf (broadcastInDim Cert.Reference26Ideal.S2x2048 ![] Cert.Reference26Ideal.Gen.bcast_S_S2x2048 (constant Cert.Reference26Ideal.S_ .f32 0x3F666666#32)) a2) (mulf (broadcastInDim Cert.Reference26Ideal.S2x2048 ![] Cert.Reference26Ideal.Gen.bcast_S_S2x2048 (constant Cert.Reference26Ideal.S_ .f32 0x3DCCCCCD#32)) a1)) (broadcastInDim Cert.Reference26Ideal.S2x2048 ![] Cert.Reference26Ideal.Gen.bcast_S_S2x2048 (constant Cert.Reference26Ideal.S_ .f32 0x3F26BD02#32))) (addf (Host.sqrt (Host.divf (addf (mulf (broadcastInDim Cert.Reference26Ideal.S2x2048 ![] Cert.Reference26Ideal.Gen.bcast_S_S2x2048 (constant Cert.Reference26Ideal.S_ .f32 0x3F7FBE77#32)) a3) (mulf (broadcastInDim Cert.Reference26Ideal.S2x2048 ![] Cert.Reference26Ideal.Gen.bcast_S_S2x2048 (constant Cert.Reference26Ideal.S_ .f32 0x3A83126F#32)) (mulf a1 a1))) (broadcastInDim Cert.Reference26Ideal.S2x2048 ![] Cert.Reference26Ideal.Gen.bcast_S_S2x2048 (constant Cert.Reference26Ideal.S_ .f32 0x3C231ACC#32)))) (broadcastInDim Cert.Reference26Ideal.S2x2048 ![] Cert.Reference26Ideal.Gen.bcast_S_S2x2048 (constant Cert.Reference26Ideal.S_ .f32 0x322BCC77#32)))) (mulf (broadcastInDim Cert.Reference26Ideal.S2x2048 ![] Cert.Reference26Ideal.Gen.bcast_S_S2x2048 (constant Cert.Reference26Ideal.S_ .f32 0x3C23D70A#32)) a0))

/-- The reference's first moment, over its arguments. -/
abbrev REF2 (a1 : FVec Ideal Cert.Reference26Ideal.S2x2048 .f32) (a2 : FVec Ideal Cert.Reference26Ideal.S2x2048 .f32) : FVec Ideal Cert.Reference26Ideal.S2x2048 .f32 :=
  addf (mulf (broadcastInDim Cert.Reference26Ideal.S2x2048 ![] Cert.Reference26Ideal.Gen.bcast_S_S2x2048 (constant Cert.Reference26Ideal.S_ .f32 0x3F666666#32)) a2) (mulf (broadcastInDim Cert.Reference26Ideal.S2x2048 ![] Cert.Reference26Ideal.Gen.bcast_S_S2x2048 (constant Cert.Reference26Ideal.S_ .f32 0x3DCCCCCD#32)) a1)

/-- The reference's second moment, over its arguments. -/
abbrev REF3 (a1 : FVec Ideal Cert.Reference26Ideal.S2x2048 .f32) (a3 : FVec Ideal Cert.Reference26Ideal.S2x2048 .f32) : FVec Ideal Cert.Reference26Ideal.S2x2048 .f32 :=
  addf (mulf (broadcastInDim Cert.Reference26Ideal.S2x2048 ![] Cert.Reference26Ideal.Gen.bcast_S_S2x2048 (constant Cert.Reference26Ideal.S_ .f32 0x3F7FBE77#32)) a3) (mulf (broadcastInDim Cert.Reference26Ideal.S2x2048 ![] Cert.Reference26Ideal.Gen.bcast_S_S2x2048 (constant Cert.Reference26Ideal.S_ .f32 0x3A83126F#32)) (mulf a1 a1))

/-- Every window's block at the one grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The gradient the call leaves is the reference's. -/
theorem final0 (c : Dev nD) : (dats m 0 c).arrAt 4 (cfgs 0).N = REF0 (m ((c : Thread nD τ).loc main_arg1)) := by
  refine (dats m 0 c).arrAt_eq_of_covers 4 _ (by decide +kernel) fun t hf y => ?_
  blk_simp; rw [after0_4]; frame_out
  pointwise [k0_pay1, k0_pay2, k0_pay3, REF0]
  blk_point [iblk, V, idx t]

/-- The change of the weight the call leaves is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, REF1]
  blk_point [iblk, V, idx t]

/-- The first moment the call leaves is the reference's. -/
theorem final2 (c : Dev nD) : (dats m 0 c).arrAt 6 (cfgs 0).N = REF2 (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, REF2]
  blk_point [iblk, V, idx t]

/-- The second moment the call leaves is the reference's. -/
theorem final3 (c : Dev nD) : (dats m 0 c).arrAt 7 (cfgs 0).N = REF3 (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, REF3]
  blk_point [iblk, V, idx t]

end Cert.Kernel26Ideal.Value

end
-- ==== Proof.Calls.AdamHeads.lean ====
/- The optimiser's step of the scan's weights of one number a head. -/
module

public import proofs.«01_k».proof.Proof.Gen.Kernel27Ideal.Value
public import proofs.«01_k».proof.Proof.Gen.Reference27Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel27Ideal.Value

open Cert.Kernel27Ideal Cert.Kernel27Ideal.Gen

variable (m : (ℓ : Loc nD τ sig) → Buf (Elt Ideal) ℓ)

/-- The reference's gradient, over its arguments. -/
abbrev REF0 (a1 : FVec Ideal Cert.Reference27Ideal.S2x32 .f32) : FVec Ideal Cert.Reference27Ideal.S2x32 .f32 :=
  a1

/-- The reference's change of the weight, over its arguments. -/
abbrev REF1 (a0 : FVec Ideal Cert.Reference27Ideal.S2x32 .f32) (a1 : FVec Ideal Cert.Reference27Ideal.S2x32 .f32) (a2 : FVec Ideal Cert.Reference27Ideal.S2x32 .f32) (a3 : FVec Ideal Cert.Reference27Ideal.S2x32 .f32) : FVec Ideal Cert.Reference27Ideal.S2x32 .f32 :=
  mulf (broadcastInDim Cert.Reference27Ideal.S2x32 ![] Cert.Reference27Ideal.Gen.bcast_S_S2x32 (constant Cert.Reference27Ideal.S_ .f32 0xBA83126F#32)) (addf (Host.divf (Host.divf (addf (mulf (broadcastInDim Cert.Reference27Ideal.S2x32 ![] Cert.Reference27Ideal.Gen.bcast_S_S2x32 (constant Cert.Reference27Ideal.S_ .f32 0x3F666666#32)) a2) (mulf (broadcastInDim Cert.Reference27Ideal.S2x32 ![] Cert.Reference27Ideal.Gen.bcast_S_S2x32 (constant Cert.Reference27Ideal.S_ .f32 0x3DCCCCCD#32)) a1)) (broadcastInDim Cert.Reference27Ideal.S2x32 ![] Cert.Reference27Ideal.Gen.bcast_S_S2x32 (constant Cert.Reference27Ideal.S_ .f32 0x3F26BD02#32))) (addf (Host.sqrt (Host.divf (addf (mulf (broadcastInDim Cert.Reference27Ideal.S2x32 ![] Cert.Reference27Ideal.Gen.bcast_S_S2x32 (constant Cert.Reference27Ideal.S_ .f32 0x3F7FBE77#32)) a3) (mulf (broadcastInDim Cert.Reference27Ideal.S2x32 ![] Cert.Reference27Ideal.Gen.bcast_S_S2x32 (constant Cert.Reference27Ideal.S_ .f32 0x3A83126F#32)) (mulf a1 a1))) (broadcastInDim Cert.Reference27Ideal.S2x32 ![] Cert.Reference27Ideal.Gen.bcast_S_S2x32 (constant Cert.Reference27Ideal.S_ .f32 0x3C231ACC#32)))) (broadcastInDim Cert.Reference27Ideal.S2x32 ![] Cert.Reference27Ideal.Gen.bcast_S_S2x32 (constant Cert.Reference27Ideal.S_ .f32 0x322BCC77#32)))) (mulf (broadcastInDim Cert.Reference27Ideal.S2x32 ![] Cert.Reference27Ideal.Gen.bcast_S_S2x32 (constant Cert.Reference27Ideal.S_ .f32 0x3C23D70A#32)) a0))

/-- The reference's first moment, over its arguments. -/
abbrev REF2 (a1 : FVec Ideal Cert.Reference27Ideal.S2x32 .f32) (a2 : FVec Ideal Cert.Reference27Ideal.S2x32 .f32) : FVec Ideal Cert.Reference27Ideal.S2x32 .f32 :=
  addf (mulf (broadcastInDim Cert.Reference27Ideal.S2x32 ![] Cert.Reference27Ideal.Gen.bcast_S_S2x32 (constant Cert.Reference27Ideal.S_ .f32 0x3F666666#32)) a2) (mulf (broadcastInDim Cert.Reference27Ideal.S2x32 ![] Cert.Reference27Ideal.Gen.bcast_S_S2x32 (constant Cert.Reference27Ideal.S_ .f32 0x3DCCCCCD#32)) a1)

/-- The reference's second moment, over its arguments. -/
abbrev REF3 (a1 : FVec Ideal Cert.Reference27Ideal.S2x32 .f32) (a3 : FVec Ideal Cert.Reference27Ideal.S2x32 .f32) : FVec Ideal Cert.Reference27Ideal.S2x32 .f32 :=
  addf (mulf (broadcastInDim Cert.Reference27Ideal.S2x32 ![] Cert.Reference27Ideal.Gen.bcast_S_S2x32 (constant Cert.Reference27Ideal.S_ .f32 0x3F7FBE77#32)) a3) (mulf (broadcastInDim Cert.Reference27Ideal.S2x32 ![] Cert.Reference27Ideal.Gen.bcast_S_S2x32 (constant Cert.Reference27Ideal.S_ .f32 0x3A83126F#32)) (mulf a1 a1))

/-- Every window's block at the one grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The gradient the call leaves is the reference's. -/
theorem final0 (c : Dev nD) : (dats m 0 c).arrAt 4 (cfgs 0).N = REF0 (m ((c : Thread nD τ).loc main_arg1)) := by
  refine (dats m 0 c).arrAt_eq_of_covers 4 _ (by decide +kernel) fun t hf y => ?_
  blk_simp; rw [after0_4]; frame_out
  pointwise [k0_pay1, k0_pay2, k0_pay3, REF0]
  blk_point [iblk, V, idx t]

/-- The change of the weight the call leaves is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, REF1]
  blk_point [iblk, V, idx t]

/-- The first moment the call leaves is the reference's. -/
theorem final2 (c : Dev nD) : (dats m 0 c).arrAt 6 (cfgs 0).N = REF2 (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, REF2]
  blk_point [iblk, V, idx t]

/-- The second moment the call leaves is the reference's. -/
theorem final3 (c : Dev nD) : (dats m 0 c).arrAt 7 (cfgs 0).N = REF3 (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, REF3]
  blk_point [iblk, V, idx t]

end Cert.Kernel27Ideal.Value

end
-- ==== Proof.Calls.AdamStep.lean ====
/- The optimiser's step of the S5 step sizes. -/
module

public import proofs.«01_k».proof.Proof.Gen.Kernel28Ideal.Value
public import proofs.«01_k».proof.Proof.Gen.Reference28Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel28Ideal.Value

open Cert.Kernel28Ideal Cert.Kernel28Ideal.Gen

variable (m : (ℓ : Loc nD τ sig) → Buf (Elt Ideal) ℓ)

/-- The reference's gradient, over its arguments. -/
abbrev REF0 (a1 : FVec Ideal Cert.Reference28Ideal.S2x64 .f32) : FVec Ideal Cert.Reference28Ideal.S2x64 .f32 :=
  a1

/-- The reference's change of the weight, over its arguments. -/
abbrev REF1 (a0 : FVec Ideal Cert.Reference28Ideal.S2x64 .f32) (a1 : FVec Ideal Cert.Reference28Ideal.S2x64 .f32) (a2 : FVec Ideal Cert.Reference28Ideal.S2x64 .f32) (a3 : FVec Ideal Cert.Reference28Ideal.S2x64 .f32) : FVec Ideal Cert.Reference28Ideal.S2x64 .f32 :=
  mulf (broadcastInDim Cert.Reference28Ideal.S2x64 ![] Cert.Reference28Ideal.Gen.bcast_S_S2x64 (constant Cert.Reference28Ideal.S_ .f32 0xBA83126F#32)) (addf (Host.divf (Host.divf (addf (mulf (broadcastInDim Cert.Reference28Ideal.S2x64 ![] Cert.Reference28Ideal.Gen.bcast_S_S2x64 (constant Cert.Reference28Ideal.S_ .f32 0x3F666666#32)) a2) (mulf (broadcastInDim Cert.Reference28Ideal.S2x64 ![] Cert.Reference28Ideal.Gen.bcast_S_S2x64 (constant Cert.Reference28Ideal.S_ .f32 0x3DCCCCCD#32)) a1)) (broadcastInDim Cert.Reference28Ideal.S2x64 ![] Cert.Reference28Ideal.Gen.bcast_S_S2x64 (constant Cert.Reference28Ideal.S_ .f32 0x3F26BD02#32))) (addf (Host.sqrt (Host.divf (addf (mulf (broadcastInDim Cert.Reference28Ideal.S2x64 ![] Cert.Reference28Ideal.Gen.bcast_S_S2x64 (constant Cert.Reference28Ideal.S_ .f32 0x3F7FBE77#32)) a3) (mulf (broadcastInDim Cert.Reference28Ideal.S2x64 ![] Cert.Reference28Ideal.Gen.bcast_S_S2x64 (constant Cert.Reference28Ideal.S_ .f32 0x3A83126F#32)) (mulf a1 a1))) (broadcastInDim Cert.Reference28Ideal.S2x64 ![] Cert.Reference28Ideal.Gen.bcast_S_S2x64 (constant Cert.Reference28Ideal.S_ .f32 0x3C231ACC#32)))) (broadcastInDim Cert.Reference28Ideal.S2x64 ![] Cert.Reference28Ideal.Gen.bcast_S_S2x64 (constant Cert.Reference28Ideal.S_ .f32 0x322BCC77#32)))) (mulf (broadcastInDim Cert.Reference28Ideal.S2x64 ![] Cert.Reference28Ideal.Gen.bcast_S_S2x64 (constant Cert.Reference28Ideal.S_ .f32 0x3C23D70A#32)) a0))

/-- The reference's first moment, over its arguments. -/
abbrev REF2 (a1 : FVec Ideal Cert.Reference28Ideal.S2x64 .f32) (a2 : FVec Ideal Cert.Reference28Ideal.S2x64 .f32) : FVec Ideal Cert.Reference28Ideal.S2x64 .f32 :=
  addf (mulf (broadcastInDim Cert.Reference28Ideal.S2x64 ![] Cert.Reference28Ideal.Gen.bcast_S_S2x64 (constant Cert.Reference28Ideal.S_ .f32 0x3F666666#32)) a2) (mulf (broadcastInDim Cert.Reference28Ideal.S2x64 ![] Cert.Reference28Ideal.Gen.bcast_S_S2x64 (constant Cert.Reference28Ideal.S_ .f32 0x3DCCCCCD#32)) a1)

/-- The reference's second moment, over its arguments. -/
abbrev REF3 (a1 : FVec Ideal Cert.Reference28Ideal.S2x64 .f32) (a3 : FVec Ideal Cert.Reference28Ideal.S2x64 .f32) : FVec Ideal Cert.Reference28Ideal.S2x64 .f32 :=
  addf (mulf (broadcastInDim Cert.Reference28Ideal.S2x64 ![] Cert.Reference28Ideal.Gen.bcast_S_S2x64 (constant Cert.Reference28Ideal.S_ .f32 0x3F7FBE77#32)) a3) (mulf (broadcastInDim Cert.Reference28Ideal.S2x64 ![] Cert.Reference28Ideal.Gen.bcast_S_S2x64 (constant Cert.Reference28Ideal.S_ .f32 0x3A83126F#32)) (mulf a1 a1))

/-- Every window's block at the one grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The gradient the call leaves is the reference's. -/
theorem final0 (c : Dev nD) : (dats m 0 c).arrAt 4 (cfgs 0).N = REF0 (m ((c : Thread nD τ).loc main_arg1)) := by
  refine (dats m 0 c).arrAt_eq_of_covers 4 _ (by decide +kernel) fun t hf y => ?_
  blk_simp; rw [after0_4]; frame_out
  pointwise [k0_pay1, k0_pay2, k0_pay3, REF0]
  blk_point [iblk, V, idx t]

/-- The change of the weight the call leaves is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, REF1]
  blk_point [iblk, V, idx t]

/-- The first moment the call leaves is the reference's. -/
theorem final2 (c : Dev nD) : (dats m 0 c).arrAt 6 (cfgs 0).N = REF2 (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, REF2]
  blk_point [iblk, V, idx t]

/-- The second moment the call leaves is the reference's. -/
theorem final3 (c : Dev nD) : (dats m 0 c).arrAt 7 (cfgs 0).N = REF3 (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, REF3]
  blk_point [iblk, V, idx t]

end Cert.Kernel28Ideal.Value

end
-- ==== Proof.Calls.AdamConvW.lean ====
/- The optimiser's step of the convolution's taps. -/
module

public import proofs.«01_k».proof.Proof.Gen.Kernel29Ideal.Value
public import proofs.«01_k».proof.Proof.Gen.Reference29Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel29Ideal.Value

open Cert.Kernel29Ideal Cert.Kernel29Ideal.Gen

variable (m : (ℓ : Loc nD τ sig) → Buf (Elt Ideal) ℓ)

/-- The reference's gradient, over its arguments. -/
abbrev REF0 (a1 : FVec Ideal Cert.Reference29Ideal.S2x4x384 .f32) : FVec Ideal Cert.Reference29Ideal.S8x384 .f32 :=
  shapeCast _ a1 Cert.Reference29Ideal.Gen.shapeCasts_S2x4x384_S8x384

/-- The reference's change of the weight, over its arguments. -/
abbrev REF1 (a0 : FVec Ideal Cert.Reference29Ideal.S2x4x384 .f32) (a1 : FVec Ideal Cert.Reference29Ideal.S2x4x384 .f32) (a2 : FVec Ideal Cert.Reference29Ideal.S2x4x384 .f32) (a3 : FVec Ideal Cert.Reference29Ideal.S2x4x384 .f32) : FVec Ideal Cert.Reference29Ideal.S8x384 .f32 :=
  shapeCast _ (mulf (broadcastInDim Cert.Reference29Ideal.S2x4x384 ![] Cert.Reference29Ideal.Gen.bcast_S_S2x4x384 (constant Cert.Reference29Ideal.S_ .f32 0xBA83126F#32)) (addf (Host.divf (Host.divf (addf (mulf (broadcastInDim Cert.Reference29Ideal.S2x4x384 ![] Cert.Reference29Ideal.Gen.bcast_S_S2x4x384 (constant Cert.Reference29Ideal.S_ .f32 0x3F666666#32)) a2) (mulf (broadcastInDim Cert.Reference29Ideal.S2x4x384 ![] Cert.Reference29Ideal.Gen.bcast_S_S2x4x384 (constant Cert.Reference29Ideal.S_ .f32 0x3DCCCCCD#32)) a1)) (broadcastInDim Cert.Reference29Ideal.S2x4x384 ![] Cert.Reference29Ideal.Gen.bcast_S_S2x4x384 (constant Cert.Reference29Ideal.S_ .f32 0x3F26BD02#32))) (addf (Host.sqrt (Host.divf (addf (mulf (broadcastInDim Cert.Reference29Ideal.S2x4x384 ![] Cert.Reference29Ideal.Gen.bcast_S_S2x4x384 (constant Cert.Reference29Ideal.S_ .f32 0x3F7FBE77#32)) a3) (mulf (broadcastInDim Cert.Reference29Ideal.S2x4x384 ![] Cert.Reference29Ideal.Gen.bcast_S_S2x4x384 (constant Cert.Reference29Ideal.S_ .f32 0x3A83126F#32)) (mulf a1 a1))) (broadcastInDim Cert.Reference29Ideal.S2x4x384 ![] Cert.Reference29Ideal.Gen.bcast_S_S2x4x384 (constant Cert.Reference29Ideal.S_ .f32 0x3C231ACC#32)))) (broadcastInDim Cert.Reference29Ideal.S2x4x384 ![] Cert.Reference29Ideal.Gen.bcast_S_S2x4x384 (constant Cert.Reference29Ideal.S_ .f32 0x322BCC77#32)))) (mulf (broadcastInDim Cert.Reference29Ideal.S2x4x384 ![] Cert.Reference29Ideal.Gen.bcast_S_S2x4x384 (constant Cert.Reference29Ideal.S_ .f32 0x3C23D70A#32)) a0))) Cert.Reference29Ideal.Gen.shapeCasts_S2x4x384_S8x384

/-- The reference's first moment, over its arguments. -/
abbrev REF2 (a1 : FVec Ideal Cert.Reference29Ideal.S2x4x384 .f32) (a2 : FVec Ideal Cert.Reference29Ideal.S2x4x384 .f32) : FVec Ideal Cert.Reference29Ideal.S8x384 .f32 :=
  shapeCast _ (addf (mulf (broadcastInDim Cert.Reference29Ideal.S2x4x384 ![] Cert.Reference29Ideal.Gen.bcast_S_S2x4x384 (constant Cert.Reference29Ideal.S_ .f32 0x3F666666#32)) a2) (mulf (broadcastInDim Cert.Reference29Ideal.S2x4x384 ![] Cert.Reference29Ideal.Gen.bcast_S_S2x4x384 (constant Cert.Reference29Ideal.S_ .f32 0x3DCCCCCD#32)) a1)) Cert.Reference29Ideal.Gen.shapeCasts_S2x4x384_S8x384

/-- The reference's second moment, over its arguments. -/
abbrev REF3 (a1 : FVec Ideal Cert.Reference29Ideal.S2x4x384 .f32) (a3 : FVec Ideal Cert.Reference29Ideal.S2x4x384 .f32) : FVec Ideal Cert.Reference29Ideal.S8x384 .f32 :=
  shapeCast _ (addf (mulf (broadcastInDim Cert.Reference29Ideal.S2x4x384 ![] Cert.Reference29Ideal.Gen.bcast_S_S2x4x384 (constant Cert.Reference29Ideal.S_ .f32 0x3F7FBE77#32)) a3) (mulf (broadcastInDim Cert.Reference29Ideal.S2x4x384 ![] Cert.Reference29Ideal.Gen.bcast_S_S2x4x384 (constant Cert.Reference29Ideal.S_ .f32 0x3A83126F#32)) (mulf a1 a1))) Cert.Reference29Ideal.Gen.shapeCasts_S2x4x384_S8x384

/-- Every window's block at the one grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The gradient the call leaves is the reference's. -/
theorem final0 (c : Dev nD) : (dats m 0 c).arrAt 4 (cfgs 0).N = REF0 (m ((c : Thread nD τ).loc main_arg1)) := by
  refine (dats m 0 c).arrAt_eq_of_covers 4 _ (by decide +kernel) fun t hf y => ?_
  blk_simp; rw [after0_4]; frame_out
  pointwise [k0_pay1, k0_pay2, k0_pay3, k0_pay4, REF0]
  blk_point [iblk, V, idx t]

/-- The change of the weight the call leaves is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, REF1]
  blk_point [iblk, V, idx t]

/-- The first moment the call leaves is the reference's. -/
theorem final2 (c : Dev nD) : (dats m 0 c).arrAt 6 (cfgs 0).N = REF2 (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, REF2]
  blk_point [iblk, V, idx t]

/-- The second moment the call leaves is the reference's. -/
theorem final3 (c : Dev nD) : (dats m 0 c).arrAt 7 (cfgs 0).N = REF3 (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, REF3]
  blk_point [iblk, V, idx t]

end Cert.Kernel29Ideal.Value

end
-- ==== Proof.Calls.AdamPoles.lean ====
/- The optimiser's step of the S5 poles. -/
module

public import proofs.«01_k».proof.Proof.Gen.Kernel30Ideal.Value
public import proofs.«01_k».proof.Proof.Gen.Reference30Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel30Ideal.Value

open Cert.Kernel30Ideal Cert.Kernel30Ideal.Gen

variable (m : (ℓ : Loc nD τ sig) → Buf (Elt Ideal) ℓ)

/-- The reference's gradient, over its arguments. -/
abbrev REF0 (a1 : FVec Ideal Cert.Reference30Ideal.S2x64x64 .f32) : FVec Ideal Cert.Reference30Ideal.S8x1024 .f32 :=
  shapeCast _ a1 Cert.Reference30Ideal.Gen.shapeCasts_S2x64x64_S8x1024

/-- The reference's change of the weight, over its arguments. -/
abbrev REF1 (a0 : FVec Ideal Cert.Reference30Ideal.S2x64x64 .f32) (a1 : FVec Ideal Cert.Reference30Ideal.S2x64x64 .f32) (a2 : FVec Ideal Cert.Reference30Ideal.S2x64x64 .f32) (a3 : FVec Ideal Cert.Reference30Ideal.S2x64x64 .f32) : FVec Ideal Cert.Reference30Ideal.S8x1024 .f32 :=
  shapeCast _ (mulf (broadcastInDim Cert.Reference30Ideal.S2x64x64 ![] Cert.Reference30Ideal.Gen.bcast_S_S2x64x64 (constant Cert.Reference30Ideal.S_ .f32 0xBA83126F#32)) (addf (Host.divf (Host.divf (addf (mulf (broadcastInDim Cert.Reference30Ideal.S2x64x64 ![] Cert.Reference30Ideal.Gen.bcast_S_S2x64x64 (constant Cert.Reference30Ideal.S_ .f32 0x3F666666#32)) a2) (mulf (broadcastInDim Cert.Reference30Ideal.S2x64x64 ![] Cert.Reference30Ideal.Gen.bcast_S_S2x64x64 (constant Cert.Reference30Ideal.S_ .f32 0x3DCCCCCD#32)) a1)) (broadcastInDim Cert.Reference30Ideal.S2x64x64 ![] Cert.Reference30Ideal.Gen.bcast_S_S2x64x64 (constant Cert.Reference30Ideal.S_ .f32 0x3F26BD02#32))) (addf (Host.sqrt (Host.divf (addf (mulf (broadcastInDim Cert.Reference30Ideal.S2x64x64 ![] Cert.Reference30Ideal.Gen.bcast_S_S2x64x64 (constant Cert.Reference30Ideal.S_ .f32 0x3F7FBE77#32)) a3) (mulf (broadcastInDim Cert.Reference30Ideal.S2x64x64 ![] Cert.Reference30Ideal.Gen.bcast_S_S2x64x64 (constant Cert.Reference30Ideal.S_ .f32 0x3A83126F#32)) (mulf a1 a1))) (broadcastInDim Cert.Reference30Ideal.S2x64x64 ![] Cert.Reference30Ideal.Gen.bcast_S_S2x64x64 (constant Cert.Reference30Ideal.S_ .f32 0x3C231ACC#32)))) (broadcastInDim Cert.Reference30Ideal.S2x64x64 ![] Cert.Reference30Ideal.Gen.bcast_S_S2x64x64 (constant Cert.Reference30Ideal.S_ .f32 0x322BCC77#32)))) (mulf (broadcastInDim Cert.Reference30Ideal.S2x64x64 ![] Cert.Reference30Ideal.Gen.bcast_S_S2x64x64 (constant Cert.Reference30Ideal.S_ .f32 0x3C23D70A#32)) a0))) Cert.Reference30Ideal.Gen.shapeCasts_S2x64x64_S8x1024

/-- The reference's first moment, over its arguments. -/
abbrev REF2 (a1 : FVec Ideal Cert.Reference30Ideal.S2x64x64 .f32) (a2 : FVec Ideal Cert.Reference30Ideal.S2x64x64 .f32) : FVec Ideal Cert.Reference30Ideal.S8x1024 .f32 :=
  shapeCast _ (addf (mulf (broadcastInDim Cert.Reference30Ideal.S2x64x64 ![] Cert.Reference30Ideal.Gen.bcast_S_S2x64x64 (constant Cert.Reference30Ideal.S_ .f32 0x3F666666#32)) a2) (mulf (broadcastInDim Cert.Reference30Ideal.S2x64x64 ![] Cert.Reference30Ideal.Gen.bcast_S_S2x64x64 (constant Cert.Reference30Ideal.S_ .f32 0x3DCCCCCD#32)) a1)) Cert.Reference30Ideal.Gen.shapeCasts_S2x64x64_S8x1024

/-- The reference's second moment, over its arguments. -/
abbrev REF3 (a1 : FVec Ideal Cert.Reference30Ideal.S2x64x64 .f32) (a3 : FVec Ideal Cert.Reference30Ideal.S2x64x64 .f32) : FVec Ideal Cert.Reference30Ideal.S8x1024 .f32 :=
  shapeCast _ (addf (mulf (broadcastInDim Cert.Reference30Ideal.S2x64x64 ![] Cert.Reference30Ideal.Gen.bcast_S_S2x64x64 (constant Cert.Reference30Ideal.S_ .f32 0x3F7FBE77#32)) a3) (mulf (broadcastInDim Cert.Reference30Ideal.S2x64x64 ![] Cert.Reference30Ideal.Gen.bcast_S_S2x64x64 (constant Cert.Reference30Ideal.S_ .f32 0x3A83126F#32)) (mulf a1 a1))) Cert.Reference30Ideal.Gen.shapeCasts_S2x64x64_S8x1024

/-- Every window's block at the one grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The gradient the call leaves is the reference's. -/
theorem final0 (c : Dev nD) : (dats m 0 c).arrAt 4 (cfgs 0).N = REF0 (m ((c : Thread nD τ).loc main_arg1)) := by
  refine (dats m 0 c).arrAt_eq_of_covers 4 _ (by decide +kernel) fun t hf y => ?_
  blk_simp; rw [after0_4]; frame_out
  pointwise [k0_pay1, k0_pay2, k0_pay3, k0_pay4, REF0]
  blk_point [iblk, V, idx t]

/-- The change of the weight the call leaves is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, REF1]
  blk_point [iblk, V, idx t]

/-- The first moment the call leaves is the reference's. -/
theorem final2 (c : Dev nD) : (dats m 0 c).arrAt 6 (cfgs 0).N = REF2 (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, REF2]
  blk_point [iblk, V, idx t]

/-- The second moment the call leaves is the reference's. -/
theorem final3 (c : Dev nD) : (dats m 0 c).arrAt 7 (cfgs 0).N = REF3 (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, REF3]
  blk_point [iblk, V, idx t]

end Cert.Kernel30Ideal.Value

end
-- ==== Proof.Calls.AdamS5B.lean ====
/- The optimiser's step of the S5 input maps. -/
module

public import proofs.«01_k».proof.Proof.Gen.Kernel31Ideal.Value
public import proofs.«01_k».proof.Proof.Gen.Reference31Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel31Ideal.Value

open Cert.Kernel31Ideal Cert.Kernel31Ideal.Gen

variable (m : (ℓ : Loc nD τ sig) → Buf (Elt Ideal) ℓ)

/-- The reference's gradient, over its arguments. -/
abbrev REF0 (a1 : FVec Ideal Cert.Reference31Ideal.S2x64x64x16 .f32) : FVec Ideal Cert.Reference31Ideal.S128x1024 .f32 :=
  shapeCast _ a1 Cert.Reference31Ideal.Gen.shapeCasts_S2x64x64x16_S128x1024

/-- The reference's change of the weight, over its arguments. -/
abbrev REF1 (a0 : FVec Ideal Cert.Reference31Ideal.S2x64x64x16 .f32) (a1 : FVec Ideal Cert.Reference31Ideal.S2x64x64x16 .f32) (a2 : FVec Ideal Cert.Reference31Ideal.S2x64x64x16 .f32) (a3 : FVec Ideal Cert.Reference31Ideal.S2x64x64x16 .f32) : FVec Ideal Cert.Reference31Ideal.S128x1024 .f32 :=
  shapeCast _ (mulf (broadcastInDim Cert.Reference31Ideal.S2x64x64x16 ![] Cert.Reference31Ideal.Gen.bcast_S_S2x64x64x16 (constant Cert.Reference31Ideal.S_ .f32 0xBA83126F#32)) (addf (Host.divf (Host.divf (addf (mulf (broadcastInDim Cert.Reference31Ideal.S2x64x64x16 ![] Cert.Reference31Ideal.Gen.bcast_S_S2x64x64x16 (constant Cert.Reference31Ideal.S_ .f32 0x3F666666#32)) a2) (mulf (broadcastInDim Cert.Reference31Ideal.S2x64x64x16 ![] Cert.Reference31Ideal.Gen.bcast_S_S2x64x64x16 (constant Cert.Reference31Ideal.S_ .f32 0x3DCCCCCD#32)) a1)) (broadcastInDim Cert.Reference31Ideal.S2x64x64x16 ![] Cert.Reference31Ideal.Gen.bcast_S_S2x64x64x16 (constant Cert.Reference31Ideal.S_ .f32 0x3F26BD02#32))) (addf (Host.sqrt (Host.divf (addf (mulf (broadcastInDim Cert.Reference31Ideal.S2x64x64x16 ![] Cert.Reference31Ideal.Gen.bcast_S_S2x64x64x16 (constant Cert.Reference31Ideal.S_ .f32 0x3F7FBE77#32)) a3) (mulf (broadcastInDim Cert.Reference31Ideal.S2x64x64x16 ![] Cert.Reference31Ideal.Gen.bcast_S_S2x64x64x16 (constant Cert.Reference31Ideal.S_ .f32 0x3A83126F#32)) (mulf a1 a1))) (broadcastInDim Cert.Reference31Ideal.S2x64x64x16 ![] Cert.Reference31Ideal.Gen.bcast_S_S2x64x64x16 (constant Cert.Reference31Ideal.S_ .f32 0x3C231ACC#32)))) (broadcastInDim Cert.Reference31Ideal.S2x64x64x16 ![] Cert.Reference31Ideal.Gen.bcast_S_S2x64x64x16 (constant Cert.Reference31Ideal.S_ .f32 0x322BCC77#32)))) (mulf (broadcastInDim Cert.Reference31Ideal.S2x64x64x16 ![] Cert.Reference31Ideal.Gen.bcast_S_S2x64x64x16 (constant Cert.Reference31Ideal.S_ .f32 0x3C23D70A#32)) a0))) Cert.Reference31Ideal.Gen.shapeCasts_S2x64x64x16_S128x1024

/-- The reference's first moment, over its arguments. -/
abbrev REF2 (a1 : FVec Ideal Cert.Reference31Ideal.S2x64x64x16 .f32) (a2 : FVec Ideal Cert.Reference31Ideal.S2x64x64x16 .f32) : FVec Ideal Cert.Reference31Ideal.S128x1024 .f32 :=
  shapeCast _ (addf (mulf (broadcastInDim Cert.Reference31Ideal.S2x64x64x16 ![] Cert.Reference31Ideal.Gen.bcast_S_S2x64x64x16 (constant Cert.Reference31Ideal.S_ .f32 0x3F666666#32)) a2) (mulf (broadcastInDim Cert.Reference31Ideal.S2x64x64x16 ![] Cert.Reference31Ideal.Gen.bcast_S_S2x64x64x16 (constant Cert.Reference31Ideal.S_ .f32 0x3DCCCCCD#32)) a1)) Cert.Reference31Ideal.Gen.shapeCasts_S2x64x64x16_S128x1024

/-- The reference's second moment, over its arguments. -/
abbrev REF3 (a1 : FVec Ideal Cert.Reference31Ideal.S2x64x64x16 .f32) (a3 : FVec Ideal Cert.Reference31Ideal.S2x64x64x16 .f32) : FVec Ideal Cert.Reference31Ideal.S128x1024 .f32 :=
  shapeCast _ (addf (mulf (broadcastInDim Cert.Reference31Ideal.S2x64x64x16 ![] Cert.Reference31Ideal.Gen.bcast_S_S2x64x64x16 (constant Cert.Reference31Ideal.S_ .f32 0x3F7FBE77#32)) a3) (mulf (broadcastInDim Cert.Reference31Ideal.S2x64x64x16 ![] Cert.Reference31Ideal.Gen.bcast_S_S2x64x64x16 (constant Cert.Reference31Ideal.S_ .f32 0x3A83126F#32)) (mulf a1 a1))) Cert.Reference31Ideal.Gen.shapeCasts_S2x64x64x16_S128x1024

/-- Every window's block at the one grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The gradient the call leaves is the reference's. -/
theorem final0 (c : Dev nD) : (dats m 0 c).arrAt 4 (cfgs 0).N = REF0 (m ((c : Thread nD τ).loc main_arg1)) := by
  refine (dats m 0 c).arrAt_eq_of_covers 4 _ (by decide +kernel) fun t hf y => ?_
  blk_simp; rw [after0_4]; frame_out
  pointwise [k0_pay1, k0_pay2, k0_pay3, k0_pay4, REF0]
  blk_point [iblk, V, idx t]

/-- The change of the weight the call leaves is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, REF1]
  blk_point [iblk, V, idx t]

/-- The first moment the call leaves is the reference's. -/
theorem final2 (c : Dev nD) : (dats m 0 c).arrAt 6 (cfgs 0).N = REF2 (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, REF2]
  blk_point [iblk, V, idx t]

/-- The second moment the call leaves is the reference's. -/
theorem final3 (c : Dev nD) : (dats m 0 c).arrAt 7 (cfgs 0).N = REF3 (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, REF3]
  blk_point [iblk, V, idx t]

end Cert.Kernel31Ideal.Value

end
-- ==== Proof.Calls.AdamS5C.lean ====
/- The optimiser's step of the S5 output maps. -/
module

public import proofs.«01_k».proof.Proof.Gen.Kernel32Ideal.Value
public import proofs.«01_k».proof.Proof.Gen.Reference32Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel32Ideal.Value

open Cert.Kernel32Ideal Cert.Kernel32Ideal.Gen

variable (m : (ℓ : Loc nD τ sig) → Buf (Elt Ideal) ℓ)

/-- The reference's gradient, over its arguments. -/
abbrev REF0 (a1 : FVec Ideal Cert.Reference32Ideal.S2x64x16x64 .f32) : FVec Ideal Cert.Reference32Ideal.S128x1024 .f32 :=
  shapeCast _ a1 Cert.Reference32Ideal.Gen.shapeCasts_S2x64x16x64_S128x1024

/-- The reference's change of the weight, over its arguments. -/
abbrev REF1 (a0 : FVec Ideal Cert.Reference32Ideal.S2x64x16x64 .f32) (a1 : FVec Ideal Cert.Reference32Ideal.S2x64x16x64 .f32) (a2 : FVec Ideal Cert.Reference32Ideal.S2x64x16x64 .f32) (a3 : FVec Ideal Cert.Reference32Ideal.S2x64x16x64 .f32) : FVec Ideal Cert.Reference32Ideal.S128x1024 .f32 :=
  shapeCast _ (mulf (broadcastInDim Cert.Reference32Ideal.S2x64x16x64 ![] Cert.Reference32Ideal.Gen.bcast_S_S2x64x16x64 (constant Cert.Reference32Ideal.S_ .f32 0xBA83126F#32)) (addf (Host.divf (Host.divf (addf (mulf (broadcastInDim Cert.Reference32Ideal.S2x64x16x64 ![] Cert.Reference32Ideal.Gen.bcast_S_S2x64x16x64 (constant Cert.Reference32Ideal.S_ .f32 0x3F666666#32)) a2) (mulf (broadcastInDim Cert.Reference32Ideal.S2x64x16x64 ![] Cert.Reference32Ideal.Gen.bcast_S_S2x64x16x64 (constant Cert.Reference32Ideal.S_ .f32 0x3DCCCCCD#32)) a1)) (broadcastInDim Cert.Reference32Ideal.S2x64x16x64 ![] Cert.Reference32Ideal.Gen.bcast_S_S2x64x16x64 (constant Cert.Reference32Ideal.S_ .f32 0x3F26BD02#32))) (addf (Host.sqrt (Host.divf (addf (mulf (broadcastInDim Cert.Reference32Ideal.S2x64x16x64 ![] Cert.Reference32Ideal.Gen.bcast_S_S2x64x16x64 (constant Cert.Reference32Ideal.S_ .f32 0x3F7FBE77#32)) a3) (mulf (broadcastInDim Cert.Reference32Ideal.S2x64x16x64 ![] Cert.Reference32Ideal.Gen.bcast_S_S2x64x16x64 (constant Cert.Reference32Ideal.S_ .f32 0x3A83126F#32)) (mulf a1 a1))) (broadcastInDim Cert.Reference32Ideal.S2x64x16x64 ![] Cert.Reference32Ideal.Gen.bcast_S_S2x64x16x64 (constant Cert.Reference32Ideal.S_ .f32 0x3C231ACC#32)))) (broadcastInDim Cert.Reference32Ideal.S2x64x16x64 ![] Cert.Reference32Ideal.Gen.bcast_S_S2x64x16x64 (constant Cert.Reference32Ideal.S_ .f32 0x322BCC77#32)))) (mulf (broadcastInDim Cert.Reference32Ideal.S2x64x16x64 ![] Cert.Reference32Ideal.Gen.bcast_S_S2x64x16x64 (constant Cert.Reference32Ideal.S_ .f32 0x3C23D70A#32)) a0))) Cert.Reference32Ideal.Gen.shapeCasts_S2x64x16x64_S128x1024

/-- The reference's first moment, over its arguments. -/
abbrev REF2 (a1 : FVec Ideal Cert.Reference32Ideal.S2x64x16x64 .f32) (a2 : FVec Ideal Cert.Reference32Ideal.S2x64x16x64 .f32) : FVec Ideal Cert.Reference32Ideal.S128x1024 .f32 :=
  shapeCast _ (addf (mulf (broadcastInDim Cert.Reference32Ideal.S2x64x16x64 ![] Cert.Reference32Ideal.Gen.bcast_S_S2x64x16x64 (constant Cert.Reference32Ideal.S_ .f32 0x3F666666#32)) a2) (mulf (broadcastInDim Cert.Reference32Ideal.S2x64x16x64 ![] Cert.Reference32Ideal.Gen.bcast_S_S2x64x16x64 (constant Cert.Reference32Ideal.S_ .f32 0x3DCCCCCD#32)) a1)) Cert.Reference32Ideal.Gen.shapeCasts_S2x64x16x64_S128x1024

/-- The reference's second moment, over its arguments. -/
abbrev REF3 (a1 : FVec Ideal Cert.Reference32Ideal.S2x64x16x64 .f32) (a3 : FVec Ideal Cert.Reference32Ideal.S2x64x16x64 .f32) : FVec Ideal Cert.Reference32Ideal.S128x1024 .f32 :=
  shapeCast _ (addf (mulf (broadcastInDim Cert.Reference32Ideal.S2x64x16x64 ![] Cert.Reference32Ideal.Gen.bcast_S_S2x64x16x64 (constant Cert.Reference32Ideal.S_ .f32 0x3F7FBE77#32)) a3) (mulf (broadcastInDim Cert.Reference32Ideal.S2x64x16x64 ![] Cert.Reference32Ideal.Gen.bcast_S_S2x64x16x64 (constant Cert.Reference32Ideal.S_ .f32 0x3A83126F#32)) (mulf a1 a1))) Cert.Reference32Ideal.Gen.shapeCasts_S2x64x16x64_S128x1024

/-- Every window's block at the one grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The gradient the call leaves is the reference's. -/
theorem final0 (c : Dev nD) : (dats m 0 c).arrAt 4 (cfgs 0).N = REF0 (m ((c : Thread nD τ).loc main_arg1)) := by
  refine (dats m 0 c).arrAt_eq_of_covers 4 _ (by decide +kernel) fun t hf y => ?_
  blk_simp; rw [after0_4]; frame_out
  pointwise [k0_pay1, k0_pay2, k0_pay3, k0_pay4, REF0]
  blk_point [iblk, V, idx t]

/-- The change of the weight the call leaves is the reference's. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, REF1]
  blk_point [iblk, V, idx t]

/-- The first moment the call leaves is the reference's. -/
theorem final2 (c : Dev nD) : (dats m 0 c).arrAt 6 (cfgs 0).N = REF2 (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, REF2]
  blk_point [iblk, V, idx t]

/-- The second moment the call leaves is the reference's. -/
theorem final3 (c : Dev nD) : (dats m 0 c).arrAt 7 (cfgs 0).N = REF3 (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, REF3]
  blk_point [iblk, V, idx t]

end Cert.Kernel32Ideal.Value

end
-- ==== Proof.Calls.AdamFfn.lean ====
/- The optimiser's step of the gated units' sharded weights. -/
module

public import proofs.«01_k».proof.Proof.Gen.Kernel33Ideal.Value
public import proofs.«01_k».proof.Proof.Gen.Reference33Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel33Ideal.Value

open Cert.Kernel33Ideal Cert.Kernel33Ideal.Gen

variable (m : (ℓ : Loc nD τ sig) → Buf (Elt Ideal) ℓ)

/-- The reference's gradient, over its arguments. -/
def REF0 (a1 : FVec Ideal Cert.Reference33Ideal.S4x1x352x1024 .f32) (a2 : FVec Ideal Cert.Reference33Ideal.S4x1x352x1024 .f32) : FVec Ideal Cert.Reference33Ideal.S2x352x1024 .f32 :=
  concatenate Cert.Reference33Ideal.S2x352x1024 0 [⟨Cert.Reference33Ideal.S1x352x1024, (broadcastInDim Cert.Reference33Ideal.S1x352x1024 ![1, 2] Cert.Reference33Ideal.Gen.bcast_S352x1024_S1x352x1024_1_2 (Host.reduceAdd (shapeCast _ a1 Cert.Reference33Ideal.Gen.shapeCasts_S4x1x352x1024_S4x352x1024) (constant Cert.Reference33Ideal.S_ .f32 0x00000000#32) Cert.Reference33Ideal.Gen.reducesTo_S4x352x1024_S352x1024_d0 Cert.Reference33Ideal.Gen.h_S_))⟩, ⟨Cert.Reference33Ideal.S1x352x1024, (broadcastInDim Cert.Reference33Ideal.S1x352x1024 ![1, 2] Cert.Reference33Ideal.Gen.bcast_S352x1024_S1x352x1024_1_2 (Host.reduceAdd (shapeCast _ a2 Cert.Reference33Ideal.Gen.shapeCasts_S4x1x352x1024_S4x352x1024) (constant Cert.Reference33Ideal.S_ .f32 0x00000000#32) Cert.Reference33Ideal.Gen.reducesTo_S4x352x1024_S352x1024_d0 Cert.Reference33Ideal.Gen.h_S_))⟩] Cert.Reference33Ideal.Gen.concatenates_S1x352x1024_S1x352x1024_S2x352x1024_d0

/-- The reference's change of the weight, over its arguments. -/
abbrev REF1 (a0 : FVec Ideal Cert.Reference33Ideal.S2x352x1024 .f32) (a1 : FVec Ideal Cert.Reference33Ideal.S4x1x352x1024 .f32) (a2 : FVec Ideal Cert.Reference33Ideal.S4x1x352x1024 .f32) (a3 : FVec Ideal Cert.Reference33Ideal.S2x352x1024 .f32) (a4 : FVec Ideal Cert.Reference33Ideal.S2x352x1024 .f32) : FVec Ideal Cert.Reference33Ideal.S2x352x1024 .f32 :=
  mulf (broadcastInDim Cert.Reference33Ideal.S2x352x1024 ![] Cert.Reference33Ideal.Gen.bcast_S_S2x352x1024 (constant Cert.Reference33Ideal.S_ .f32 0xBA83126F#32)) (addf (Host.divf (Host.divf (addf (mulf (broadcastInDim Cert.Reference33Ideal.S2x352x1024 ![] Cert.Reference33Ideal.Gen.bcast_S_S2x352x1024 (constant Cert.Reference33Ideal.S_ .f32 0x3F666666#32)) a3) (mulf (broadcastInDim Cert.Reference33Ideal.S2x352x1024 ![] Cert.Reference33Ideal.Gen.bcast_S_S2x352x1024 (constant Cert.Reference33Ideal.S_ .f32 0x3DCCCCCD#32)) (REF0 a1 a2))) (broadcastInDim Cert.Reference33Ideal.S2x352x1024 ![] Cert.Reference33Ideal.Gen.bcast_S_S2x352x1024 (constant Cert.Reference33Ideal.S_ .f32 0x3F26BD02#32))) (addf (Host.sqrt (Host.divf (addf (mulf (broadcastInDim Cert.Reference33Ideal.S2x352x1024 ![] Cert.Reference33Ideal.Gen.bcast_S_S2x352x1024 (constant Cert.Reference33Ideal.S_ .f32 0x3F7FBE77#32)) a4) (mulf (broadcastInDim Cert.Reference33Ideal.S2x352x1024 ![] Cert.Reference33Ideal.Gen.bcast_S_S2x352x1024 (constant Cert.Reference33Ideal.S_ .f32 0x3A83126F#32)) (mulf (REF0 a1 a2) (REF0 a1 a2)))) (broadcastInDim Cert.Reference33Ideal.S2x352x1024 ![] Cert.Reference33Ideal.Gen.bcast_S_S2x352x1024 (constant Cert.Reference33Ideal.S_ .f32 0x3C231ACC#32)))) (broadcastInDim Cert.Reference33Ideal.S2x352x1024 ![] Cert.Reference33Ideal.Gen.bcast_S_S2x352x1024 (constant Cert.Reference33Ideal.S_ .f32 0x322BCC77#32)))) (mulf (broadcastInDim Cert.Reference33Ideal.S2x352x1024 ![] Cert.Reference33Ideal.Gen.bcast_S_S2x352x1024 (constant Cert.Reference33Ideal.S_ .f32 0x3C23D70A#32)) a0))

/-- The reference's first moment, over its arguments. -/
abbrev REF2 (a1 : FVec Ideal Cert.Reference33Ideal.S4x1x352x1024 .f32) (a2 : FVec Ideal Cert.Reference33Ideal.S4x1x352x1024 .f32) (a3 : FVec Ideal Cert.Reference33Ideal.S2x352x1024 .f32) : FVec Ideal Cert.Reference33Ideal.S2x352x1024 .f32 :=
  addf (mulf (broadcastInDim Cert.Reference33Ideal.S2x352x1024 ![] Cert.Reference33Ideal.Gen.bcast_S_S2x352x1024 (constant Cert.Reference33Ideal.S_ .f32 0x3F666666#32)) a3) (mulf (broadcastInDim Cert.Reference33Ideal.S2x352x1024 ![] Cert.Reference33Ideal.Gen.bcast_S_S2x352x1024 (constant Cert.Reference33Ideal.S_ .f32 0x3DCCCCCD#32)) (REF0 a1 a2))

/-- The reference's second moment, over its arguments. -/
abbrev REF3 (a1 : FVec Ideal Cert.Reference33Ideal.S4x1x352x1024 .f32) (a2 : FVec Ideal Cert.Reference33Ideal.S4x1x352x1024 .f32) (a4 : FVec Ideal Cert.Reference33Ideal.S2x352x1024 .f32) : FVec Ideal Cert.Reference33Ideal.S2x352x1024 .f32 :=
  addf (mulf (broadcastInDim Cert.Reference33Ideal.S2x352x1024 ![] Cert.Reference33Ideal.Gen.bcast_S_S2x352x1024 (constant Cert.Reference33Ideal.S_ .f32 0x3F7FBE77#32)) a4) (mulf (broadcastInDim Cert.Reference33Ideal.S2x352x1024 ![] Cert.Reference33Ideal.Gen.bcast_S_S2x352x1024 (constant Cert.Reference33Ideal.S_ .f32 0x3A83126F#32)) (mulf (REF0 a1 a2) (REF0 a1 a2)))

/-- The reference's gradient of the first layer. -/
theorem ref0 (a1 a2 : FVec Ideal Cert.Reference33Ideal.S4x1x352x1024 .f32) (r : Fin 352) (n : Fin 1024) :
    REF0 a1 a2 (ix3 0 r n) = a1 (ix4 0 0 r n) + a1 (ix4 1 0 r n) + a1 (ix4 2 0 r n) + a1 (ix4 3 0 r n) := by
  pointwise [REF0]
  simp only [Fin.sum_univ_four, zero_add]

/-- The reference's gradient of the second layer. -/
theorem ref1 (a1 a2 : FVec Ideal Cert.Reference33Ideal.S4x1x352x1024 .f32) (r : Fin 352) (n : Fin 1024) :
    REF0 a1 a2 (ix3 1 r n) = a2 (ix4 0 0 r n) + a2 (ix4 1 0 r n) + a2 (ix4 2 0 r n) + a2 (ix4 3 0 r n) := by
  pointwise [REF0]
  simp only [Fin.sum_univ_four, zero_add]

/-- The sum of the first layer's four parts. -/
theorem pay4 (v0 v3 v7 v11 : Vec Ideal S1x1x176x1024 .bf16) (x : S176x1024.Idx) :
    k0_pay4 v0 v3 v7 v11 x = v0 (ix4 0 0 (x 0) (x 1)) + v3 (ix4 0 0 (x 0) (x 1)) + v7 (ix4 0 0 (x 0) (x 1)) + v11 (ix4 0 0 (x 0) (x 1)) := by
  pointwise [k0_pay1, k0_pay2, k0_pay3, k0_pay4, k0_pay5, k0_pay6, k0_pay7, k0_pay8, k0_pay9, k0_pay10, k0_pay11, k0_pay12]

/-- The sum of the second layer's first three parts. -/
theorem pay5 (v0 v3 v7 : Vec Ideal S1x1x176x1024 .bf16) (x : S176x1024.Idx) :
    k0_pay5 v0 v3 v7 x = v0 (ix4 0 0 (x 0) (x 1)) + v3 (ix4 0 0 (x 0) (x 1)) + v7 (ix4 0 0 (x 0) (x 1)) := by
  pointwise [k0_pay1, k0_pay2, k0_pay3, k0_pay4, k0_pay5, k0_pay6, k0_pay7, k0_pay8, k0_pay9, k0_pay10, k0_pay11, k0_pay12]

/-- A point of the first layer keeps the first sum. -/
theorem pay6_0 (v14 v25 : FVec Ideal S176x1024 .f32) (v26 : Vec Ideal S1x1x176x1024 .bf16) (x : S176x1024.Idx) :
    k0_pay6 0#32 v14 v25 v26 x = v14 x := rfl

/-- A point of the second layer keeps the second. -/
theorem pay6_1 (v14 v25 : FVec Ideal S176x1024 .f32) (v26 : Vec Ideal S1x1x176x1024 .bf16) (x : S176x1024.Idx) :
    k0_pay6 1#32 v14 v25 v26 x = v25 x + v26 (ix4 0 0 (x 0) (x 1)) := by
  pointwise [k0_pay6]

/-- The gradient as it is stored. -/
theorem pay7 (b : BitVec 32) (v14 v25 : FVec Ideal S176x1024 .f32) (v26 : Vec Ideal S1x1x176x1024 .bf16) (x : S1x176x1024.Idx) :
    k0_pay7 b v14 v25 v26 x = k0_pay6 b v14 v25 v26 (ix2 (x 1) (x 2)) := by
  unfold k0_pay7
  pointwise

/-- Every grid point's layer. -/
theorem layer : ∀ t : Fin cfg0.N, (t.val / 2 = 0 ∧ BitVec.ofNat 32 ((cfg0.grid.coords t) 0).val = 0#32) ∨ (t.val / 2 = 1 ∧ BitVec.ofNat 32 ((cfg0.grid.coords t) 0).val = 1#32) :=
  (by decide +kernel : ∀ t : Fin grid0.N, _)

/-- Every window's block at every grid point. -/
theorem idx : ∀ t : Fin cfg0.N, win0_0.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0] :=
  (by decide +kernel : ∀ t : Fin grid0.N, _)

/-- The first layer's parts, at a point of that layer. -/
theorem idx1 : ∀ t : Fin cfg0.N, t.val / 2 = 0 → win0_1.index t = ![0, 0, t.val % 2, 0] :=
  (by decide +kernel : ∀ t : Fin grid0.N, _)

/-- The second layer's parts, at a point of that layer. -/
theorem idx2 : ∀ t : Fin cfg0.N, t.val / 2 = 1 → win0_2.index t = ![0, 0, t.val % 2, 0] :=
  (by decide +kernel : ∀ t : Fin grid0.N, _)

/-- The first layer's parts as the call is given them. -/
theorem cast0 (c : Dev nD) (i : S4x1x352x1024.Idx) : V m c main_v0 i = m ((c : Thread nD τ).loc main_arg1) i := by
  entry_read
  pointwise

/-- The second layer's parts as the call is given them. -/
theorem cast1 (c : Dev nD) (i : S4x1x352x1024.Idx) : V m c main_v1 i = m ((c : Thread nD τ).loc main_arg2) i := by
  entry_read
  pointwise

/-- What a point of layer 0 reads of part 0. -/
theorem read00 (c : Dev nD) (t : Fin cfg0.N) (h : t.val / 2 = 0) (r : Fin 176) (n : Fin 1024) (hr : t.val % 2 * 176 + r.val < 352) :
    View.ld (iblk m c 1 t) r0_0 (ix4 0 0 r n) = m ((c : Thread nD τ).loc main_arg1) (ix4 0 0 ⟨t.val % 2 * 176 + r.val, hr⟩ n) := by
  refine Eq.trans ?_ (cast0 m c _)
  blk_ext [iblk, View.ld, idx1 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 1. -/
theorem read01 (c : Dev nD) (t : Fin cfg0.N) (h : t.val / 2 = 0) (r : Fin 176) (n : Fin 1024) (hr : t.val % 2 * 176 + r.val < 352) :
    View.ld (iblk m c 1 t) r0_1 (ix4 0 0 r n) = m ((c : Thread nD τ).loc main_arg1) (ix4 1 0 ⟨t.val % 2 * 176 + r.val, hr⟩ n) := by
  refine Eq.trans ?_ (cast0 m c _)
  blk_ext [iblk, View.ld, idx1 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 2. -/
theorem read02 (c : Dev nD) (t : Fin cfg0.N) (h : t.val / 2 = 0) (r : Fin 176) (n : Fin 1024) (hr : t.val % 2 * 176 + r.val < 352) :
    View.ld (iblk m c 1 t) r0_2 (ix4 0 0 r n) = m ((c : Thread nD τ).loc main_arg1) (ix4 2 0 ⟨t.val % 2 * 176 + r.val, hr⟩ n) := by
  refine Eq.trans ?_ (cast0 m c _)
  blk_ext [iblk, View.ld, idx1 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 3. -/
theorem read03 (c : Dev nD) (t : Fin cfg0.N) (h : t.val / 2 = 0) (r : Fin 176) (n : Fin 1024) (hr : t.val % 2 * 176 + r.val < 352) :
    View.ld (iblk m c 1 t) r0_3 (ix4 0 0 r n) = m ((c : Thread nD τ).loc main_arg1) (ix4 3 0 ⟨t.val % 2 * 176 + r.val, hr⟩ n) := by
  refine Eq.trans ?_ (cast0 m c _)
  blk_ext [iblk, View.ld, idx1 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 0. -/
theorem read10 (c : Dev nD) (t : Fin cfg0.N) (h : t.val / 2 = 1) (r : Fin 176) (n : Fin 1024) (hr : t.val % 2 * 176 + r.val < 352) :
    View.ld (iblk m c 2 t) r0_0 (ix4 0 0 r n) = m ((c : Thread nD τ).loc main_arg2) (ix4 0 0 ⟨t.val % 2 * 176 + r.val, hr⟩ n) := by
  refine Eq.trans ?_ (cast1 m c _)
  blk_ext [iblk, View.ld, idx2 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 1. -/
theorem read11 (c : Dev nD) (t : Fin cfg0.N) (h : t.val / 2 = 1) (r : Fin 176) (n : Fin 1024) (hr : t.val % 2 * 176 + r.val < 352) :
    View.ld (iblk m c 2 t) r0_1 (ix4 0 0 r n) = m ((c : Thread nD τ).loc main_arg2) (ix4 1 0 ⟨t.val % 2 * 176 + r.val, hr⟩ n) := by
  refine Eq.trans ?_ (cast1 m c _)
  blk_ext [iblk, View.ld, idx2 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 2. -/
theorem read12 (c : Dev nD) (t : Fin cfg0.N) (h : t.val / 2 = 1) (r : Fin 176) (n : Fin 1024) (hr : t.val % 2 * 176 + r.val < 352) :
    View.ld (iblk m c 2 t) r0_2 (ix4 0 0 r n) = m ((c : Thread nD τ).loc main_arg2) (ix4 2 0 ⟨t.val % 2 * 176 + r.val, hr⟩ n) := by
  refine Eq.trans ?_ (cast1 m c _)
  blk_ext [iblk, View.ld, idx2 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 3. -/
theorem read13 (c : Dev nD) (t : Fin cfg0.N) (h : t.val / 2 = 1) (r : Fin 176) (n : Fin 1024) (hr : t.val % 2 * 176 + r.val < 352) :
    View.ld (iblk m c 2 t) r0_3 (ix4 0 0 r n) = m ((c : Thread nD τ).loc main_arg2) (ix4 3 0 ⟨t.val % 2 * 176 + r.val, hr⟩ n) := by
  refine Eq.trans ?_ (cast1 m c _)
  blk_ext [iblk, View.ld, idx2 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- The gradient a point forms. -/
theorem grad (c : Dev nD) (t : Fin cfg0.N) (r : Fin 176) (n : Fin 1024) (hl : t.val / 2 < 2) (hr : t.val % 2 * 176 + r.val < 352) :
    k0_pay6 (BitVec.ofNat 32 ((cfg0.grid.coords t) 0).val) (k0_pay11 (cfg0.grid.coords t) (iblk m c 0 t) (iblk m c 1 t) (iblk m c 2 t) (iblk m c 3 t) (iblk m c 4 t)) (k0_pay12 (cfg0.grid.coords t) (iblk m c 0 t) (iblk m c 1 t) (iblk m c 2 t) (iblk m c 3 t) (iblk m c 4 t)) (View.ld (iblk m c 2 t) r0_3) (ix2 r n)
      = REF0 (m ((c : Thread nD τ).loc main_arg1)) (m ((c : Thread nD τ).loc main_arg2)) (ix3 ⟨t.val / 2, hl⟩ ⟨t.val % 2 * 176 + r.val, hr⟩ n) := by
  unfold k0_pay11 k0_pay12
  rcases layer t with ⟨h, hb⟩ | ⟨h, hb⟩
  · have e : (⟨t.val / 2, hl⟩ : Fin 2) = 0 := Fin.ext h
    rw [hb, pay6_0, pay4, e, ref0]
    exact congrArg₂ (fun a b : EReal => a + b) (congrArg₂ (fun a b : EReal => a + b) (congrArg₂ (fun a b : EReal => a + b) (read00 m c t h r n hr) (read01 m c t h r n hr)) (read02 m c t h r n hr)) (read03 m c t h r n hr)
  · have e : (⟨t.val / 2, hl⟩ : Fin 2) = 1 := Fin.ext h
    rw [hb, pay6_1, pay5, e, ref1]
    exact congrArg₂ (fun a b : EReal => a + b) (congrArg₂ (fun a b : EReal => a + b) (congrArg₂ (fun a b : EReal => a + b) (read10 m c t h r n hr) (read11 m c t h r n hr)) (read12 m c t h r n hr)) (read13 m c t h r n hr)

/-- The gradient the call leaves is the reference's. -/
theorem final0 (c : Dev nD) : (dats m 0 c).arrAt 5 (cfgs 0).N = REF0 (m ((c : Thread nD τ).loc main_arg1)) (m ((c : Thread nD τ).loc main_arg2)) := by
  refine (dats m 0 c).arrAt_eq_of_covers 5 _ (by decide +kernel) fun t hf y => ?_
  blk_simp; rw [after0_5]
  have ht : t.val < 2 * 2 := lt_of_lt_of_eq t.isLt N_0
  unfold out0_5
  canon_tiles x h
  have hl : t.val / 2 < 2 := by omega
  have hr : t.val % 2 * 176 + (x 1).val < 352 := by have : (x 1).val < 176 := (x 1).isLt; omega
  rw [pay7]
  refine (grad m c t (x 1) (x 2) hl hr).trans (congrArg _ ?_)
  blk_ext [idx t]

/-- What a point reads of the weight. -/
theorem readA0 (c : Dev nD) (t : Fin cfg0.N) (x : S1x176x1024.Idx) (hl : t.val / 2 < 2) (hr : t.val % 2 * 176 + (x 1).val < 352) :
    View.ld (iblk m c 0 t) r0_4 x = m ((c : Thread nD τ).loc main_arg0) (ix3 ⟨t.val / 2, hl⟩ ⟨t.val % 2 * 176 + (x 1).val, hr⟩ (x 2)) := by
  refine Eq.trans ?_ (congrFun (V_main_arg0 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the first moment. -/
theorem readA3 (c : Dev nD) (t : Fin cfg0.N) (x : S1x176x1024.Idx) (hl : t.val / 2 < 2) (hr : t.val % 2 * 176 + (x 1).val < 352) :
    View.ld (iblk m c 3 t) r0_4 x = m ((c : Thread nD τ).loc main_arg3) (ix3 ⟨t.val / 2, hl⟩ ⟨t.val % 2 * 176 + (x 1).val, hr⟩ (x 2)) := by
  refine Eq.trans ?_ (congrFun (V_main_arg3 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the second moment. -/
theorem readA4 (c : Dev nD) (t : Fin cfg0.N) (x : S1x176x1024.Idx) (hl : t.val / 2 < 2) (hr : t.val % 2 * 176 + (x 1).val < 352) :
    View.ld (iblk m c 4 t) r0_4 x = m ((c : Thread nD τ).loc main_arg4) (ix3 ⟨t.val / 2, hl⟩ ⟨t.val % 2 * 176 + (x 1).val, hr⟩ (x 2)) := by
  refine Eq.trans ?_ (congrFun (V_main_arg4 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- The first moment's step. -/
abbrev first (mo g : EReal) : EReal := Ideal.ofBits .f32 0x3F666666#32 * mo + Ideal.ofBits .f32 0x3DCCCCCD#32 * g

/-- The second moment's step. -/
abbrev second (vo g : EReal) : EReal := Ideal.ofBits .f32 0x3F7FBE77#32 * vo + Ideal.ofBits .f32 0x3A83126F#32 * (g * g)

/-- The weight's change. -/
abbrev change (w g mo vo : EReal) : EReal := Ideal.ofBits .f32 0xBA83126F#32
  * (Ideal.div (Ideal.div (first mo g) (Ideal.ofBits .f32 0x3F26BD02#32)) (Ideal.sqrt (Ideal.div (second vo g) (Ideal.ofBits .f32 0x3C231ACC#32)) + Ideal.ofBits .f32 0x322BCC77#32)
    + Ideal.ofBits .f32 0x3C23D70A#32 * w)

/-- The first moment as it is stored. -/
theorem payM (b : BitVec 32) (v14 v25 : FVec Ideal S176x1024 .f32) (v26 : Vec Ideal S1x1x176x1024 .bf16) (v35 : Vec Ideal S1x176x1024 .f32) (x : S1x176x1024.Idx) :
    k0_pay2 (k0_pay8 b v14 v25 v26 v35) x = first (v35 x) (k0_pay6 b v14 v25 v26 (ix2 (x 1) (x 2))) := by
  unfold k0_pay2 k0_pay8
  pointwise

/-- The second moment as it is stored. -/
theorem payV (b : BitVec 32) (v14 v25 : FVec Ideal S176x1024 .f32) (v26 : Vec Ideal S1x1x176x1024 .bf16) (v42 : Vec Ideal S1x176x1024 .f32) (x : S1x176x1024.Idx) :
    k0_pay3 (k0_pay9 b v14 v25 v26 v42) x = second (v42 x) (k0_pay6 b v14 v25 v26 (ix2 (x 1) (x 2))) := by
  unfold k0_pay3 k0_pay9
  pointwise

/-- The weight's change as it is stored. -/
theorem payD (b : BitVec 32) (v14 v25 : FVec Ideal S176x1024 .f32) (v26 : Vec Ideal S1x1x176x1024 .bf16) (v35 v42 v58 : Vec Ideal S1x176x1024 .f32) (x : S1x176x1024.Idx) :
    k0_pay1 (k0_pay10 b v14 v25 v26 v35 v42 v58) (Scalar.ofBits .f32 0xBA83126F#32) x = change (v58 x) (k0_pay6 b v14 v25 v26 (ix2 (x 1) (x 2))) (v35 x) (v42 x) := by
  unfold k0_pay1 k0_pay10 k0_pay8 k0_pay9
  pointwise

/-- The reference's change of the weight, at an index. -/
theorem refD (a0 : FVec Ideal Cert.Reference33Ideal.S2x352x1024 .f32) (a1 a2 : FVec Ideal Cert.Reference33Ideal.S4x1x352x1024 .f32) (a3 a4 : FVec Ideal Cert.Reference33Ideal.S2x352x1024 .f32) (i : Cert.Reference33Ideal.S2x352x1024.Idx) :
    REF1 a0 a1 a2 a3 a4 i = change (a0 i) (REF0 a1 a2 i) (a3 i) (a4 i) := by
  pointwise [REF1]

/-- The reference's first moment, at an index. -/
theorem refM (a1 a2 : FVec Ideal Cert.Reference33Ideal.S4x1x352x1024 .f32) (a3 : FVec Ideal Cert.Reference33Ideal.S2x352x1024 .f32) (i : Cert.Reference33Ideal.S2x352x1024.Idx) :
    REF2 a1 a2 a3 i = first (a3 i) (REF0 a1 a2 i) := by
  pointwise [REF2]

/-- The reference's second moment, at an index. -/
theorem refV (a1 a2 : FVec Ideal Cert.Reference33Ideal.S4x1x352x1024 .f32) (a4 : FVec Ideal Cert.Reference33Ideal.S2x352x1024 .f32) (i : Cert.Reference33Ideal.S2x352x1024.Idx) :
    REF3 a1 a2 a4 i = second (a4 i) (REF0 a1 a2 i) := by
  pointwise [REF3]

/-- The change of the weight the call leaves is the reference's. -/
theorem final1 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have ht : t.val < 2 * 2 := lt_of_lt_of_eq t.isLt N_0
  unfold out0_6
  canon_tiles x h
  have hl : t.val / 2 < 2 := by omega
  have hr : t.val % 2 * 176 + (x 1).val < 352 := by have : (x 1).val < 176 := (x 1).isLt; omega
  have e : ((cfg0.win 6).blk t).view.emb y = ix3 ⟨t.val / 2, hl⟩ ⟨t.val % 2 * 176 + (x 1).val, hr⟩ (x 2) := by blk_ext [idx t]
  refine Eq.trans ?_ ((congrArg _ e).trans (refD _ _ _ _ _ _)).symm
  rw [payD]
  have hg := grad m c t (x 1) (x 2) hl hr
  exact congr (congr (congr (congrArg change (readA0 m c t x hl hr)) hg) (readA3 m c t x hl hr)) (readA4 m c t x hl hr)

/-- The first moment the call leaves is the reference's. -/
theorem final2 (c : Dev nD) : (dats m 0 c).arrAt 7 (cfgs 0).N = REF2 (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]
  have ht : t.val < 2 * 2 := lt_of_lt_of_eq t.isLt N_0
  unfold out0_7
  canon_tiles x h
  have hl : t.val / 2 < 2 := by omega
  have hr : t.val % 2 * 176 + (x 1).val < 352 := by have : (x 1).val < 176 := (x 1).isLt; omega
  have e : ((cfg0.win 7).blk t).view.emb y = ix3 ⟨t.val / 2, hl⟩ ⟨t.val % 2 * 176 + (x 1).val, hr⟩ (x 2) := by blk_ext [idx t]
  refine Eq.trans ?_ ((congrArg _ e).trans (refM _ _ _ _)).symm
  rw [payM]
  have hg := grad m c t (x 1) (x 2) hl hr
  exact congrArg₂ first (readA3 m c t x hl hr) hg

/-- The second moment the call leaves is the reference's. -/
theorem final3 (c : Dev nD) : (dats m 0 c).arrAt 8 (cfgs 0).N = REF3 (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp; rw [after0_8]
  have ht : t.val < 2 * 2 := lt_of_lt_of_eq t.isLt N_0
  unfold out0_8
  canon_tiles x h
  have hl : t.val / 2 < 2 := by omega
  have hr : t.val % 2 * 176 + (x 1).val < 352 := by have : (x 1).val < 176 := (x 1).isLt; omega
  have e : ((cfg0.win 8).blk t).view.emb y = ix3 ⟨t.val / 2, hl⟩ ⟨t.val % 2 * 176 + (x 1).val, hr⟩ (x 2) := by blk_ext [idx t]
  refine Eq.trans ?_ ((congrArg _ e).trans (refV _ _ _ _)).symm
  rw [payV]
  have hg := grad m c t (x 1) (x 2) hl hr
  exact congrArg₂ second (readA4 m c t x hl hr) hg

end Cert.Kernel33Ideal.Value

end
-- ==== Proof.Calls.AdamIn.lean ====
/- The optimiser's step of the mixer's sharded input weight. -/
module

public import proofs.«01_k».proof.Proof.Gen.Kernel34Ideal.Value
public import proofs.«01_k».proof.Proof.Gen.Reference34Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel34Ideal.Value

open Cert.Kernel34Ideal Cert.Kernel34Ideal.Gen

variable (m : (ℓ : Loc nD τ sig) → Buf (Elt Ideal) ℓ)

/-- The reference's gradient, over its arguments. -/
def REF0 (a1 : FVec Ideal Cert.Reference34Ideal.S4x1x1024x1028 .f32) (a2 : FVec Ideal Cert.Reference34Ideal.S4x1x1024x1028 .f32) : FVec Ideal Cert.Reference34Ideal.S2x1024x1028 .f32 :=
  concatenate Cert.Reference34Ideal.S2x1024x1028 0 [⟨Cert.Reference34Ideal.S1x1024x1028, (broadcastInDim Cert.Reference34Ideal.S1x1024x1028 ![1, 2] Cert.Reference34Ideal.Gen.bcast_S1024x1028_S1x1024x1028_1_2 (Host.reduceAdd (shapeCast _ a1 Cert.Reference34Ideal.Gen.shapeCasts_S4x1x1024x1028_S4x1024x1028) (constant Cert.Reference34Ideal.S_ .f32 0x00000000#32) Cert.Reference34Ideal.Gen.reducesTo_S4x1024x1028_S1024x1028_d0 Cert.Reference34Ideal.Gen.h_S_))⟩, ⟨Cert.Reference34Ideal.S1x1024x1028, (broadcastInDim Cert.Reference34Ideal.S1x1024x1028 ![1, 2] Cert.Reference34Ideal.Gen.bcast_S1024x1028_S1x1024x1028_1_2 (Host.reduceAdd (shapeCast _ a2 Cert.Reference34Ideal.Gen.shapeCasts_S4x1x1024x1028_S4x1024x1028) (constant Cert.Reference34Ideal.S_ .f32 0x00000000#32) Cert.Reference34Ideal.Gen.reducesTo_S4x1024x1028_S1024x1028_d0 Cert.Reference34Ideal.Gen.h_S_))⟩] Cert.Reference34Ideal.Gen.concatenates_S1x1024x1028_S1x1024x1028_S2x1024x1028_d0

/-- The reference's change of the weight, over its arguments. -/
abbrev REF1 (a0 : FVec Ideal Cert.Reference34Ideal.S2x1024x1028 .f32) (a1 : FVec Ideal Cert.Reference34Ideal.S4x1x1024x1028 .f32) (a2 : FVec Ideal Cert.Reference34Ideal.S4x1x1024x1028 .f32) (a3 : FVec Ideal Cert.Reference34Ideal.S2x1024x1028 .f32) (a4 : FVec Ideal Cert.Reference34Ideal.S2x1024x1028 .f32) : FVec Ideal Cert.Reference34Ideal.S2x1024x1028 .f32 :=
  mulf (broadcastInDim Cert.Reference34Ideal.S2x1024x1028 ![] Cert.Reference34Ideal.Gen.bcast_S_S2x1024x1028 (constant Cert.Reference34Ideal.S_ .f32 0xBA83126F#32)) (addf (Host.divf (Host.divf (addf (mulf (broadcastInDim Cert.Reference34Ideal.S2x1024x1028 ![] Cert.Reference34Ideal.Gen.bcast_S_S2x1024x1028 (constant Cert.Reference34Ideal.S_ .f32 0x3F666666#32)) a3) (mulf (broadcastInDim Cert.Reference34Ideal.S2x1024x1028 ![] Cert.Reference34Ideal.Gen.bcast_S_S2x1024x1028 (constant Cert.Reference34Ideal.S_ .f32 0x3DCCCCCD#32)) (REF0 a1 a2))) (broadcastInDim Cert.Reference34Ideal.S2x1024x1028 ![] Cert.Reference34Ideal.Gen.bcast_S_S2x1024x1028 (constant Cert.Reference34Ideal.S_ .f32 0x3F26BD02#32))) (addf (Host.sqrt (Host.divf (addf (mulf (broadcastInDim Cert.Reference34Ideal.S2x1024x1028 ![] Cert.Reference34Ideal.Gen.bcast_S_S2x1024x1028 (constant Cert.Reference34Ideal.S_ .f32 0x3F7FBE77#32)) a4) (mulf (broadcastInDim Cert.Reference34Ideal.S2x1024x1028 ![] Cert.Reference34Ideal.Gen.bcast_S_S2x1024x1028 (constant Cert.Reference34Ideal.S_ .f32 0x3A83126F#32)) (mulf (REF0 a1 a2) (REF0 a1 a2)))) (broadcastInDim Cert.Reference34Ideal.S2x1024x1028 ![] Cert.Reference34Ideal.Gen.bcast_S_S2x1024x1028 (constant Cert.Reference34Ideal.S_ .f32 0x3C231ACC#32)))) (broadcastInDim Cert.Reference34Ideal.S2x1024x1028 ![] Cert.Reference34Ideal.Gen.bcast_S_S2x1024x1028 (constant Cert.Reference34Ideal.S_ .f32 0x322BCC77#32)))) (mulf (broadcastInDim Cert.Reference34Ideal.S2x1024x1028 ![] Cert.Reference34Ideal.Gen.bcast_S_S2x1024x1028 (constant Cert.Reference34Ideal.S_ .f32 0x3C23D70A#32)) a0))

/-- The reference's first moment, over its arguments. -/
abbrev REF2 (a1 : FVec Ideal Cert.Reference34Ideal.S4x1x1024x1028 .f32) (a2 : FVec Ideal Cert.Reference34Ideal.S4x1x1024x1028 .f32) (a3 : FVec Ideal Cert.Reference34Ideal.S2x1024x1028 .f32) : FVec Ideal Cert.Reference34Ideal.S2x1024x1028 .f32 :=
  addf (mulf (broadcastInDim Cert.Reference34Ideal.S2x1024x1028 ![] Cert.Reference34Ideal.Gen.bcast_S_S2x1024x1028 (constant Cert.Reference34Ideal.S_ .f32 0x3F666666#32)) a3) (mulf (broadcastInDim Cert.Reference34Ideal.S2x1024x1028 ![] Cert.Reference34Ideal.Gen.bcast_S_S2x1024x1028 (constant Cert.Reference34Ideal.S_ .f32 0x3DCCCCCD#32)) (REF0 a1 a2))

/-- The reference's second moment, over its arguments. -/
abbrev REF3 (a1 : FVec Ideal Cert.Reference34Ideal.S4x1x1024x1028 .f32) (a2 : FVec Ideal Cert.Reference34Ideal.S4x1x1024x1028 .f32) (a4 : FVec Ideal Cert.Reference34Ideal.S2x1024x1028 .f32) : FVec Ideal Cert.Reference34Ideal.S2x1024x1028 .f32 :=
  addf (mulf (broadcastInDim Cert.Reference34Ideal.S2x1024x1028 ![] Cert.Reference34Ideal.Gen.bcast_S_S2x1024x1028 (constant Cert.Reference34Ideal.S_ .f32 0x3F7FBE77#32)) a4) (mulf (broadcastInDim Cert.Reference34Ideal.S2x1024x1028 ![] Cert.Reference34Ideal.Gen.bcast_S_S2x1024x1028 (constant Cert.Reference34Ideal.S_ .f32 0x3A83126F#32)) (mulf (REF0 a1 a2) (REF0 a1 a2)))

/-- The reference's gradient of the first layer. -/
theorem ref0 (a1 a2 : FVec Ideal Cert.Reference34Ideal.S4x1x1024x1028 .f32) (r : Fin 1024) (n : Fin 1028) :
    REF0 a1 a2 (ix3 0 r n) = a1 (ix4 0 0 r n) + a1 (ix4 1 0 r n) + a1 (ix4 2 0 r n) + a1 (ix4 3 0 r n) := by
  pointwise [REF0]
  simp only [Fin.sum_univ_four, zero_add]

/-- The reference's gradient of the second layer. -/
theorem ref1 (a1 a2 : FVec Ideal Cert.Reference34Ideal.S4x1x1024x1028 .f32) (r : Fin 1024) (n : Fin 1028) :
    REF0 a1 a2 (ix3 1 r n) = a2 (ix4 0 0 r n) + a2 (ix4 1 0 r n) + a2 (ix4 2 0 r n) + a2 (ix4 3 0 r n) := by
  pointwise [REF0]
  simp only [Fin.sum_univ_four, zero_add]

/-- The sum of the first layer's four parts. -/
theorem pay4 (v0 v3 v7 v11 : Vec Ideal S1x1x256x1028 .bf16) (x : S256x1028.Idx) :
    k0_pay4 v0 v3 v7 v11 x = v0 (ix4 0 0 (x 0) (x 1)) + v3 (ix4 0 0 (x 0) (x 1)) + v7 (ix4 0 0 (x 0) (x 1)) + v11 (ix4 0 0 (x 0) (x 1)) := by
  pointwise [k0_pay1, k0_pay2, k0_pay3, k0_pay4, k0_pay5, k0_pay6, k0_pay7, k0_pay8, k0_pay9, k0_pay10, k0_pay11, k0_pay12]

/-- The sum of the second layer's first three parts. -/
theorem pay5 (v0 v3 v7 : Vec Ideal S1x1x256x1028 .bf16) (x : S256x1028.Idx) :
    k0_pay5 v0 v3 v7 x = v0 (ix4 0 0 (x 0) (x 1)) + v3 (ix4 0 0 (x 0) (x 1)) + v7 (ix4 0 0 (x 0) (x 1)) := by
  pointwise [k0_pay1, k0_pay2, k0_pay3, k0_pay4, k0_pay5, k0_pay6, k0_pay7, k0_pay8, k0_pay9, k0_pay10, k0_pay11, k0_pay12]

/-- A point of the first layer keeps the first sum. -/
theorem pay6_0 (v14 v25 : FVec Ideal S256x1028 .f32) (v26 : Vec Ideal S1x1x256x1028 .bf16) (x : S256x1028.Idx) :
    k0_pay6 0#32 v14 v25 v26 x = v14 x := rfl

/-- A point of the second layer keeps the second. -/
theorem pay6_1 (v14 v25 : FVec Ideal S256x1028 .f32) (v26 : Vec Ideal S1x1x256x1028 .bf16) (x : S256x1028.Idx) :
    k0_pay6 1#32 v14 v25 v26 x = v25 x + v26 (ix4 0 0 (x 0) (x 1)) := by
  pointwise [k0_pay6]

/-- The gradient as it is stored. -/
theorem pay7 (b : BitVec 32) (v14 v25 : FVec Ideal S256x1028 .f32) (v26 : Vec Ideal S1x1x256x1028 .bf16) (x : S1x256x1028.Idx) :
    k0_pay7 b v14 v25 v26 x = k0_pay6 b v14 v25 v26 (ix2 (x 1) (x 2)) := by
  unfold k0_pay7
  pointwise

/-- Every grid point's layer. -/
theorem layer : ∀ t : Fin cfg0.N, (t.val / 4 = 0 ∧ BitVec.ofNat 32 ((cfg0.grid.coords t) 0).val = 0#32) ∨ (t.val / 4 = 1 ∧ BitVec.ofNat 32 ((cfg0.grid.coords t) 0).val = 1#32) :=
  (by decide +kernel : ∀ t : Fin grid0.N, _)

/-- Every window's block at every grid point. -/
theorem idx : ∀ t : Fin cfg0.N, win0_0.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The first layer's parts, at a point of that layer. -/
theorem idx1 : ∀ t : Fin cfg0.N, t.val / 4 = 0 → win0_1.index t = ![0, 0, t.val % 4, 0] :=
  (by decide +kernel : ∀ t : Fin grid0.N, _)

/-- The second layer's parts, at a point of that layer. -/
theorem idx2 : ∀ t : Fin cfg0.N, t.val / 4 = 1 → win0_2.index t = ![0, 0, t.val % 4, 0] :=
  (by decide +kernel : ∀ t : Fin grid0.N, _)

/-- The first layer's parts as the call is given them. -/
theorem cast0 (c : Dev nD) (i : S4x1x1024x1028.Idx) : V m c main_v0 i = m ((c : Thread nD τ).loc main_arg1) i := by
  entry_read
  pointwise

/-- The second layer's parts as the call is given them. -/
theorem cast1 (c : Dev nD) (i : S4x1x1024x1028.Idx) : V m c main_v1 i = m ((c : Thread nD τ).loc main_arg2) i := by
  entry_read
  pointwise

/-- What a point of layer 0 reads of part 0. -/
theorem read00 (c : Dev nD) (t : Fin cfg0.N) (h : t.val / 4 = 0) (r : Fin 256) (n : Fin 1028) (hr : t.val % 4 * 256 + r.val < 1024) :
    View.ld (iblk m c 1 t) r0_0 (ix4 0 0 r n) = m ((c : Thread nD τ).loc main_arg1) (ix4 0 0 ⟨t.val % 4 * 256 + r.val, hr⟩ n) := by
  refine Eq.trans ?_ (cast0 m c _)
  blk_ext [iblk, View.ld, idx1 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 1. -/
theorem read01 (c : Dev nD) (t : Fin cfg0.N) (h : t.val / 4 = 0) (r : Fin 256) (n : Fin 1028) (hr : t.val % 4 * 256 + r.val < 1024) :
    View.ld (iblk m c 1 t) r0_1 (ix4 0 0 r n) = m ((c : Thread nD τ).loc main_arg1) (ix4 1 0 ⟨t.val % 4 * 256 + r.val, hr⟩ n) := by
  refine Eq.trans ?_ (cast0 m c _)
  blk_ext [iblk, View.ld, idx1 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 2. -/
theorem read02 (c : Dev nD) (t : Fin cfg0.N) (h : t.val / 4 = 0) (r : Fin 256) (n : Fin 1028) (hr : t.val % 4 * 256 + r.val < 1024) :
    View.ld (iblk m c 1 t) r0_2 (ix4 0 0 r n) = m ((c : Thread nD τ).loc main_arg1) (ix4 2 0 ⟨t.val % 4 * 256 + r.val, hr⟩ n) := by
  refine Eq.trans ?_ (cast0 m c _)
  blk_ext [iblk, View.ld, idx1 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 3. -/
theorem read03 (c : Dev nD) (t : Fin cfg0.N) (h : t.val / 4 = 0) (r : Fin 256) (n : Fin 1028) (hr : t.val % 4 * 256 + r.val < 1024) :
    View.ld (iblk m c 1 t) r0_3 (ix4 0 0 r n) = m ((c : Thread nD τ).loc main_arg1) (ix4 3 0 ⟨t.val % 4 * 256 + r.val, hr⟩ n) := by
  refine Eq.trans ?_ (cast0 m c _)
  blk_ext [iblk, View.ld, idx1 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 0. -/
theorem read10 (c : Dev nD) (t : Fin cfg0.N) (h : t.val / 4 = 1) (r : Fin 256) (n : Fin 1028) (hr : t.val % 4 * 256 + r.val < 1024) :
    View.ld (iblk m c 2 t) r0_0 (ix4 0 0 r n) = m ((c : Thread nD τ).loc main_arg2) (ix4 0 0 ⟨t.val % 4 * 256 + r.val, hr⟩ n) := by
  refine Eq.trans ?_ (cast1 m c _)
  blk_ext [iblk, View.ld, idx2 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 1. -/
theorem read11 (c : Dev nD) (t : Fin cfg0.N) (h : t.val / 4 = 1) (r : Fin 256) (n : Fin 1028) (hr : t.val % 4 * 256 + r.val < 1024) :
    View.ld (iblk m c 2 t) r0_1 (ix4 0 0 r n) = m ((c : Thread nD τ).loc main_arg2) (ix4 1 0 ⟨t.val % 4 * 256 + r.val, hr⟩ n) := by
  refine Eq.trans ?_ (cast1 m c _)
  blk_ext [iblk, View.ld, idx2 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 2. -/
theorem read12 (c : Dev nD) (t : Fin cfg0.N) (h : t.val / 4 = 1) (r : Fin 256) (n : Fin 1028) (hr : t.val % 4 * 256 + r.val < 1024) :
    View.ld (iblk m c 2 t) r0_2 (ix4 0 0 r n) = m ((c : Thread nD τ).loc main_arg2) (ix4 2 0 ⟨t.val % 4 * 256 + r.val, hr⟩ n) := by
  refine Eq.trans ?_ (cast1 m c _)
  blk_ext [iblk, View.ld, idx2 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 3. -/
theorem read13 (c : Dev nD) (t : Fin cfg0.N) (h : t.val / 4 = 1) (r : Fin 256) (n : Fin 1028) (hr : t.val % 4 * 256 + r.val < 1024) :
    View.ld (iblk m c 2 t) r0_3 (ix4 0 0 r n) = m ((c : Thread nD τ).loc main_arg2) (ix4 3 0 ⟨t.val % 4 * 256 + r.val, hr⟩ n) := by
  refine Eq.trans ?_ (cast1 m c _)
  blk_ext [iblk, View.ld, idx2 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- The gradient a point forms. -/
theorem grad (c : Dev nD) (t : Fin cfg0.N) (r : Fin 256) (n : Fin 1028) (hl : t.val / 4 < 2) (hr : t.val % 4 * 256 + r.val < 1024) :
    k0_pay6 (BitVec.ofNat 32 ((cfg0.grid.coords t) 0).val) (k0_pay11 (cfg0.grid.coords t) (iblk m c 0 t) (iblk m c 1 t) (iblk m c 2 t) (iblk m c 3 t) (iblk m c 4 t)) (k0_pay12 (cfg0.grid.coords t) (iblk m c 0 t) (iblk m c 1 t) (iblk m c 2 t) (iblk m c 3 t) (iblk m c 4 t)) (View.ld (iblk m c 2 t) r0_3) (ix2 r n)
      = REF0 (m ((c : Thread nD τ).loc main_arg1)) (m ((c : Thread nD τ).loc main_arg2)) (ix3 ⟨t.val / 4, hl⟩ ⟨t.val % 4 * 256 + r.val, hr⟩ n) := by
  unfold k0_pay11 k0_pay12
  rcases layer t with ⟨h, hb⟩ | ⟨h, hb⟩
  · have e : (⟨t.val / 4, hl⟩ : Fin 2) = 0 := Fin.ext h
    rw [hb, pay6_0, pay4, e, ref0]
    exact congrArg₂ (fun a b : EReal => a + b) (congrArg₂ (fun a b : EReal => a + b) (congrArg₂ (fun a b : EReal => a + b) (read00 m c t h r n hr) (read01 m c t h r n hr)) (read02 m c t h r n hr)) (read03 m c t h r n hr)
  · have e : (⟨t.val / 4, hl⟩ : Fin 2) = 1 := Fin.ext h
    rw [hb, pay6_1, pay5, e, ref1]
    exact congrArg₂ (fun a b : EReal => a + b) (congrArg₂ (fun a b : EReal => a + b) (congrArg₂ (fun a b : EReal => a + b) (read10 m c t h r n hr) (read11 m c t h r n hr)) (read12 m c t h r n hr)) (read13 m c t h r n hr)

/-- The gradient the call leaves is the reference's. -/
theorem final0 (c : Dev nD) : (dats m 0 c).arrAt 5 (cfgs 0).N = REF0 (m ((c : Thread nD τ).loc main_arg1)) (m ((c : Thread nD τ).loc main_arg2)) := by
  refine (dats m 0 c).arrAt_eq_of_covers 5 _ (by decide +kernel) fun t hf y => ?_
  blk_simp; rw [after0_5]
  have ht : t.val < 2 * 4 := lt_of_lt_of_eq t.isLt N_0
  unfold out0_5
  canon_tiles x h
  have hl : t.val / 4 < 2 := by omega
  have hr : t.val % 4 * 256 + (x 1).val < 1024 := by have : (x 1).val < 256 := (x 1).isLt; omega
  rw [pay7]
  refine (grad m c t (x 1) (x 2) hl hr).trans (congrArg _ ?_)
  blk_ext [idx t]

/-- What a point reads of the weight. -/
theorem readA0 (c : Dev nD) (t : Fin cfg0.N) (x : S1x256x1028.Idx) (hl : t.val / 4 < 2) (hr : t.val % 4 * 256 + (x 1).val < 1024) :
    View.ld (iblk m c 0 t) r0_4 x = m ((c : Thread nD τ).loc main_arg0) (ix3 ⟨t.val / 4, hl⟩ ⟨t.val % 4 * 256 + (x 1).val, hr⟩ (x 2)) := by
  refine Eq.trans ?_ (congrFun (V_main_arg0 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the first moment. -/
theorem readA3 (c : Dev nD) (t : Fin cfg0.N) (x : S1x256x1028.Idx) (hl : t.val / 4 < 2) (hr : t.val % 4 * 256 + (x 1).val < 1024) :
    View.ld (iblk m c 3 t) r0_4 x = m ((c : Thread nD τ).loc main_arg3) (ix3 ⟨t.val / 4, hl⟩ ⟨t.val % 4 * 256 + (x 1).val, hr⟩ (x 2)) := by
  refine Eq.trans ?_ (congrFun (V_main_arg3 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the second moment. -/
theorem readA4 (c : Dev nD) (t : Fin cfg0.N) (x : S1x256x1028.Idx) (hl : t.val / 4 < 2) (hr : t.val % 4 * 256 + (x 1).val < 1024) :
    View.ld (iblk m c 4 t) r0_4 x = m ((c : Thread nD τ).loc main_arg4) (ix3 ⟨t.val / 4, hl⟩ ⟨t.val % 4 * 256 + (x 1).val, hr⟩ (x 2)) := by
  refine Eq.trans ?_ (congrFun (V_main_arg4 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- The first moment's step. -/
abbrev first (mo g : EReal) : EReal := Ideal.ofBits .f32 0x3F666666#32 * mo + Ideal.ofBits .f32 0x3DCCCCCD#32 * g

/-- The second moment's step. -/
abbrev second (vo g : EReal) : EReal := Ideal.ofBits .f32 0x3F7FBE77#32 * vo + Ideal.ofBits .f32 0x3A83126F#32 * (g * g)

/-- The weight's change. -/
abbrev change (w g mo vo : EReal) : EReal := Ideal.ofBits .f32 0xBA83126F#32
  * (Ideal.div (Ideal.div (first mo g) (Ideal.ofBits .f32 0x3F26BD02#32)) (Ideal.sqrt (Ideal.div (second vo g) (Ideal.ofBits .f32 0x3C231ACC#32)) + Ideal.ofBits .f32 0x322BCC77#32)
    + Ideal.ofBits .f32 0x3C23D70A#32 * w)

/-- The first moment as it is stored. -/
theorem payM (b : BitVec 32) (v14 v25 : FVec Ideal S256x1028 .f32) (v26 : Vec Ideal S1x1x256x1028 .bf16) (v35 : Vec Ideal S1x256x1028 .f32) (x : S1x256x1028.Idx) :
    k0_pay2 (k0_pay8 b v14 v25 v26 v35) x = first (v35 x) (k0_pay6 b v14 v25 v26 (ix2 (x 1) (x 2))) := by
  unfold k0_pay2 k0_pay8
  pointwise

/-- The second moment as it is stored. -/
theorem payV (b : BitVec 32) (v14 v25 : FVec Ideal S256x1028 .f32) (v26 : Vec Ideal S1x1x256x1028 .bf16) (v42 : Vec Ideal S1x256x1028 .f32) (x : S1x256x1028.Idx) :
    k0_pay3 (k0_pay9 b v14 v25 v26 v42) x = second (v42 x) (k0_pay6 b v14 v25 v26 (ix2 (x 1) (x 2))) := by
  unfold k0_pay3 k0_pay9
  pointwise

/-- The weight's change as it is stored. -/
theorem payD (b : BitVec 32) (v14 v25 : FVec Ideal S256x1028 .f32) (v26 : Vec Ideal S1x1x256x1028 .bf16) (v35 v42 v58 : Vec Ideal S1x256x1028 .f32) (x : S1x256x1028.Idx) :
    k0_pay1 (k0_pay10 b v14 v25 v26 v35 v42 v58) (Scalar.ofBits .f32 0xBA83126F#32) x = change (v58 x) (k0_pay6 b v14 v25 v26 (ix2 (x 1) (x 2))) (v35 x) (v42 x) := by
  unfold k0_pay1 k0_pay10 k0_pay8 k0_pay9
  pointwise

/-- The reference's change of the weight, at an index. -/
theorem refD (a0 : FVec Ideal Cert.Reference34Ideal.S2x1024x1028 .f32) (a1 a2 : FVec Ideal Cert.Reference34Ideal.S4x1x1024x1028 .f32) (a3 a4 : FVec Ideal Cert.Reference34Ideal.S2x1024x1028 .f32) (i : Cert.Reference34Ideal.S2x1024x1028.Idx) :
    REF1 a0 a1 a2 a3 a4 i = change (a0 i) (REF0 a1 a2 i) (a3 i) (a4 i) := by
  pointwise [REF1]

/-- The reference's first moment, at an index. -/
theorem refM (a1 a2 : FVec Ideal Cert.Reference34Ideal.S4x1x1024x1028 .f32) (a3 : FVec Ideal Cert.Reference34Ideal.S2x1024x1028 .f32) (i : Cert.Reference34Ideal.S2x1024x1028.Idx) :
    REF2 a1 a2 a3 i = first (a3 i) (REF0 a1 a2 i) := by
  pointwise [REF2]

/-- The reference's second moment, at an index. -/
theorem refV (a1 a2 : FVec Ideal Cert.Reference34Ideal.S4x1x1024x1028 .f32) (a4 : FVec Ideal Cert.Reference34Ideal.S2x1024x1028 .f32) (i : Cert.Reference34Ideal.S2x1024x1028.Idx) :
    REF3 a1 a2 a4 i = second (a4 i) (REF0 a1 a2 i) := by
  pointwise [REF3]

/-- The change of the weight the call leaves is the reference's. -/
theorem final1 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have ht : t.val < 2 * 4 := lt_of_lt_of_eq t.isLt N_0
  unfold out0_6
  canon_tiles x h
  have hl : t.val / 4 < 2 := by omega
  have hr : t.val % 4 * 256 + (x 1).val < 1024 := by have : (x 1).val < 256 := (x 1).isLt; omega
  have e : ((cfg0.win 6).blk t).view.emb y = ix3 ⟨t.val / 4, hl⟩ ⟨t.val % 4 * 256 + (x 1).val, hr⟩ (x 2) := by blk_ext [idx t]
  refine Eq.trans ?_ ((congrArg _ e).trans (refD _ _ _ _ _ _)).symm
  rw [payD]
  have hg := grad m c t (x 1) (x 2) hl hr
  exact congr (congr (congr (congrArg change (readA0 m c t x hl hr)) hg) (readA3 m c t x hl hr)) (readA4 m c t x hl hr)

/-- The first moment the call leaves is the reference's. -/
theorem final2 (c : Dev nD) : (dats m 0 c).arrAt 7 (cfgs 0).N = REF2 (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]
  have ht : t.val < 2 * 4 := lt_of_lt_of_eq t.isLt N_0
  unfold out0_7
  canon_tiles x h
  have hl : t.val / 4 < 2 := by omega
  have hr : t.val % 4 * 256 + (x 1).val < 1024 := by have : (x 1).val < 256 := (x 1).isLt; omega
  have e : ((cfg0.win 7).blk t).view.emb y = ix3 ⟨t.val / 4, hl⟩ ⟨t.val % 4 * 256 + (x 1).val, hr⟩ (x 2) := by blk_ext [idx t]
  refine Eq.trans ?_ ((congrArg _ e).trans (refM _ _ _ _)).symm
  rw [payM]
  have hg := grad m c t (x 1) (x 2) hl hr
  exact congrArg₂ first (readA3 m c t x hl hr) hg

/-- The second moment the call leaves is the reference's. -/
theorem final3 (c : Dev nD) : (dats m 0 c).arrAt 8 (cfgs 0).N = REF3 (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp; rw [after0_8]
  have ht : t.val < 2 * 4 := lt_of_lt_of_eq t.isLt N_0
  unfold out0_8
  canon_tiles x h
  have hl : t.val / 4 < 2 := by omega
  have hr : t.val % 4 * 256 + (x 1).val < 1024 := by have : (x 1).val < 256 := (x 1).isLt; omega
  have e : ((cfg0.win 8).blk t).view.emb y = ix3 ⟨t.val / 4, hl⟩ ⟨t.val % 4 * 256 + (x 1).val, hr⟩ (x 2) := by blk_ext [idx t]
  refine Eq.trans ?_ ((congrArg _ e).trans (refV _ _ _ _)).symm
  rw [payV]
  have hg := grad m c t (x 1) (x 2) hl hr
  exact congrArg₂ second (readA4 m c t x hl hr) hg

end Cert.Kernel34Ideal.Value

end
-- ==== Proof.Calls.AdamBranch.lean ====
/- The optimiser's step of the first branch's sharded output weight. -/
module

public import proofs.«01_k».proof.Proof.Gen.Kernel35Ideal.Value
public import proofs.«01_k».proof.Proof.Gen.Reference35Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel35Ideal.Value

open Cert.Kernel35Ideal Cert.Kernel35Ideal.Gen

variable (m : (ℓ : Loc nD τ sig) → Buf (Elt Ideal) ℓ)

/-- The reference's gradient, over its arguments. -/
def REF0 (a1 : FVec Ideal Cert.Reference35Ideal.S4x1x256x1024 .f32) (a2 : FVec Ideal Cert.Reference35Ideal.S4x1x256x1024 .f32) : FVec Ideal Cert.Reference35Ideal.S2x256x1024 .f32 :=
  concatenate Cert.Reference35Ideal.S2x256x1024 0 [⟨Cert.Reference35Ideal.S1x256x1024, (broadcastInDim Cert.Reference35Ideal.S1x256x1024 ![1, 2] Cert.Reference35Ideal.Gen.bcast_S256x1024_S1x256x1024_1_2 (Host.reduceAdd (shapeCast _ a1 Cert.Reference35Ideal.Gen.shapeCasts_S4x1x256x1024_S4x256x1024) (constant Cert.Reference35Ideal.S_ .f32 0x00000000#32) Cert.Reference35Ideal.Gen.reducesTo_S4x256x1024_S256x1024_d0 Cert.Reference35Ideal.Gen.h_S_))⟩, ⟨Cert.Reference35Ideal.S1x256x1024, (broadcastInDim Cert.Reference35Ideal.S1x256x1024 ![1, 2] Cert.Reference35Ideal.Gen.bcast_S256x1024_S1x256x1024_1_2 (Host.reduceAdd (shapeCast _ a2 Cert.Reference35Ideal.Gen.shapeCasts_S4x1x256x1024_S4x256x1024) (constant Cert.Reference35Ideal.S_ .f32 0x00000000#32) Cert.Reference35Ideal.Gen.reducesTo_S4x256x1024_S256x1024_d0 Cert.Reference35Ideal.Gen.h_S_))⟩] Cert.Reference35Ideal.Gen.concatenates_S1x256x1024_S1x256x1024_S2x256x1024_d0

/-- The reference's change of the weight, over its arguments. -/
abbrev REF1 (a0 : FVec Ideal Cert.Reference35Ideal.S2x256x1024 .f32) (a1 : FVec Ideal Cert.Reference35Ideal.S4x1x256x1024 .f32) (a2 : FVec Ideal Cert.Reference35Ideal.S4x1x256x1024 .f32) (a3 : FVec Ideal Cert.Reference35Ideal.S2x256x1024 .f32) (a4 : FVec Ideal Cert.Reference35Ideal.S2x256x1024 .f32) : FVec Ideal Cert.Reference35Ideal.S2x256x1024 .f32 :=
  mulf (broadcastInDim Cert.Reference35Ideal.S2x256x1024 ![] Cert.Reference35Ideal.Gen.bcast_S_S2x256x1024 (constant Cert.Reference35Ideal.S_ .f32 0xBA83126F#32)) (addf (Host.divf (Host.divf (addf (mulf (broadcastInDim Cert.Reference35Ideal.S2x256x1024 ![] Cert.Reference35Ideal.Gen.bcast_S_S2x256x1024 (constant Cert.Reference35Ideal.S_ .f32 0x3F666666#32)) a3) (mulf (broadcastInDim Cert.Reference35Ideal.S2x256x1024 ![] Cert.Reference35Ideal.Gen.bcast_S_S2x256x1024 (constant Cert.Reference35Ideal.S_ .f32 0x3DCCCCCD#32)) (REF0 a1 a2))) (broadcastInDim Cert.Reference35Ideal.S2x256x1024 ![] Cert.Reference35Ideal.Gen.bcast_S_S2x256x1024 (constant Cert.Reference35Ideal.S_ .f32 0x3F26BD02#32))) (addf (Host.sqrt (Host.divf (addf (mulf (broadcastInDim Cert.Reference35Ideal.S2x256x1024 ![] Cert.Reference35Ideal.Gen.bcast_S_S2x256x1024 (constant Cert.Reference35Ideal.S_ .f32 0x3F7FBE77#32)) a4) (mulf (broadcastInDim Cert.Reference35Ideal.S2x256x1024 ![] Cert.Reference35Ideal.Gen.bcast_S_S2x256x1024 (constant Cert.Reference35Ideal.S_ .f32 0x3A83126F#32)) (mulf (REF0 a1 a2) (REF0 a1 a2)))) (broadcastInDim Cert.Reference35Ideal.S2x256x1024 ![] Cert.Reference35Ideal.Gen.bcast_S_S2x256x1024 (constant Cert.Reference35Ideal.S_ .f32 0x3C231ACC#32)))) (broadcastInDim Cert.Reference35Ideal.S2x256x1024 ![] Cert.Reference35Ideal.Gen.bcast_S_S2x256x1024 (constant Cert.Reference35Ideal.S_ .f32 0x322BCC77#32)))) (mulf (broadcastInDim Cert.Reference35Ideal.S2x256x1024 ![] Cert.Reference35Ideal.Gen.bcast_S_S2x256x1024 (constant Cert.Reference35Ideal.S_ .f32 0x3C23D70A#32)) a0))

/-- The reference's first moment, over its arguments. -/
abbrev REF2 (a1 : FVec Ideal Cert.Reference35Ideal.S4x1x256x1024 .f32) (a2 : FVec Ideal Cert.Reference35Ideal.S4x1x256x1024 .f32) (a3 : FVec Ideal Cert.Reference35Ideal.S2x256x1024 .f32) : FVec Ideal Cert.Reference35Ideal.S2x256x1024 .f32 :=
  addf (mulf (broadcastInDim Cert.Reference35Ideal.S2x256x1024 ![] Cert.Reference35Ideal.Gen.bcast_S_S2x256x1024 (constant Cert.Reference35Ideal.S_ .f32 0x3F666666#32)) a3) (mulf (broadcastInDim Cert.Reference35Ideal.S2x256x1024 ![] Cert.Reference35Ideal.Gen.bcast_S_S2x256x1024 (constant Cert.Reference35Ideal.S_ .f32 0x3DCCCCCD#32)) (REF0 a1 a2))

/-- The reference's second moment, over its arguments. -/
abbrev REF3 (a1 : FVec Ideal Cert.Reference35Ideal.S4x1x256x1024 .f32) (a2 : FVec Ideal Cert.Reference35Ideal.S4x1x256x1024 .f32) (a4 : FVec Ideal Cert.Reference35Ideal.S2x256x1024 .f32) : FVec Ideal Cert.Reference35Ideal.S2x256x1024 .f32 :=
  addf (mulf (broadcastInDim Cert.Reference35Ideal.S2x256x1024 ![] Cert.Reference35Ideal.Gen.bcast_S_S2x256x1024 (constant Cert.Reference35Ideal.S_ .f32 0x3F7FBE77#32)) a4) (mulf (broadcastInDim Cert.Reference35Ideal.S2x256x1024 ![] Cert.Reference35Ideal.Gen.bcast_S_S2x256x1024 (constant Cert.Reference35Ideal.S_ .f32 0x3A83126F#32)) (mulf (REF0 a1 a2) (REF0 a1 a2)))

/-- The reference's gradient of the first layer. -/
theorem ref0 (a1 a2 : FVec Ideal Cert.Reference35Ideal.S4x1x256x1024 .f32) (r : Fin 256) (n : Fin 1024) :
    REF0 a1 a2 (ix3 0 r n) = a1 (ix4 0 0 r n) + a1 (ix4 1 0 r n) + a1 (ix4 2 0 r n) + a1 (ix4 3 0 r n) := by
  pointwise [REF0]
  simp only [Fin.sum_univ_four, zero_add]

/-- The reference's gradient of the second layer. -/
theorem ref1 (a1 a2 : FVec Ideal Cert.Reference35Ideal.S4x1x256x1024 .f32) (r : Fin 256) (n : Fin 1024) :
    REF0 a1 a2 (ix3 1 r n) = a2 (ix4 0 0 r n) + a2 (ix4 1 0 r n) + a2 (ix4 2 0 r n) + a2 (ix4 3 0 r n) := by
  pointwise [REF0]
  simp only [Fin.sum_univ_four, zero_add]

/-- The sum of the first layer's four parts. -/
theorem pay4 (v0 v3 v7 v11 : Vec Ideal S1x1x256x1024 .bf16) (x : S256x1024.Idx) :
    k0_pay4 v0 v3 v7 v11 x = v0 (ix4 0 0 (x 0) (x 1)) + v3 (ix4 0 0 (x 0) (x 1)) + v7 (ix4 0 0 (x 0) (x 1)) + v11 (ix4 0 0 (x 0) (x 1)) := by
  pointwise [k0_pay1, k0_pay2, k0_pay3, k0_pay4, k0_pay5, k0_pay6, k0_pay7, k0_pay8, k0_pay9, k0_pay10, k0_pay11, k0_pay12]

/-- The sum of the second layer's first three parts. -/
theorem pay5 (v0 v3 v7 : Vec Ideal S1x1x256x1024 .bf16) (x : S256x1024.Idx) :
    k0_pay5 v0 v3 v7 x = v0 (ix4 0 0 (x 0) (x 1)) + v3 (ix4 0 0 (x 0) (x 1)) + v7 (ix4 0 0 (x 0) (x 1)) := by
  pointwise [k0_pay1, k0_pay2, k0_pay3, k0_pay4, k0_pay5, k0_pay6, k0_pay7, k0_pay8, k0_pay9, k0_pay10, k0_pay11, k0_pay12]

/-- A point of the first layer keeps the first sum. -/
theorem pay6_0 (v14 v25 : FVec Ideal S256x1024 .f32) (v26 : Vec Ideal S1x1x256x1024 .bf16) (x : S256x1024.Idx) :
    k0_pay6 0#32 v14 v25 v26 x = v14 x := rfl

/-- A point of the second layer keeps the second. -/
theorem pay6_1 (v14 v25 : FVec Ideal S256x1024 .f32) (v26 : Vec Ideal S1x1x256x1024 .bf16) (x : S256x1024.Idx) :
    k0_pay6 1#32 v14 v25 v26 x = v25 x + v26 (ix4 0 0 (x 0) (x 1)) := by
  pointwise [k0_pay6]

/-- The gradient as it is stored. -/
theorem pay7 (b : BitVec 32) (v14 v25 : FVec Ideal S256x1024 .f32) (v26 : Vec Ideal S1x1x256x1024 .bf16) (x : S1x256x1024.Idx) :
    k0_pay7 b v14 v25 v26 x = k0_pay6 b v14 v25 v26 (ix2 (x 1) (x 2)) := by
  unfold k0_pay7
  pointwise

/-- Every grid point's layer. -/
theorem layer : ∀ t : Fin cfg0.N, (t.val / 1 = 0 ∧ BitVec.ofNat 32 ((cfg0.grid.coords t) 0).val = 0#32) ∨ (t.val / 1 = 1 ∧ BitVec.ofNat 32 ((cfg0.grid.coords t) 0).val = 1#32) :=
  (by decide +kernel : ∀ t : Fin grid0.N, _)

/-- Every window's block at every grid point. -/
theorem idx : ∀ t : Fin cfg0.N, win0_0.index t = ![t.val / 1, t.val % 1, 0]
    ∧ win0_3.index t = ![t.val / 1, t.val % 1, 0]
    ∧ win0_4.index t = ![t.val / 1, t.val % 1, 0]
    ∧ win0_5.index t = ![t.val / 1, t.val % 1, 0]
    ∧ win0_6.index t = ![t.val / 1, t.val % 1, 0]
    ∧ win0_7.index t = ![t.val / 1, t.val % 1, 0]
    ∧ win0_8.index t = ![t.val / 1, t.val % 1, 0] :=
  (by decide +kernel : ∀ t : Fin grid0.N, _)

/-- The first layer's parts, at a point of that layer. -/
theorem idx1 : ∀ t : Fin cfg0.N, t.val / 1 = 0 → win0_1.index t = ![0, 0, t.val % 1, 0] :=
  (by decide +kernel : ∀ t : Fin grid0.N, _)

/-- The second layer's parts, at a point of that layer. -/
theorem idx2 : ∀ t : Fin cfg0.N, t.val / 1 = 1 → win0_2.index t = ![0, 0, t.val % 1, 0] :=
  (by decide +kernel : ∀ t : Fin grid0.N, _)

/-- The first layer's parts as the call is given them. -/
theorem cast0 (c : Dev nD) (i : S4x1x256x1024.Idx) : V m c main_v0 i = m ((c : Thread nD τ).loc main_arg1) i := by
  entry_read
  pointwise

/-- The second layer's parts as the call is given them. -/
theorem cast1 (c : Dev nD) (i : S4x1x256x1024.Idx) : V m c main_v1 i = m ((c : Thread nD τ).loc main_arg2) i := by
  entry_read
  pointwise

/-- What a point of layer 0 reads of part 0. -/
theorem read00 (c : Dev nD) (t : Fin cfg0.N) (h : t.val / 1 = 0) (r : Fin 256) (n : Fin 1024) (hr : t.val % 1 * 256 + r.val < 256) :
    View.ld (iblk m c 1 t) r0_0 (ix4 0 0 r n) = m ((c : Thread nD τ).loc main_arg1) (ix4 0 0 ⟨t.val % 1 * 256 + r.val, hr⟩ n) := by
  refine Eq.trans ?_ (cast0 m c _)
  blk_ext [iblk, View.ld, idx1 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 1. -/
theorem read01 (c : Dev nD) (t : Fin cfg0.N) (h : t.val / 1 = 0) (r : Fin 256) (n : Fin 1024) (hr : t.val % 1 * 256 + r.val < 256) :
    View.ld (iblk m c 1 t) r0_1 (ix4 0 0 r n) = m ((c : Thread nD τ).loc main_arg1) (ix4 1 0 ⟨t.val % 1 * 256 + r.val, hr⟩ n) := by
  refine Eq.trans ?_ (cast0 m c _)
  blk_ext [iblk, View.ld, idx1 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 2. -/
theorem read02 (c : Dev nD) (t : Fin cfg0.N) (h : t.val / 1 = 0) (r : Fin 256) (n : Fin 1024) (hr : t.val % 1 * 256 + r.val < 256) :
    View.ld (iblk m c 1 t) r0_2 (ix4 0 0 r n) = m ((c : Thread nD τ).loc main_arg1) (ix4 2 0 ⟨t.val % 1 * 256 + r.val, hr⟩ n) := by
  refine Eq.trans ?_ (cast0 m c _)
  blk_ext [iblk, View.ld, idx1 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 3. -/
theorem read03 (c : Dev nD) (t : Fin cfg0.N) (h : t.val / 1 = 0) (r : Fin 256) (n : Fin 1024) (hr : t.val % 1 * 256 + r.val < 256) :
    View.ld (iblk m c 1 t) r0_3 (ix4 0 0 r n) = m ((c : Thread nD τ).loc main_arg1) (ix4 3 0 ⟨t.val % 1 * 256 + r.val, hr⟩ n) := by
  refine Eq.trans ?_ (cast0 m c _)
  blk_ext [iblk, View.ld, idx1 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 0. -/
theorem read10 (c : Dev nD) (t : Fin cfg0.N) (h : t.val / 1 = 1) (r : Fin 256) (n : Fin 1024) (hr : t.val % 1 * 256 + r.val < 256) :
    View.ld (iblk m c 2 t) r0_0 (ix4 0 0 r n) = m ((c : Thread nD τ).loc main_arg2) (ix4 0 0 ⟨t.val % 1 * 256 + r.val, hr⟩ n) := by
  refine Eq.trans ?_ (cast1 m c _)
  blk_ext [iblk, View.ld, idx2 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 1. -/
theorem read11 (c : Dev nD) (t : Fin cfg0.N) (h : t.val / 1 = 1) (r : Fin 256) (n : Fin 1024) (hr : t.val % 1 * 256 + r.val < 256) :
    View.ld (iblk m c 2 t) r0_1 (ix4 0 0 r n) = m ((c : Thread nD τ).loc main_arg2) (ix4 1 0 ⟨t.val % 1 * 256 + r.val, hr⟩ n) := by
  refine Eq.trans ?_ (cast1 m c _)
  blk_ext [iblk, View.ld, idx2 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 2. -/
theorem read12 (c : Dev nD) (t : Fin cfg0.N) (h : t.val / 1 = 1) (r : Fin 256) (n : Fin 1024) (hr : t.val % 1 * 256 + r.val < 256) :
    View.ld (iblk m c 2 t) r0_2 (ix4 0 0 r n) = m ((c : Thread nD τ).loc main_arg2) (ix4 2 0 ⟨t.val % 1 * 256 + r.val, hr⟩ n) := by
  refine Eq.trans ?_ (cast1 m c _)
  blk_ext [iblk, View.ld, idx2 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 3. -/
theorem read13 (c : Dev nD) (t : Fin cfg0.N) (h : t.val / 1 = 1) (r : Fin 256) (n : Fin 1024) (hr : t.val % 1 * 256 + r.val < 256) :
    View.ld (iblk m c 2 t) r0_3 (ix4 0 0 r n) = m ((c : Thread nD τ).loc main_arg2) (ix4 3 0 ⟨t.val % 1 * 256 + r.val, hr⟩ n) := by
  refine Eq.trans ?_ (cast1 m c _)
  blk_ext [iblk, View.ld, idx2 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- The gradient a point forms. -/
theorem grad (c : Dev nD) (t : Fin cfg0.N) (r : Fin 256) (n : Fin 1024) (hl : t.val / 1 < 2) (hr : t.val % 1 * 256 + r.val < 256) :
    k0_pay6 (BitVec.ofNat 32 ((cfg0.grid.coords t) 0).val) (k0_pay11 (cfg0.grid.coords t) (iblk m c 0 t) (iblk m c 1 t) (iblk m c 2 t) (iblk m c 3 t) (iblk m c 4 t)) (k0_pay12 (cfg0.grid.coords t) (iblk m c 0 t) (iblk m c 1 t) (iblk m c 2 t) (iblk m c 3 t) (iblk m c 4 t)) (View.ld (iblk m c 2 t) r0_3) (ix2 r n)
      = REF0 (m ((c : Thread nD τ).loc main_arg1)) (m ((c : Thread nD τ).loc main_arg2)) (ix3 ⟨t.val / 1, hl⟩ ⟨t.val % 1 * 256 + r.val, hr⟩ n) := by
  unfold k0_pay11 k0_pay12
  rcases layer t with ⟨h, hb⟩ | ⟨h, hb⟩
  · have e : (⟨t.val / 1, hl⟩ : Fin 2) = 0 := Fin.ext h
    rw [hb, pay6_0, pay4, e, ref0]
    exact congrArg₂ (fun a b : EReal => a + b) (congrArg₂ (fun a b : EReal => a + b) (congrArg₂ (fun a b : EReal => a + b) (read00 m c t h r n hr) (read01 m c t h r n hr)) (read02 m c t h r n hr)) (read03 m c t h r n hr)
  · have e : (⟨t.val / 1, hl⟩ : Fin 2) = 1 := Fin.ext h
    rw [hb, pay6_1, pay5, e, ref1]
    exact congrArg₂ (fun a b : EReal => a + b) (congrArg₂ (fun a b : EReal => a + b) (congrArg₂ (fun a b : EReal => a + b) (read10 m c t h r n hr) (read11 m c t h r n hr)) (read12 m c t h r n hr)) (read13 m c t h r n hr)

/-- The gradient the call leaves is the reference's. -/
theorem final0 (c : Dev nD) : (dats m 0 c).arrAt 5 (cfgs 0).N = REF0 (m ((c : Thread nD τ).loc main_arg1)) (m ((c : Thread nD τ).loc main_arg2)) := by
  refine (dats m 0 c).arrAt_eq_of_covers 5 _ (by decide +kernel) fun t hf y => ?_
  blk_simp; rw [after0_5]
  have ht : t.val < 2 * 1 := lt_of_lt_of_eq t.isLt N_0
  unfold out0_5
  canon_tiles x h
  have hl : t.val / 1 < 2 := by omega
  have hr : t.val % 1 * 256 + (x 1).val < 256 := by have : (x 1).val < 256 := (x 1).isLt; omega
  rw [pay7]
  refine (grad m c t (x 1) (x 2) hl hr).trans (congrArg _ ?_)
  blk_ext [idx t]

/-- What a point reads of the weight. -/
theorem readA0 (c : Dev nD) (t : Fin cfg0.N) (x : S1x256x1024.Idx) (hl : t.val / 1 < 2) (hr : t.val % 1 * 256 + (x 1).val < 256) :
    View.ld (iblk m c 0 t) r0_4 x = m ((c : Thread nD τ).loc main_arg0) (ix3 ⟨t.val / 1, hl⟩ ⟨t.val % 1 * 256 + (x 1).val, hr⟩ (x 2)) := by
  refine Eq.trans ?_ (congrFun (V_main_arg0 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the first moment. -/
theorem readA3 (c : Dev nD) (t : Fin cfg0.N) (x : S1x256x1024.Idx) (hl : t.val / 1 < 2) (hr : t.val % 1 * 256 + (x 1).val < 256) :
    View.ld (iblk m c 3 t) r0_4 x = m ((c : Thread nD τ).loc main_arg3) (ix3 ⟨t.val / 1, hl⟩ ⟨t.val % 1 * 256 + (x 1).val, hr⟩ (x 2)) := by
  refine Eq.trans ?_ (congrFun (V_main_arg3 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the second moment. -/
theorem readA4 (c : Dev nD) (t : Fin cfg0.N) (x : S1x256x1024.Idx) (hl : t.val / 1 < 2) (hr : t.val % 1 * 256 + (x 1).val < 256) :
    View.ld (iblk m c 4 t) r0_4 x = m ((c : Thread nD τ).loc main_arg4) (ix3 ⟨t.val / 1, hl⟩ ⟨t.val % 1 * 256 + (x 1).val, hr⟩ (x 2)) := by
  refine Eq.trans ?_ (congrFun (V_main_arg4 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- The first moment's step. -/
abbrev first (mo g : EReal) : EReal := Ideal.ofBits .f32 0x3F666666#32 * mo + Ideal.ofBits .f32 0x3DCCCCCD#32 * g

/-- The second moment's step. -/
abbrev second (vo g : EReal) : EReal := Ideal.ofBits .f32 0x3F7FBE77#32 * vo + Ideal.ofBits .f32 0x3A83126F#32 * (g * g)

/-- The weight's change. -/
abbrev change (w g mo vo : EReal) : EReal := Ideal.ofBits .f32 0xBA83126F#32
  * (Ideal.div (Ideal.div (first mo g) (Ideal.ofBits .f32 0x3F26BD02#32)) (Ideal.sqrt (Ideal.div (second vo g) (Ideal.ofBits .f32 0x3C231ACC#32)) + Ideal.ofBits .f32 0x322BCC77#32)
    + Ideal.ofBits .f32 0x3C23D70A#32 * w)

/-- The first moment as it is stored. -/
theorem payM (b : BitVec 32) (v14 v25 : FVec Ideal S256x1024 .f32) (v26 : Vec Ideal S1x1x256x1024 .bf16) (v35 : Vec Ideal S1x256x1024 .f32) (x : S1x256x1024.Idx) :
    k0_pay2 (k0_pay8 b v14 v25 v26 v35) x = first (v35 x) (k0_pay6 b v14 v25 v26 (ix2 (x 1) (x 2))) := by
  unfold k0_pay2 k0_pay8
  pointwise

/-- The second moment as it is stored. -/
theorem payV (b : BitVec 32) (v14 v25 : FVec Ideal S256x1024 .f32) (v26 : Vec Ideal S1x1x256x1024 .bf16) (v42 : Vec Ideal S1x256x1024 .f32) (x : S1x256x1024.Idx) :
    k0_pay3 (k0_pay9 b v14 v25 v26 v42) x = second (v42 x) (k0_pay6 b v14 v25 v26 (ix2 (x 1) (x 2))) := by
  unfold k0_pay3 k0_pay9
  pointwise

/-- The weight's change as it is stored. -/
theorem payD (b : BitVec 32) (v14 v25 : FVec Ideal S256x1024 .f32) (v26 : Vec Ideal S1x1x256x1024 .bf16) (v35 v42 v58 : Vec Ideal S1x256x1024 .f32) (x : S1x256x1024.Idx) :
    k0_pay1 (k0_pay10 b v14 v25 v26 v35 v42 v58) (Scalar.ofBits .f32 0xBA83126F#32) x = change (v58 x) (k0_pay6 b v14 v25 v26 (ix2 (x 1) (x 2))) (v35 x) (v42 x) := by
  unfold k0_pay1 k0_pay10 k0_pay8 k0_pay9
  pointwise

/-- The reference's change of the weight, at an index. -/
theorem refD (a0 : FVec Ideal Cert.Reference35Ideal.S2x256x1024 .f32) (a1 a2 : FVec Ideal Cert.Reference35Ideal.S4x1x256x1024 .f32) (a3 a4 : FVec Ideal Cert.Reference35Ideal.S2x256x1024 .f32) (i : Cert.Reference35Ideal.S2x256x1024.Idx) :
    REF1 a0 a1 a2 a3 a4 i = change (a0 i) (REF0 a1 a2 i) (a3 i) (a4 i) := by
  pointwise [REF1]

/-- The reference's first moment, at an index. -/
theorem refM (a1 a2 : FVec Ideal Cert.Reference35Ideal.S4x1x256x1024 .f32) (a3 : FVec Ideal Cert.Reference35Ideal.S2x256x1024 .f32) (i : Cert.Reference35Ideal.S2x256x1024.Idx) :
    REF2 a1 a2 a3 i = first (a3 i) (REF0 a1 a2 i) := by
  pointwise [REF2]

/-- The reference's second moment, at an index. -/
theorem refV (a1 a2 : FVec Ideal Cert.Reference35Ideal.S4x1x256x1024 .f32) (a4 : FVec Ideal Cert.Reference35Ideal.S2x256x1024 .f32) (i : Cert.Reference35Ideal.S2x256x1024.Idx) :
    REF3 a1 a2 a4 i = second (a4 i) (REF0 a1 a2 i) := by
  pointwise [REF3]

/-- The change of the weight the call leaves is the reference's. -/
theorem final1 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have ht : t.val < 2 * 1 := lt_of_lt_of_eq t.isLt N_0
  unfold out0_6
  canon_tiles x h
  have hl : t.val / 1 < 2 := by omega
  have hr : t.val % 1 * 256 + (x 1).val < 256 := by have : (x 1).val < 256 := (x 1).isLt; omega
  have e : ((cfg0.win 6).blk t).view.emb y = ix3 ⟨t.val / 1, hl⟩ ⟨t.val % 1 * 256 + (x 1).val, hr⟩ (x 2) := by blk_ext [idx t]
  refine Eq.trans ?_ ((congrArg _ e).trans (refD _ _ _ _ _ _)).symm
  rw [payD]
  have hg := grad m c t (x 1) (x 2) hl hr
  exact congr (congr (congr (congrArg change (readA0 m c t x hl hr)) hg) (readA3 m c t x hl hr)) (readA4 m c t x hl hr)

/-- The first moment the call leaves is the reference's. -/
theorem final2 (c : Dev nD) : (dats m 0 c).arrAt 7 (cfgs 0).N = REF2 (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]
  have ht : t.val < 2 * 1 := lt_of_lt_of_eq t.isLt N_0
  unfold out0_7
  canon_tiles x h
  have hl : t.val / 1 < 2 := by omega
  have hr : t.val % 1 * 256 + (x 1).val < 256 := by have : (x 1).val < 256 := (x 1).isLt; omega
  have e : ((cfg0.win 7).blk t).view.emb y = ix3 ⟨t.val / 1, hl⟩ ⟨t.val % 1 * 256 + (x 1).val, hr⟩ (x 2) := by blk_ext [idx t]
  refine Eq.trans ?_ ((congrArg _ e).trans (refM _ _ _ _)).symm
  rw [payM]
  have hg := grad m c t (x 1) (x 2) hl hr
  exact congrArg₂ first (readA3 m c t x hl hr) hg

/-- The second moment the call leaves is the reference's. -/
theorem final3 (c : Dev nD) : (dats m 0 c).arrAt 8 (cfgs 0).N = REF3 (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp; rw [after0_8]
  have ht : t.val < 2 * 1 := lt_of_lt_of_eq t.isLt N_0
  unfold out0_8
  canon_tiles x h
  have hl : t.val / 1 < 2 := by omega
  have hr : t.val % 1 * 256 + (x 1).val < 256 := by have : (x 1).val < 256 := (x 1).isLt; omega
  have e : ((cfg0.win 8).blk t).view.emb y = ix3 ⟨t.val / 1, hl⟩ ⟨t.val % 1 * 256 + (x 1).val, hr⟩ (x 2) := by blk_ext [idx t]
  refine Eq.trans ?_ ((congrArg _ e).trans (refV _ _ _ _)).symm
  rw [payV]
  have hg := grad m c t (x 1) (x 2) hl hr
  exact congrArg₂ second (readA4 m c t x hl hr) hg

end Cert.Kernel35Ideal.Value

end
-- ==== Proof.Calls.AdamGlu.lean ====
/- The optimiser's step of the S5 gate's sharded weight. -/
module

public import proofs.«01_k».proof.Proof.Gen.Kernel36Ideal.Value
public import proofs.«01_k».proof.Proof.Gen.Reference36Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel36Ideal.Value

open Cert.Kernel36Ideal Cert.Kernel36Ideal.Gen

variable (m : (ℓ : Loc nD τ sig) → Buf (Elt Ideal) ℓ)

/-- The reference's gradient, over its arguments. -/
def REF0 (a1 : FVec Ideal Cert.Reference36Ideal.S4x1x1024x256 .f32) (a2 : FVec Ideal Cert.Reference36Ideal.S4x1x1024x256 .f32) : FVec Ideal Cert.Reference36Ideal.S2x1024x256 .f32 :=
  concatenate Cert.Reference36Ideal.S2x1024x256 0 [⟨Cert.Reference36Ideal.S1x1024x256, (broadcastInDim Cert.Reference36Ideal.S1x1024x256 ![1, 2] Cert.Reference36Ideal.Gen.bcast_S1024x256_S1x1024x256_1_2 (Host.reduceAdd (shapeCast _ a1 Cert.Reference36Ideal.Gen.shapeCasts_S4x1x1024x256_S4x1024x256) (constant Cert.Reference36Ideal.S_ .f32 0x00000000#32) Cert.Reference36Ideal.Gen.reducesTo_S4x1024x256_S1024x256_d0 Cert.Reference36Ideal.Gen.h_S_))⟩, ⟨Cert.Reference36Ideal.S1x1024x256, (broadcastInDim Cert.Reference36Ideal.S1x1024x256 ![1, 2] Cert.Reference36Ideal.Gen.bcast_S1024x256_S1x1024x256_1_2 (Host.reduceAdd (shapeCast _ a2 Cert.Reference36Ideal.Gen.shapeCasts_S4x1x1024x256_S4x1024x256) (constant Cert.Reference36Ideal.S_ .f32 0x00000000#32) Cert.Reference36Ideal.Gen.reducesTo_S4x1024x256_S1024x256_d0 Cert.Reference36Ideal.Gen.h_S_))⟩] Cert.Reference36Ideal.Gen.concatenates_S1x1024x256_S1x1024x256_S2x1024x256_d0

/-- The reference's change of the weight, over its arguments. -/
abbrev REF1 (a0 : FVec Ideal Cert.Reference36Ideal.S2x1024x256 .f32) (a1 : FVec Ideal Cert.Reference36Ideal.S4x1x1024x256 .f32) (a2 : FVec Ideal Cert.Reference36Ideal.S4x1x1024x256 .f32) (a3 : FVec Ideal Cert.Reference36Ideal.S2x1024x256 .f32) (a4 : FVec Ideal Cert.Reference36Ideal.S2x1024x256 .f32) : FVec Ideal Cert.Reference36Ideal.S2x1024x256 .f32 :=
  mulf (broadcastInDim Cert.Reference36Ideal.S2x1024x256 ![] Cert.Reference36Ideal.Gen.bcast_S_S2x1024x256 (constant Cert.Reference36Ideal.S_ .f32 0xBA83126F#32)) (addf (Host.divf (Host.divf (addf (mulf (broadcastInDim Cert.Reference36Ideal.S2x1024x256 ![] Cert.Reference36Ideal.Gen.bcast_S_S2x1024x256 (constant Cert.Reference36Ideal.S_ .f32 0x3F666666#32)) a3) (mulf (broadcastInDim Cert.Reference36Ideal.S2x1024x256 ![] Cert.Reference36Ideal.Gen.bcast_S_S2x1024x256 (constant Cert.Reference36Ideal.S_ .f32 0x3DCCCCCD#32)) (REF0 a1 a2))) (broadcastInDim Cert.Reference36Ideal.S2x1024x256 ![] Cert.Reference36Ideal.Gen.bcast_S_S2x1024x256 (constant Cert.Reference36Ideal.S_ .f32 0x3F26BD02#32))) (addf (Host.sqrt (Host.divf (addf (mulf (broadcastInDim Cert.Reference36Ideal.S2x1024x256 ![] Cert.Reference36Ideal.Gen.bcast_S_S2x1024x256 (constant Cert.Reference36Ideal.S_ .f32 0x3F7FBE77#32)) a4) (mulf (broadcastInDim Cert.Reference36Ideal.S2x1024x256 ![] Cert.Reference36Ideal.Gen.bcast_S_S2x1024x256 (constant Cert.Reference36Ideal.S_ .f32 0x3A83126F#32)) (mulf (REF0 a1 a2) (REF0 a1 a2)))) (broadcastInDim Cert.Reference36Ideal.S2x1024x256 ![] Cert.Reference36Ideal.Gen.bcast_S_S2x1024x256 (constant Cert.Reference36Ideal.S_ .f32 0x3C231ACC#32)))) (broadcastInDim Cert.Reference36Ideal.S2x1024x256 ![] Cert.Reference36Ideal.Gen.bcast_S_S2x1024x256 (constant Cert.Reference36Ideal.S_ .f32 0x322BCC77#32)))) (mulf (broadcastInDim Cert.Reference36Ideal.S2x1024x256 ![] Cert.Reference36Ideal.Gen.bcast_S_S2x1024x256 (constant Cert.Reference36Ideal.S_ .f32 0x3C23D70A#32)) a0))

/-- The reference's first moment, over its arguments. -/
abbrev REF2 (a1 : FVec Ideal Cert.Reference36Ideal.S4x1x1024x256 .f32) (a2 : FVec Ideal Cert.Reference36Ideal.S4x1x1024x256 .f32) (a3 : FVec Ideal Cert.Reference36Ideal.S2x1024x256 .f32) : FVec Ideal Cert.Reference36Ideal.S2x1024x256 .f32 :=
  addf (mulf (broadcastInDim Cert.Reference36Ideal.S2x1024x256 ![] Cert.Reference36Ideal.Gen.bcast_S_S2x1024x256 (constant Cert.Reference36Ideal.S_ .f32 0x3F666666#32)) a3) (mulf (broadcastInDim Cert.Reference36Ideal.S2x1024x256 ![] Cert.Reference36Ideal.Gen.bcast_S_S2x1024x256 (constant Cert.Reference36Ideal.S_ .f32 0x3DCCCCCD#32)) (REF0 a1 a2))

/-- The reference's second moment, over its arguments. -/
abbrev REF3 (a1 : FVec Ideal Cert.Reference36Ideal.S4x1x1024x256 .f32) (a2 : FVec Ideal Cert.Reference36Ideal.S4x1x1024x256 .f32) (a4 : FVec Ideal Cert.Reference36Ideal.S2x1024x256 .f32) : FVec Ideal Cert.Reference36Ideal.S2x1024x256 .f32 :=
  addf (mulf (broadcastInDim Cert.Reference36Ideal.S2x1024x256 ![] Cert.Reference36Ideal.Gen.bcast_S_S2x1024x256 (constant Cert.Reference36Ideal.S_ .f32 0x3F7FBE77#32)) a4) (mulf (broadcastInDim Cert.Reference36Ideal.S2x1024x256 ![] Cert.Reference36Ideal.Gen.bcast_S_S2x1024x256 (constant Cert.Reference36Ideal.S_ .f32 0x3A83126F#32)) (mulf (REF0 a1 a2) (REF0 a1 a2)))

/-- The reference's gradient of the first layer. -/
theorem ref0 (a1 a2 : FVec Ideal Cert.Reference36Ideal.S4x1x1024x256 .f32) (r : Fin 1024) (n : Fin 256) :
    REF0 a1 a2 (ix3 0 r n) = a1 (ix4 0 0 r n) + a1 (ix4 1 0 r n) + a1 (ix4 2 0 r n) + a1 (ix4 3 0 r n) := by
  pointwise [REF0]
  simp only [Fin.sum_univ_four, zero_add]

/-- The reference's gradient of the second layer. -/
theorem ref1 (a1 a2 : FVec Ideal Cert.Reference36Ideal.S4x1x1024x256 .f32) (r : Fin 1024) (n : Fin 256) :
    REF0 a1 a2 (ix3 1 r n) = a2 (ix4 0 0 r n) + a2 (ix4 1 0 r n) + a2 (ix4 2 0 r n) + a2 (ix4 3 0 r n) := by
  pointwise [REF0]
  simp only [Fin.sum_univ_four, zero_add]

/-- The sum of the first layer's four parts. -/
theorem pay4 (v0 v3 v7 v11 : Vec Ideal S1x1x256x256 .bf16) (x : S256x256.Idx) :
    k0_pay4 v0 v3 v7 v11 x = v0 (ix4 0 0 (x 0) (x 1)) + v3 (ix4 0 0 (x 0) (x 1)) + v7 (ix4 0 0 (x 0) (x 1)) + v11 (ix4 0 0 (x 0) (x 1)) := by
  pointwise [k0_pay1, k0_pay2, k0_pay3, k0_pay4, k0_pay5, k0_pay6, k0_pay7, k0_pay8, k0_pay9, k0_pay10, k0_pay11, k0_pay12]

/-- The sum of the second layer's first three parts. -/
theorem pay5 (v0 v3 v7 : Vec Ideal S1x1x256x256 .bf16) (x : S256x256.Idx) :
    k0_pay5 v0 v3 v7 x = v0 (ix4 0 0 (x 0) (x 1)) + v3 (ix4 0 0 (x 0) (x 1)) + v7 (ix4 0 0 (x 0) (x 1)) := by
  pointwise [k0_pay1, k0_pay2, k0_pay3, k0_pay4, k0_pay5, k0_pay6, k0_pay7, k0_pay8, k0_pay9, k0_pay10, k0_pay11, k0_pay12]

/-- A point of the first layer keeps the first sum. -/
theorem pay6_0 (v14 v25 : FVec Ideal S256x256 .f32) (v26 : Vec Ideal S1x1x256x256 .bf16) (x : S256x256.Idx) :
    k0_pay6 0#32 v14 v25 v26 x = v14 x := rfl

/-- A point of the second layer keeps the second. -/
theorem pay6_1 (v14 v25 : FVec Ideal S256x256 .f32) (v26 : Vec Ideal S1x1x256x256 .bf16) (x : S256x256.Idx) :
    k0_pay6 1#32 v14 v25 v26 x = v25 x + v26 (ix4 0 0 (x 0) (x 1)) := by
  pointwise [k0_pay6]

/-- The gradient as it is stored. -/
theorem pay7 (b : BitVec 32) (v14 v25 : FVec Ideal S256x256 .f32) (v26 : Vec Ideal S1x1x256x256 .bf16) (x : S1x256x256.Idx) :
    k0_pay7 b v14 v25 v26 x = k0_pay6 b v14 v25 v26 (ix2 (x 1) (x 2)) := by
  unfold k0_pay7
  pointwise

/-- Every grid point's layer. -/
theorem layer : ∀ t : Fin cfg0.N, (t.val / 4 = 0 ∧ BitVec.ofNat 32 ((cfg0.grid.coords t) 0).val = 0#32) ∨ (t.val / 4 = 1 ∧ BitVec.ofNat 32 ((cfg0.grid.coords t) 0).val = 1#32) :=
  (by decide +kernel : ∀ t : Fin grid0.N, _)

/-- Every window's block at every grid point. -/
theorem idx : ∀ t : Fin cfg0.N, win0_0.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The first layer's parts, at a point of that layer. -/
theorem idx1 : ∀ t : Fin cfg0.N, t.val / 4 = 0 → win0_1.index t = ![0, 0, t.val % 4, 0] :=
  (by decide +kernel : ∀ t : Fin grid0.N, _)

/-- The second layer's parts, at a point of that layer. -/
theorem idx2 : ∀ t : Fin cfg0.N, t.val / 4 = 1 → win0_2.index t = ![0, 0, t.val % 4, 0] :=
  (by decide +kernel : ∀ t : Fin grid0.N, _)

/-- The first layer's parts as the call is given them. -/
theorem cast0 (c : Dev nD) (i : S4x1x1024x256.Idx) : V m c main_v0 i = m ((c : Thread nD τ).loc main_arg1) i := by
  entry_read
  pointwise

/-- The second layer's parts as the call is given them. -/
theorem cast1 (c : Dev nD) (i : S4x1x1024x256.Idx) : V m c main_v1 i = m ((c : Thread nD τ).loc main_arg2) i := by
  entry_read
  pointwise

/-- What a point of layer 0 reads of part 0. -/
theorem read00 (c : Dev nD) (t : Fin cfg0.N) (h : t.val / 4 = 0) (r : Fin 256) (n : Fin 256) (hr : t.val % 4 * 256 + r.val < 1024) :
    View.ld (iblk m c 1 t) r0_0 (ix4 0 0 r n) = m ((c : Thread nD τ).loc main_arg1) (ix4 0 0 ⟨t.val % 4 * 256 + r.val, hr⟩ n) := by
  refine Eq.trans ?_ (cast0 m c _)
  blk_ext [iblk, View.ld, idx1 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 1. -/
theorem read01 (c : Dev nD) (t : Fin cfg0.N) (h : t.val / 4 = 0) (r : Fin 256) (n : Fin 256) (hr : t.val % 4 * 256 + r.val < 1024) :
    View.ld (iblk m c 1 t) r0_1 (ix4 0 0 r n) = m ((c : Thread nD τ).loc main_arg1) (ix4 1 0 ⟨t.val % 4 * 256 + r.val, hr⟩ n) := by
  refine Eq.trans ?_ (cast0 m c _)
  blk_ext [iblk, View.ld, idx1 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 2. -/
theorem read02 (c : Dev nD) (t : Fin cfg0.N) (h : t.val / 4 = 0) (r : Fin 256) (n : Fin 256) (hr : t.val % 4 * 256 + r.val < 1024) :
    View.ld (iblk m c 1 t) r0_2 (ix4 0 0 r n) = m ((c : Thread nD τ).loc main_arg1) (ix4 2 0 ⟨t.val % 4 * 256 + r.val, hr⟩ n) := by
  refine Eq.trans ?_ (cast0 m c _)
  blk_ext [iblk, View.ld, idx1 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 3. -/
theorem read03 (c : Dev nD) (t : Fin cfg0.N) (h : t.val / 4 = 0) (r : Fin 256) (n : Fin 256) (hr : t.val % 4 * 256 + r.val < 1024) :
    View.ld (iblk m c 1 t) r0_3 (ix4 0 0 r n) = m ((c : Thread nD τ).loc main_arg1) (ix4 3 0 ⟨t.val % 4 * 256 + r.val, hr⟩ n) := by
  refine Eq.trans ?_ (cast0 m c _)
  blk_ext [iblk, View.ld, idx1 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 0. -/
theorem read10 (c : Dev nD) (t : Fin cfg0.N) (h : t.val / 4 = 1) (r : Fin 256) (n : Fin 256) (hr : t.val % 4 * 256 + r.val < 1024) :
    View.ld (iblk m c 2 t) r0_0 (ix4 0 0 r n) = m ((c : Thread nD τ).loc main_arg2) (ix4 0 0 ⟨t.val % 4 * 256 + r.val, hr⟩ n) := by
  refine Eq.trans ?_ (cast1 m c _)
  blk_ext [iblk, View.ld, idx2 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 1. -/
theorem read11 (c : Dev nD) (t : Fin cfg0.N) (h : t.val / 4 = 1) (r : Fin 256) (n : Fin 256) (hr : t.val % 4 * 256 + r.val < 1024) :
    View.ld (iblk m c 2 t) r0_1 (ix4 0 0 r n) = m ((c : Thread nD τ).loc main_arg2) (ix4 1 0 ⟨t.val % 4 * 256 + r.val, hr⟩ n) := by
  refine Eq.trans ?_ (cast1 m c _)
  blk_ext [iblk, View.ld, idx2 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 2. -/
theorem read12 (c : Dev nD) (t : Fin cfg0.N) (h : t.val / 4 = 1) (r : Fin 256) (n : Fin 256) (hr : t.val % 4 * 256 + r.val < 1024) :
    View.ld (iblk m c 2 t) r0_2 (ix4 0 0 r n) = m ((c : Thread nD τ).loc main_arg2) (ix4 2 0 ⟨t.val % 4 * 256 + r.val, hr⟩ n) := by
  refine Eq.trans ?_ (cast1 m c _)
  blk_ext [iblk, View.ld, idx2 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 3. -/
theorem read13 (c : Dev nD) (t : Fin cfg0.N) (h : t.val / 4 = 1) (r : Fin 256) (n : Fin 256) (hr : t.val % 4 * 256 + r.val < 1024) :
    View.ld (iblk m c 2 t) r0_3 (ix4 0 0 r n) = m ((c : Thread nD τ).loc main_arg2) (ix4 3 0 ⟨t.val % 4 * 256 + r.val, hr⟩ n) := by
  refine Eq.trans ?_ (cast1 m c _)
  blk_ext [iblk, View.ld, idx2 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- The gradient a point forms. -/
theorem grad (c : Dev nD) (t : Fin cfg0.N) (r : Fin 256) (n : Fin 256) (hl : t.val / 4 < 2) (hr : t.val % 4 * 256 + r.val < 1024) :
    k0_pay6 (BitVec.ofNat 32 ((cfg0.grid.coords t) 0).val) (k0_pay11 (cfg0.grid.coords t) (iblk m c 0 t) (iblk m c 1 t) (iblk m c 2 t) (iblk m c 3 t) (iblk m c 4 t)) (k0_pay12 (cfg0.grid.coords t) (iblk m c 0 t) (iblk m c 1 t) (iblk m c 2 t) (iblk m c 3 t) (iblk m c 4 t)) (View.ld (iblk m c 2 t) r0_3) (ix2 r n)
      = REF0 (m ((c : Thread nD τ).loc main_arg1)) (m ((c : Thread nD τ).loc main_arg2)) (ix3 ⟨t.val / 4, hl⟩ ⟨t.val % 4 * 256 + r.val, hr⟩ n) := by
  unfold k0_pay11 k0_pay12
  rcases layer t with ⟨h, hb⟩ | ⟨h, hb⟩
  · have e : (⟨t.val / 4, hl⟩ : Fin 2) = 0 := Fin.ext h
    rw [hb, pay6_0, pay4, e, ref0]
    exact congrArg₂ (fun a b : EReal => a + b) (congrArg₂ (fun a b : EReal => a + b) (congrArg₂ (fun a b : EReal => a + b) (read00 m c t h r n hr) (read01 m c t h r n hr)) (read02 m c t h r n hr)) (read03 m c t h r n hr)
  · have e : (⟨t.val / 4, hl⟩ : Fin 2) = 1 := Fin.ext h
    rw [hb, pay6_1, pay5, e, ref1]
    exact congrArg₂ (fun a b : EReal => a + b) (congrArg₂ (fun a b : EReal => a + b) (congrArg₂ (fun a b : EReal => a + b) (read10 m c t h r n hr) (read11 m c t h r n hr)) (read12 m c t h r n hr)) (read13 m c t h r n hr)

/-- The gradient the call leaves is the reference's. -/
theorem final0 (c : Dev nD) : (dats m 0 c).arrAt 5 (cfgs 0).N = REF0 (m ((c : Thread nD τ).loc main_arg1)) (m ((c : Thread nD τ).loc main_arg2)) := by
  refine (dats m 0 c).arrAt_eq_of_covers 5 _ (by decide +kernel) fun t hf y => ?_
  blk_simp; rw [after0_5]
  have ht : t.val < 2 * 4 := lt_of_lt_of_eq t.isLt N_0
  unfold out0_5
  canon_tiles x h
  have hl : t.val / 4 < 2 := by omega
  have hr : t.val % 4 * 256 + (x 1).val < 1024 := by have : (x 1).val < 256 := (x 1).isLt; omega
  rw [pay7]
  refine (grad m c t (x 1) (x 2) hl hr).trans (congrArg _ ?_)
  blk_ext [idx t]

/-- What a point reads of the weight. -/
theorem readA0 (c : Dev nD) (t : Fin cfg0.N) (x : S1x256x256.Idx) (hl : t.val / 4 < 2) (hr : t.val % 4 * 256 + (x 1).val < 1024) :
    View.ld (iblk m c 0 t) r0_4 x = m ((c : Thread nD τ).loc main_arg0) (ix3 ⟨t.val / 4, hl⟩ ⟨t.val % 4 * 256 + (x 1).val, hr⟩ (x 2)) := by
  refine Eq.trans ?_ (congrFun (V_main_arg0 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the first moment. -/
theorem readA3 (c : Dev nD) (t : Fin cfg0.N) (x : S1x256x256.Idx) (hl : t.val / 4 < 2) (hr : t.val % 4 * 256 + (x 1).val < 1024) :
    View.ld (iblk m c 3 t) r0_4 x = m ((c : Thread nD τ).loc main_arg3) (ix3 ⟨t.val / 4, hl⟩ ⟨t.val % 4 * 256 + (x 1).val, hr⟩ (x 2)) := by
  refine Eq.trans ?_ (congrFun (V_main_arg3 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the second moment. -/
theorem readA4 (c : Dev nD) (t : Fin cfg0.N) (x : S1x256x256.Idx) (hl : t.val / 4 < 2) (hr : t.val % 4 * 256 + (x 1).val < 1024) :
    View.ld (iblk m c 4 t) r0_4 x = m ((c : Thread nD τ).loc main_arg4) (ix3 ⟨t.val / 4, hl⟩ ⟨t.val % 4 * 256 + (x 1).val, hr⟩ (x 2)) := by
  refine Eq.trans ?_ (congrFun (V_main_arg4 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- The first moment's step. -/
abbrev first (mo g : EReal) : EReal := Ideal.ofBits .f32 0x3F666666#32 * mo + Ideal.ofBits .f32 0x3DCCCCCD#32 * g

/-- The second moment's step. -/
abbrev second (vo g : EReal) : EReal := Ideal.ofBits .f32 0x3F7FBE77#32 * vo + Ideal.ofBits .f32 0x3A83126F#32 * (g * g)

/-- The weight's change. -/
abbrev change (w g mo vo : EReal) : EReal := Ideal.ofBits .f32 0xBA83126F#32
  * (Ideal.div (Ideal.div (first mo g) (Ideal.ofBits .f32 0x3F26BD02#32)) (Ideal.sqrt (Ideal.div (second vo g) (Ideal.ofBits .f32 0x3C231ACC#32)) + Ideal.ofBits .f32 0x322BCC77#32)
    + Ideal.ofBits .f32 0x3C23D70A#32 * w)

/-- The first moment as it is stored. -/
theorem payM (b : BitVec 32) (v14 v25 : FVec Ideal S256x256 .f32) (v26 : Vec Ideal S1x1x256x256 .bf16) (v35 : Vec Ideal S1x256x256 .f32) (x : S1x256x256.Idx) :
    k0_pay2 (k0_pay8 b v14 v25 v26 v35) x = first (v35 x) (k0_pay6 b v14 v25 v26 (ix2 (x 1) (x 2))) := by
  unfold k0_pay2 k0_pay8
  pointwise

/-- The second moment as it is stored. -/
theorem payV (b : BitVec 32) (v14 v25 : FVec Ideal S256x256 .f32) (v26 : Vec Ideal S1x1x256x256 .bf16) (v42 : Vec Ideal S1x256x256 .f32) (x : S1x256x256.Idx) :
    k0_pay3 (k0_pay9 b v14 v25 v26 v42) x = second (v42 x) (k0_pay6 b v14 v25 v26 (ix2 (x 1) (x 2))) := by
  unfold k0_pay3 k0_pay9
  pointwise

/-- The weight's change as it is stored. -/
theorem payD (b : BitVec 32) (v14 v25 : FVec Ideal S256x256 .f32) (v26 : Vec Ideal S1x1x256x256 .bf16) (v35 v42 v58 : Vec Ideal S1x256x256 .f32) (x : S1x256x256.Idx) :
    k0_pay1 (k0_pay10 b v14 v25 v26 v35 v42 v58) (Scalar.ofBits .f32 0xBA83126F#32) x = change (v58 x) (k0_pay6 b v14 v25 v26 (ix2 (x 1) (x 2))) (v35 x) (v42 x) := by
  unfold k0_pay1 k0_pay10 k0_pay8 k0_pay9
  pointwise

/-- The reference's change of the weight, at an index. -/
theorem refD (a0 : FVec Ideal Cert.Reference36Ideal.S2x1024x256 .f32) (a1 a2 : FVec Ideal Cert.Reference36Ideal.S4x1x1024x256 .f32) (a3 a4 : FVec Ideal Cert.Reference36Ideal.S2x1024x256 .f32) (i : Cert.Reference36Ideal.S2x1024x256.Idx) :
    REF1 a0 a1 a2 a3 a4 i = change (a0 i) (REF0 a1 a2 i) (a3 i) (a4 i) := by
  pointwise [REF1]

/-- The reference's first moment, at an index. -/
theorem refM (a1 a2 : FVec Ideal Cert.Reference36Ideal.S4x1x1024x256 .f32) (a3 : FVec Ideal Cert.Reference36Ideal.S2x1024x256 .f32) (i : Cert.Reference36Ideal.S2x1024x256.Idx) :
    REF2 a1 a2 a3 i = first (a3 i) (REF0 a1 a2 i) := by
  pointwise [REF2]

/-- The reference's second moment, at an index. -/
theorem refV (a1 a2 : FVec Ideal Cert.Reference36Ideal.S4x1x1024x256 .f32) (a4 : FVec Ideal Cert.Reference36Ideal.S2x1024x256 .f32) (i : Cert.Reference36Ideal.S2x1024x256.Idx) :
    REF3 a1 a2 a4 i = second (a4 i) (REF0 a1 a2 i) := by
  pointwise [REF3]

/-- The change of the weight the call leaves is the reference's. -/
theorem final1 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have ht : t.val < 2 * 4 := lt_of_lt_of_eq t.isLt N_0
  unfold out0_6
  canon_tiles x h
  have hl : t.val / 4 < 2 := by omega
  have hr : t.val % 4 * 256 + (x 1).val < 1024 := by have : (x 1).val < 256 := (x 1).isLt; omega
  have e : ((cfg0.win 6).blk t).view.emb y = ix3 ⟨t.val / 4, hl⟩ ⟨t.val % 4 * 256 + (x 1).val, hr⟩ (x 2) := by blk_ext [idx t]
  refine Eq.trans ?_ ((congrArg _ e).trans (refD _ _ _ _ _ _)).symm
  rw [payD]
  have hg := grad m c t (x 1) (x 2) hl hr
  exact congr (congr (congr (congrArg change (readA0 m c t x hl hr)) hg) (readA3 m c t x hl hr)) (readA4 m c t x hl hr)

/-- The first moment the call leaves is the reference's. -/
theorem final2 (c : Dev nD) : (dats m 0 c).arrAt 7 (cfgs 0).N = REF2 (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]
  have ht : t.val < 2 * 4 := lt_of_lt_of_eq t.isLt N_0
  unfold out0_7
  canon_tiles x h
  have hl : t.val / 4 < 2 := by omega
  have hr : t.val % 4 * 256 + (x 1).val < 1024 := by have : (x 1).val < 256 := (x 1).isLt; omega
  have e : ((cfg0.win 7).blk t).view.emb y = ix3 ⟨t.val / 4, hl⟩ ⟨t.val % 4 * 256 + (x 1).val, hr⟩ (x 2) := by blk_ext [idx t]
  refine Eq.trans ?_ ((congrArg _ e).trans (refM _ _ _ _)).symm
  rw [payM]
  have hg := grad m c t (x 1) (x 2) hl hr
  exact congrArg₂ first (readA3 m c t x hl hr) hg

/-- The second moment the call leaves is the reference's. -/
theorem final3 (c : Dev nD) : (dats m 0 c).arrAt 8 (cfgs 0).N = REF3 (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp; rw [after0_8]
  have ht : t.val < 2 * 4 := lt_of_lt_of_eq t.isLt N_0
  unfold out0_8
  canon_tiles x h
  have hl : t.val / 4 < 2 := by omega
  have hr : t.val % 4 * 256 + (x 1).val < 1024 := by have : (x 1).val < 256 := (x 1).isLt; omega
  have e : ((cfg0.win 8).blk t).view.emb y = ix3 ⟨t.val / 4, hl⟩ ⟨t.val % 4 * 256 + (x 1).val, hr⟩ (x 2) := by blk_ext [idx t]
  refine Eq.trans ?_ ((congrArg _ e).trans (refV _ _ _ _)).symm
  rw [payV]
  have hg := grad m c t (x 1) (x 2) hl hr
  exact congrArg₂ second (readA4 m c t x hl hr) hg

end Cert.Kernel36Ideal.Value

end
-- ==== Proof.Calls.AdamOut.lean ====
/- The optimiser's step of the sharded weights of 128 rows. -/
module

public import proofs.«01_k».proof.Proof.Gen.Kernel37Ideal.Value
public import proofs.«01_k».proof.Proof.Gen.Reference37Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel37Ideal.Value

open Cert.Kernel37Ideal Cert.Kernel37Ideal.Gen

variable (m : (ℓ : Loc nD τ sig) → Buf (Elt Ideal) ℓ)

/-- The reference's gradient, over its arguments. -/
def REF0 (a1 : FVec Ideal Cert.Reference37Ideal.S4x1x128x1024 .f32) (a2 : FVec Ideal Cert.Reference37Ideal.S4x1x128x1024 .f32) : FVec Ideal Cert.Reference37Ideal.S2x128x1024 .f32 :=
  concatenate Cert.Reference37Ideal.S2x128x1024 0 [⟨Cert.Reference37Ideal.S1x128x1024, (broadcastInDim Cert.Reference37Ideal.S1x128x1024 ![1, 2] Cert.Reference37Ideal.Gen.bcast_S128x1024_S1x128x1024_1_2 (Host.reduceAdd (shapeCast _ a1 Cert.Reference37Ideal.Gen.shapeCasts_S4x1x128x1024_S4x128x1024) (constant Cert.Reference37Ideal.S_ .f32 0x00000000#32) Cert.Reference37Ideal.Gen.reducesTo_S4x128x1024_S128x1024_d0 Cert.Reference37Ideal.Gen.h_S_))⟩, ⟨Cert.Reference37Ideal.S1x128x1024, (broadcastInDim Cert.Reference37Ideal.S1x128x1024 ![1, 2] Cert.Reference37Ideal.Gen.bcast_S128x1024_S1x128x1024_1_2 (Host.reduceAdd (shapeCast _ a2 Cert.Reference37Ideal.Gen.shapeCasts_S4x1x128x1024_S4x128x1024) (constant Cert.Reference37Ideal.S_ .f32 0x00000000#32) Cert.Reference37Ideal.Gen.reducesTo_S4x128x1024_S128x1024_d0 Cert.Reference37Ideal.Gen.h_S_))⟩] Cert.Reference37Ideal.Gen.concatenates_S1x128x1024_S1x128x1024_S2x128x1024_d0

/-- The reference's change of the weight, over its arguments. -/
abbrev REF1 (a0 : FVec Ideal Cert.Reference37Ideal.S2x128x1024 .f32) (a1 : FVec Ideal Cert.Reference37Ideal.S4x1x128x1024 .f32) (a2 : FVec Ideal Cert.Reference37Ideal.S4x1x128x1024 .f32) (a3 : FVec Ideal Cert.Reference37Ideal.S2x128x1024 .f32) (a4 : FVec Ideal Cert.Reference37Ideal.S2x128x1024 .f32) : FVec Ideal Cert.Reference37Ideal.S2x128x1024 .f32 :=
  mulf (broadcastInDim Cert.Reference37Ideal.S2x128x1024 ![] Cert.Reference37Ideal.Gen.bcast_S_S2x128x1024 (constant Cert.Reference37Ideal.S_ .f32 0xBA83126F#32)) (addf (Host.divf (Host.divf (addf (mulf (broadcastInDim Cert.Reference37Ideal.S2x128x1024 ![] Cert.Reference37Ideal.Gen.bcast_S_S2x128x1024 (constant Cert.Reference37Ideal.S_ .f32 0x3F666666#32)) a3) (mulf (broadcastInDim Cert.Reference37Ideal.S2x128x1024 ![] Cert.Reference37Ideal.Gen.bcast_S_S2x128x1024 (constant Cert.Reference37Ideal.S_ .f32 0x3DCCCCCD#32)) (REF0 a1 a2))) (broadcastInDim Cert.Reference37Ideal.S2x128x1024 ![] Cert.Reference37Ideal.Gen.bcast_S_S2x128x1024 (constant Cert.Reference37Ideal.S_ .f32 0x3F26BD02#32))) (addf (Host.sqrt (Host.divf (addf (mulf (broadcastInDim Cert.Reference37Ideal.S2x128x1024 ![] Cert.Reference37Ideal.Gen.bcast_S_S2x128x1024 (constant Cert.Reference37Ideal.S_ .f32 0x3F7FBE77#32)) a4) (mulf (broadcastInDim Cert.Reference37Ideal.S2x128x1024 ![] Cert.Reference37Ideal.Gen.bcast_S_S2x128x1024 (constant Cert.Reference37Ideal.S_ .f32 0x3A83126F#32)) (mulf (REF0 a1 a2) (REF0 a1 a2)))) (broadcastInDim Cert.Reference37Ideal.S2x128x1024 ![] Cert.Reference37Ideal.Gen.bcast_S_S2x128x1024 (constant Cert.Reference37Ideal.S_ .f32 0x3C231ACC#32)))) (broadcastInDim Cert.Reference37Ideal.S2x128x1024 ![] Cert.Reference37Ideal.Gen.bcast_S_S2x128x1024 (constant Cert.Reference37Ideal.S_ .f32 0x322BCC77#32)))) (mulf (broadcastInDim Cert.Reference37Ideal.S2x128x1024 ![] Cert.Reference37Ideal.Gen.bcast_S_S2x128x1024 (constant Cert.Reference37Ideal.S_ .f32 0x3C23D70A#32)) a0))

/-- The reference's first moment, over its arguments. -/
abbrev REF2 (a1 : FVec Ideal Cert.Reference37Ideal.S4x1x128x1024 .f32) (a2 : FVec Ideal Cert.Reference37Ideal.S4x1x128x1024 .f32) (a3 : FVec Ideal Cert.Reference37Ideal.S2x128x1024 .f32) : FVec Ideal Cert.Reference37Ideal.S2x128x1024 .f32 :=
  addf (mulf (broadcastInDim Cert.Reference37Ideal.S2x128x1024 ![] Cert.Reference37Ideal.Gen.bcast_S_S2x128x1024 (constant Cert.Reference37Ideal.S_ .f32 0x3F666666#32)) a3) (mulf (broadcastInDim Cert.Reference37Ideal.S2x128x1024 ![] Cert.Reference37Ideal.Gen.bcast_S_S2x128x1024 (constant Cert.Reference37Ideal.S_ .f32 0x3DCCCCCD#32)) (REF0 a1 a2))

/-- The reference's second moment, over its arguments. -/
abbrev REF3 (a1 : FVec Ideal Cert.Reference37Ideal.S4x1x128x1024 .f32) (a2 : FVec Ideal Cert.Reference37Ideal.S4x1x128x1024 .f32) (a4 : FVec Ideal Cert.Reference37Ideal.S2x128x1024 .f32) : FVec Ideal Cert.Reference37Ideal.S2x128x1024 .f32 :=
  addf (mulf (broadcastInDim Cert.Reference37Ideal.S2x128x1024 ![] Cert.Reference37Ideal.Gen.bcast_S_S2x128x1024 (constant Cert.Reference37Ideal.S_ .f32 0x3F7FBE77#32)) a4) (mulf (broadcastInDim Cert.Reference37Ideal.S2x128x1024 ![] Cert.Reference37Ideal.Gen.bcast_S_S2x128x1024 (constant Cert.Reference37Ideal.S_ .f32 0x3A83126F#32)) (mulf (REF0 a1 a2) (REF0 a1 a2)))

/-- The reference's gradient of the first layer. -/
theorem ref0 (a1 a2 : FVec Ideal Cert.Reference37Ideal.S4x1x128x1024 .f32) (r : Fin 128) (n : Fin 1024) :
    REF0 a1 a2 (ix3 0 r n) = a1 (ix4 0 0 r n) + a1 (ix4 1 0 r n) + a1 (ix4 2 0 r n) + a1 (ix4 3 0 r n) := by
  pointwise [REF0]
  simp only [Fin.sum_univ_four, zero_add]

/-- The reference's gradient of the second layer. -/
theorem ref1 (a1 a2 : FVec Ideal Cert.Reference37Ideal.S4x1x128x1024 .f32) (r : Fin 128) (n : Fin 1024) :
    REF0 a1 a2 (ix3 1 r n) = a2 (ix4 0 0 r n) + a2 (ix4 1 0 r n) + a2 (ix4 2 0 r n) + a2 (ix4 3 0 r n) := by
  pointwise [REF0]
  simp only [Fin.sum_univ_four, zero_add]

/-- The sum of the first layer's four parts. -/
theorem pay4 (v0 v3 v7 v11 : Vec Ideal S1x1x128x1024 .bf16) (x : S128x1024.Idx) :
    k0_pay4 v0 v3 v7 v11 x = v0 (ix4 0 0 (x 0) (x 1)) + v3 (ix4 0 0 (x 0) (x 1)) + v7 (ix4 0 0 (x 0) (x 1)) + v11 (ix4 0 0 (x 0) (x 1)) := by
  pointwise [k0_pay1, k0_pay2, k0_pay3, k0_pay4, k0_pay5, k0_pay6, k0_pay7, k0_pay8, k0_pay9, k0_pay10, k0_pay11, k0_pay12]

/-- The sum of the second layer's first three parts. -/
theorem pay5 (v0 v3 v7 : Vec Ideal S1x1x128x1024 .bf16) (x : S128x1024.Idx) :
    k0_pay5 v0 v3 v7 x = v0 (ix4 0 0 (x 0) (x 1)) + v3 (ix4 0 0 (x 0) (x 1)) + v7 (ix4 0 0 (x 0) (x 1)) := by
  pointwise [k0_pay1, k0_pay2, k0_pay3, k0_pay4, k0_pay5, k0_pay6, k0_pay7, k0_pay8, k0_pay9, k0_pay10, k0_pay11, k0_pay12]

/-- A point of the first layer keeps the first sum. -/
theorem pay6_0 (v14 v25 : FVec Ideal S128x1024 .f32) (v26 : Vec Ideal S1x1x128x1024 .bf16) (x : S128x1024.Idx) :
    k0_pay6 0#32 v14 v25 v26 x = v14 x := rfl

/-- A point of the second layer keeps the second. -/
theorem pay6_1 (v14 v25 : FVec Ideal S128x1024 .f32) (v26 : Vec Ideal S1x1x128x1024 .bf16) (x : S128x1024.Idx) :
    k0_pay6 1#32 v14 v25 v26 x = v25 x + v26 (ix4 0 0 (x 0) (x 1)) := by
  pointwise [k0_pay6]

/-- The gradient as it is stored. -/
theorem pay7 (b : BitVec 32) (v14 v25 : FVec Ideal S128x1024 .f32) (v26 : Vec Ideal S1x1x128x1024 .bf16) (x : S1x128x1024.Idx) :
    k0_pay7 b v14 v25 v26 x = k0_pay6 b v14 v25 v26 (ix2 (x 1) (x 2)) := by
  unfold k0_pay7
  pointwise

/-- Every grid point's layer. -/
theorem layer : ∀ t : Fin cfg0.N, (t.val / 1 = 0 ∧ BitVec.ofNat 32 ((cfg0.grid.coords t) 0).val = 0#32) ∨ (t.val / 1 = 1 ∧ BitVec.ofNat 32 ((cfg0.grid.coords t) 0).val = 1#32) :=
  (by decide +kernel : ∀ t : Fin grid0.N, _)

/-- Every window's block at every grid point. -/
theorem idx : ∀ t : Fin cfg0.N, win0_0.index t = ![t.val / 1, t.val % 1, 0]
    ∧ win0_3.index t = ![t.val / 1, t.val % 1, 0]
    ∧ win0_4.index t = ![t.val / 1, t.val % 1, 0]
    ∧ win0_5.index t = ![t.val / 1, t.val % 1, 0]
    ∧ win0_6.index t = ![t.val / 1, t.val % 1, 0]
    ∧ win0_7.index t = ![t.val / 1, t.val % 1, 0]
    ∧ win0_8.index t = ![t.val / 1, t.val % 1, 0] :=
  (by decide +kernel : ∀ t : Fin grid0.N, _)

/-- The first layer's parts, at a point of that layer. -/
theorem idx1 : ∀ t : Fin cfg0.N, t.val / 1 = 0 → win0_1.index t = ![0, 0, t.val % 1, 0] :=
  (by decide +kernel : ∀ t : Fin grid0.N, _)

/-- The second layer's parts, at a point of that layer. -/
theorem idx2 : ∀ t : Fin cfg0.N, t.val / 1 = 1 → win0_2.index t = ![0, 0, t.val % 1, 0] :=
  (by decide +kernel : ∀ t : Fin grid0.N, _)

/-- The first layer's parts as the call is given them. -/
theorem cast0 (c : Dev nD) (i : S4x1x128x1024.Idx) : V m c main_v0 i = m ((c : Thread nD τ).loc main_arg1) i := by
  entry_read
  pointwise

/-- The second layer's parts as the call is given them. -/
theorem cast1 (c : Dev nD) (i : S4x1x128x1024.Idx) : V m c main_v1 i = m ((c : Thread nD τ).loc main_arg2) i := by
  entry_read
  pointwise

/-- What a point of layer 0 reads of part 0. -/
theorem read00 (c : Dev nD) (t : Fin cfg0.N) (h : t.val / 1 = 0) (r : Fin 128) (n : Fin 1024) (hr : t.val % 1 * 128 + r.val < 128) :
    View.ld (iblk m c 1 t) r0_0 (ix4 0 0 r n) = m ((c : Thread nD τ).loc main_arg1) (ix4 0 0 ⟨t.val % 1 * 128 + r.val, hr⟩ n) := by
  refine Eq.trans ?_ (cast0 m c _)
  blk_ext [iblk, View.ld, idx1 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 1. -/
theorem read01 (c : Dev nD) (t : Fin cfg0.N) (h : t.val / 1 = 0) (r : Fin 128) (n : Fin 1024) (hr : t.val % 1 * 128 + r.val < 128) :
    View.ld (iblk m c 1 t) r0_1 (ix4 0 0 r n) = m ((c : Thread nD τ).loc main_arg1) (ix4 1 0 ⟨t.val % 1 * 128 + r.val, hr⟩ n) := by
  refine Eq.trans ?_ (cast0 m c _)
  blk_ext [iblk, View.ld, idx1 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 2. -/
theorem read02 (c : Dev nD) (t : Fin cfg0.N) (h : t.val / 1 = 0) (r : Fin 128) (n : Fin 1024) (hr : t.val % 1 * 128 + r.val < 128) :
    View.ld (iblk m c 1 t) r0_2 (ix4 0 0 r n) = m ((c : Thread nD τ).loc main_arg1) (ix4 2 0 ⟨t.val % 1 * 128 + r.val, hr⟩ n) := by
  refine Eq.trans ?_ (cast0 m c _)
  blk_ext [iblk, View.ld, idx1 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 0 reads of part 3. -/
theorem read03 (c : Dev nD) (t : Fin cfg0.N) (h : t.val / 1 = 0) (r : Fin 128) (n : Fin 1024) (hr : t.val % 1 * 128 + r.val < 128) :
    View.ld (iblk m c 1 t) r0_3 (ix4 0 0 r n) = m ((c : Thread nD τ).loc main_arg1) (ix4 3 0 ⟨t.val % 1 * 128 + r.val, hr⟩ n) := by
  refine Eq.trans ?_ (cast0 m c _)
  blk_ext [iblk, View.ld, idx1 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 0. -/
theorem read10 (c : Dev nD) (t : Fin cfg0.N) (h : t.val / 1 = 1) (r : Fin 128) (n : Fin 1024) (hr : t.val % 1 * 128 + r.val < 128) :
    View.ld (iblk m c 2 t) r0_0 (ix4 0 0 r n) = m ((c : Thread nD τ).loc main_arg2) (ix4 0 0 ⟨t.val % 1 * 128 + r.val, hr⟩ n) := by
  refine Eq.trans ?_ (cast1 m c _)
  blk_ext [iblk, View.ld, idx2 t h]
  all_goals first
    | (show 0 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 1. -/
theorem read11 (c : Dev nD) (t : Fin cfg0.N) (h : t.val / 1 = 1) (r : Fin 128) (n : Fin 1024) (hr : t.val % 1 * 128 + r.val < 128) :
    View.ld (iblk m c 2 t) r0_1 (ix4 0 0 r n) = m ((c : Thread nD τ).loc main_arg2) (ix4 1 0 ⟨t.val % 1 * 128 + r.val, hr⟩ n) := by
  refine Eq.trans ?_ (cast1 m c _)
  blk_ext [iblk, View.ld, idx2 t h]
  all_goals first
    | (show 1 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 2. -/
theorem read12 (c : Dev nD) (t : Fin cfg0.N) (h : t.val / 1 = 1) (r : Fin 128) (n : Fin 1024) (hr : t.val % 1 * 128 + r.val < 128) :
    View.ld (iblk m c 2 t) r0_2 (ix4 0 0 r n) = m ((c : Thread nD τ).loc main_arg2) (ix4 2 0 ⟨t.val % 1 * 128 + r.val, hr⟩ n) := by
  refine Eq.trans ?_ (cast1 m c _)
  blk_ext [iblk, View.ld, idx2 t h]
  all_goals first
    | (show 2 + 1 * 0 = _; omega)
    | (show 0 + 1 * 0 = _; omega)
    | (show _ + (0 + 1 * r.val) = _; omega)
    | (show 0 + 1 * r.val = _; omega)
    | (show 0 + 1 * n.val = _; omega)

/-- What a point of layer 1 reads of part 3. -/
theorem read13 (c : Dev nD) (t : Fin cfg0.N) (h : t.val / 1 = 1) (r : Fin 128) (n : Fin 1024) (hr : t.val % 1 * 128 + r.val < 128) :
    View.ld (iblk m c 2 t) r0_3 (ix4 0 0 r n) = m ((c : Thread nD τ).loc main_arg2) (ix4 3 0 ⟨t.val % 1 * 128 + r.val, hr⟩ n) := by
  refine Eq.trans ?_ (cast1 m c _)
  blk_ext [iblk, View.ld, idx2 t h]
  all_goals first
    | (show 3 + 1 * 0 = _; omega)
    | (show 0 + 1 * 0 = _; omega)
    | (show _ + (0 + 1 * r.val) = _; omega)
    | (show 0 + 1 * r.val = _; omega)
    | (show 0 + 1 * n.val = _; omega)

/-- The gradient a point forms. -/
theorem grad (c : Dev nD) (t : Fin cfg0.N) (r : Fin 128) (n : Fin 1024) (hl : t.val / 1 < 2) (hr : t.val % 1 * 128 + r.val < 128) :
    k0_pay6 (BitVec.ofNat 32 ((cfg0.grid.coords t) 0).val) (k0_pay11 (cfg0.grid.coords t) (iblk m c 0 t) (iblk m c 1 t) (iblk m c 2 t) (iblk m c 3 t) (iblk m c 4 t)) (k0_pay12 (cfg0.grid.coords t) (iblk m c 0 t) (iblk m c 1 t) (iblk m c 2 t) (iblk m c 3 t) (iblk m c 4 t)) (View.ld (iblk m c 2 t) r0_3) (ix2 r n)
      = REF0 (m ((c : Thread nD τ).loc main_arg1)) (m ((c : Thread nD τ).loc main_arg2)) (ix3 ⟨t.val / 1, hl⟩ ⟨t.val % 1 * 128 + r.val, hr⟩ n) := by
  unfold k0_pay11 k0_pay12
  rcases layer t with ⟨h, hb⟩ | ⟨h, hb⟩
  · have e : (⟨t.val / 1, hl⟩ : Fin 2) = 0 := Fin.ext h
    rw [hb, pay6_0, pay4, e, ref0]
    exact congrArg₂ (fun a b : EReal => a + b) (congrArg₂ (fun a b : EReal => a + b) (congrArg₂ (fun a b : EReal => a + b) (read00 m c t h r n hr) (read01 m c t h r n hr)) (read02 m c t h r n hr)) (read03 m c t h r n hr)
  · have e : (⟨t.val / 1, hl⟩ : Fin 2) = 1 := Fin.ext h
    rw [hb, pay6_1, pay5, e, ref1]
    exact congrArg₂ (fun a b : EReal => a + b) (congrArg₂ (fun a b : EReal => a + b) (congrArg₂ (fun a b : EReal => a + b) (read10 m c t h r n hr) (read11 m c t h r n hr)) (read12 m c t h r n hr)) (read13 m c t h r n hr)

/-- The gradient the call leaves is the reference's. -/
theorem final0 (c : Dev nD) : (dats m 0 c).arrAt 5 (cfgs 0).N = REF0 (m ((c : Thread nD τ).loc main_arg1)) (m ((c : Thread nD τ).loc main_arg2)) := by
  refine (dats m 0 c).arrAt_eq_of_covers 5 _ (by decide +kernel) fun t hf y => ?_
  blk_simp; rw [after0_5]
  have ht : t.val < 2 * 1 := lt_of_lt_of_eq t.isLt N_0
  unfold out0_5
  canon_tiles x h
  have hl : t.val / 1 < 2 := by omega
  have hr : t.val % 1 * 128 + (x 1).val < 128 := by have : (x 1).val < 128 := (x 1).isLt; omega
  rw [pay7]
  refine (grad m c t (x 1) (x 2) hl hr).trans (congrArg _ ?_)
  blk_ext [idx t]

/-- What a point reads of the weight. -/
theorem readA0 (c : Dev nD) (t : Fin cfg0.N) (x : S1x128x1024.Idx) (hl : t.val / 1 < 2) (hr : t.val % 1 * 128 + (x 1).val < 128) :
    View.ld (iblk m c 0 t) r0_4 x = m ((c : Thread nD τ).loc main_arg0) (ix3 ⟨t.val / 1, hl⟩ ⟨t.val % 1 * 128 + (x 1).val, hr⟩ (x 2)) := by
  refine Eq.trans ?_ (congrFun (V_main_arg0 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the first moment. -/
theorem readA3 (c : Dev nD) (t : Fin cfg0.N) (x : S1x128x1024.Idx) (hl : t.val / 1 < 2) (hr : t.val % 1 * 128 + (x 1).val < 128) :
    View.ld (iblk m c 3 t) r0_4 x = m ((c : Thread nD τ).loc main_arg3) (ix3 ⟨t.val / 1, hl⟩ ⟨t.val % 1 * 128 + (x 1).val, hr⟩ (x 2)) := by
  refine Eq.trans ?_ (congrFun (V_main_arg3 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- What a point reads of the second moment. -/
theorem readA4 (c : Dev nD) (t : Fin cfg0.N) (x : S1x128x1024.Idx) (hl : t.val / 1 < 2) (hr : t.val % 1 * 128 + (x 1).val < 128) :
    View.ld (iblk m c 4 t) r0_4 x = m ((c : Thread nD τ).loc main_arg4) (ix3 ⟨t.val / 1, hl⟩ ⟨t.val % 1 * 128 + (x 1).val, hr⟩ (x 2)) := by
  refine Eq.trans ?_ (congrFun (V_main_arg4 m c) _)
  blk_ext [iblk, View.ld, idx t]
  all_goals first
    | (show _ + (0 + 1 * (x 0).val) = _; have : (x 0).val < 1 := (x 0).isLt; omega)
    | (show _ + (0 + 1 * (x 1).val) = _; omega)
    | (show 0 + 1 * (x 2).val = _; omega)

/-- The first moment's step. -/
abbrev first (mo g : EReal) : EReal := Ideal.ofBits .f32 0x3F666666#32 * mo + Ideal.ofBits .f32 0x3DCCCCCD#32 * g

/-- The second moment's step. -/
abbrev second (vo g : EReal) : EReal := Ideal.ofBits .f32 0x3F7FBE77#32 * vo + Ideal.ofBits .f32 0x3A83126F#32 * (g * g)

/-- The weight's change. -/
abbrev change (w g mo vo : EReal) : EReal := Ideal.ofBits .f32 0xBA83126F#32
  * (Ideal.div (Ideal.div (first mo g) (Ideal.ofBits .f32 0x3F26BD02#32)) (Ideal.sqrt (Ideal.div (second vo g) (Ideal.ofBits .f32 0x3C231ACC#32)) + Ideal.ofBits .f32 0x322BCC77#32)
    + Ideal.ofBits .f32 0x3C23D70A#32 * w)

/-- The first moment as it is stored. -/
theorem payM (b : BitVec 32) (v14 v25 : FVec Ideal S128x1024 .f32) (v26 : Vec Ideal S1x1x128x1024 .bf16) (v35 : Vec Ideal S1x128x1024 .f32) (x : S1x128x1024.Idx) :
    k0_pay2 (k0_pay8 b v14 v25 v26 v35) x = first (v35 x) (k0_pay6 b v14 v25 v26 (ix2 (x 1) (x 2))) := by
  unfold k0_pay2 k0_pay8
  pointwise

/-- The second moment as it is stored. -/
theorem payV (b : BitVec 32) (v14 v25 : FVec Ideal S128x1024 .f32) (v26 : Vec Ideal S1x1x128x1024 .bf16) (v42 : Vec Ideal S1x128x1024 .f32) (x : S1x128x1024.Idx) :
    k0_pay3 (k0_pay9 b v14 v25 v26 v42) x = second (v42 x) (k0_pay6 b v14 v25 v26 (ix2 (x 1) (x 2))) := by
  unfold k0_pay3 k0_pay9
  pointwise

/-- The weight's change as it is stored. -/
theorem payD (b : BitVec 32) (v14 v25 : FVec Ideal S128x1024 .f32) (v26 : Vec Ideal S1x1x128x1024 .bf16) (v35 v42 v58 : Vec Ideal S1x128x1024 .f32) (x : S1x128x1024.Idx) :
    k0_pay1 (k0_pay10 b v14 v25 v26 v35 v42 v58) (Scalar.ofBits .f32 0xBA83126F#32) x = change (v58 x) (k0_pay6 b v14 v25 v26 (ix2 (x 1) (x 2))) (v35 x) (v42 x) := by
  unfold k0_pay1 k0_pay10 k0_pay8 k0_pay9
  pointwise

/-- The reference's change of the weight, at an index. -/
theorem refD (a0 : FVec Ideal Cert.Reference37Ideal.S2x128x1024 .f32) (a1 a2 : FVec Ideal Cert.Reference37Ideal.S4x1x128x1024 .f32) (a3 a4 : FVec Ideal Cert.Reference37Ideal.S2x128x1024 .f32) (i : Cert.Reference37Ideal.S2x128x1024.Idx) :
    REF1 a0 a1 a2 a3 a4 i = change (a0 i) (REF0 a1 a2 i) (a3 i) (a4 i) := by
  pointwise [REF1]

/-- The reference's first moment, at an index. -/
theorem refM (a1 a2 : FVec Ideal Cert.Reference37Ideal.S4x1x128x1024 .f32) (a3 : FVec Ideal Cert.Reference37Ideal.S2x128x1024 .f32) (i : Cert.Reference37Ideal.S2x128x1024.Idx) :
    REF2 a1 a2 a3 i = first (a3 i) (REF0 a1 a2 i) := by
  pointwise [REF2]

/-- The reference's second moment, at an index. -/
theorem refV (a1 a2 : FVec Ideal Cert.Reference37Ideal.S4x1x128x1024 .f32) (a4 : FVec Ideal Cert.Reference37Ideal.S2x128x1024 .f32) (i : Cert.Reference37Ideal.S2x128x1024.Idx) :
    REF3 a1 a2 a4 i = second (a4 i) (REF0 a1 a2 i) := by
  pointwise [REF3]

/-- The change of the weight the call leaves is the reference's. -/
theorem final1 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have ht : t.val < 2 * 1 := lt_of_lt_of_eq t.isLt N_0
  unfold out0_6
  canon_tiles x h
  have hl : t.val / 1 < 2 := by omega
  have hr : t.val % 1 * 128 + (x 1).val < 128 := by have : (x 1).val < 128 := (x 1).isLt; omega
  have e : ((cfg0.win 6).blk t).view.emb y = ix3 ⟨t.val / 1, hl⟩ ⟨t.val % 1 * 128 + (x 1).val, hr⟩ (x 2) := by blk_ext [idx t]
  refine Eq.trans ?_ ((congrArg _ e).trans (refD _ _ _ _ _ _)).symm
  rw [payD]
  have hg := grad m c t (x 1) (x 2) hl hr
  exact congr (congr (congr (congrArg change (readA0 m c t x hl hr)) hg) (readA3 m c t x hl hr)) (readA4 m c t x hl hr)

/-- The first moment the call leaves is the reference's. -/
theorem final2 (c : Dev nD) : (dats m 0 c).arrAt 7 (cfgs 0).N = REF2 (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]
  have ht : t.val < 2 * 1 := lt_of_lt_of_eq t.isLt N_0
  unfold out0_7
  canon_tiles x h
  have hl : t.val / 1 < 2 := by omega
  have hr : t.val % 1 * 128 + (x 1).val < 128 := by have : (x 1).val < 128 := (x 1).isLt; omega
  have e : ((cfg0.win 7).blk t).view.emb y = ix3 ⟨t.val / 1, hl⟩ ⟨t.val % 1 * 128 + (x 1).val, hr⟩ (x 2) := by blk_ext [idx t]
  refine Eq.trans ?_ ((congrArg _ e).trans (refM _ _ _ _)).symm
  rw [payM]
  have hg := grad m c t (x 1) (x 2) hl hr
  exact congrArg₂ first (readA3 m c t x hl hr) hg

/-- The second moment the call leaves is the reference's. -/
theorem final3 (c : Dev nD) : (dats m 0 c).arrAt 8 (cfgs 0).N = REF3 (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp; rw [after0_8]
  have ht : t.val < 2 * 1 := lt_of_lt_of_eq t.isLt N_0
  unfold out0_8
  canon_tiles x h
  have hl : t.val / 1 < 2 := by omega
  have hr : t.val % 1 * 128 + (x 1).val < 128 := by have : (x 1).val < 128 := (x 1).isLt; omega
  have e : ((cfg0.win 8).blk t).view.emb y = ix3 ⟨t.val / 1, hl⟩ ⟨t.val % 1 * 128 + (x 1).val, hr⟩ (x 2) := by blk_ext [idx t]
  refine Eq.trans ?_ ((congrArg _ e).trans (refV _ _ _ _)).symm
  rw [payV]
  have hg := grad m c t (x 1) (x 2) hl hr
  exact congrArg₂ second (readA4 m c t x hl hr) hg

end Cert.Kernel37Ideal.Value

end
-- ==== Proof.Calls.NormDx.lean ====
/- The gradient of the norm before a feed-forward block. -/
module

public import proofs.«01_k».proof.Proof.Gen.Kernel38Ideal.Value
public import proofs.«01_k».proof.Proof.Gen.Reference38Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel38Ideal.Value

open Cert.Kernel38Ideal Cert.Kernel38Ideal.Gen

variable (m : (ℓ : Loc nD τ sig) → Buf (Elt Ideal) ℓ)

/-- What the reference computes, over its arguments. -/
abbrev REF0 (a0 : FVec Ideal Cert.Reference38Ideal.S2048x1024 .f32) (a1 : FVec Ideal Cert.Reference38Ideal.S1024 .f32) (a2 : FVec Ideal Cert.Reference38Ideal.S2048x1024 .f32) (a3 : FVec Ideal Cert.Reference38Ideal.S2048x1024 .f32) : FVec Ideal Cert.Reference38Ideal.S2048x1024 .f32 :=
  addf a2 (addf (addf (mulf (mulf a3 (broadcastInDim Cert.Reference38Ideal.S2048x1024 ![0, 1] Cert.Reference38Ideal.Gen.bcast_S1x1024_S2048x1024_0_1 (broadcastInDim Cert.Reference38Ideal.S1x1024 ![1] Cert.Reference38Ideal.Gen.bcast_S1024_S1x1024_1 a1))) (broadcastInDim Cert.Reference38Ideal.S2048x1024 ![0, 1] Cert.Reference38Ideal.Gen.bcast_S2048x1_S2048x1024_0_1 (Host.rsqrt (addf (Host.divf (broadcastInDim Cert.Reference38Ideal.S2048x1 ![0] Cert.Reference38Ideal.Gen.bcast_S2048_S2048x1_0 (Host.reduceAdd (mulf a0 a0) (constant Cert.Reference38Ideal.S_ .f32 0x00000000#32) Cert.Reference38Ideal.Gen.reducesTo_S2048x1024_S2048_d1 Cert.Reference38Ideal.Gen.h_S_)) (broadcastInDim Cert.Reference38Ideal.S2048x1 ![] Cert.Reference38Ideal.Gen.bcast_S_S2048x1 (constant Cert.Reference38Ideal.S_ .f32 0x44800000#32))) (broadcastInDim Cert.Reference38Ideal.S2048x1 ![] Cert.Reference38Ideal.Gen.bcast_S_S2048x1 (constant Cert.Reference38Ideal.S_ .f32 0x358637BD#32)))))) (mulf a0 (broadcastInDim Cert.Reference38Ideal.S2048x1024 ![0] Cert.Reference38Ideal.Gen.bcast_S2048_S2048x1024_0 (Host.reduceAdd (Host.divf (mulf (shapeCast _ (Host.reduceAdd (mulf a0 (mulf a3 (broadcastInDim Cert.Reference38Ideal.S2048x1024 ![0, 1] Cert.Reference38Ideal.Gen.bcast_S1x1024_S2048x1024_0_1 (broadcastInDim Cert.Reference38Ideal.S1x1024 ![1] Cert.Reference38Ideal.Gen.bcast_S1024_S1x1024_1 a1)))) (constant Cert.Reference38Ideal.S_ .f32 0x00000000#32) Cert.Reference38Ideal.Gen.reducesTo_S2048x1024_S2048_d1 Cert.Reference38Ideal.Gen.h_S_) Cert.Reference38Ideal.Gen.shapeCasts_S2048_S2048x1) (mulf (broadcastInDim Cert.Reference38Ideal.S2048x1 ![] Cert.Reference38Ideal.Gen.bcast_S_S2048x1 (constant Cert.Reference38Ideal.S_ .f32 0xBF000000#32)) (Host.divf (Host.rsqrt (addf (Host.divf (broadcastInDim Cert.Reference38Ideal.S2048x1 ![0] Cert.Reference38Ideal.Gen.bcast_S2048_S2048x1_0 (Host.reduceAdd (mulf a0 a0) (constant Cert.Reference38Ideal.S_ .f32 0x00000000#32) Cert.Reference38Ideal.Gen.reducesTo_S2048x1024_S2048_d1 Cert.Reference38Ideal.Gen.h_S_)) (broadcastInDim Cert.Reference38Ideal.S2048x1 ![] Cert.Reference38Ideal.Gen.bcast_S_S2048x1 (constant Cert.Reference38Ideal.S_ .f32 0x44800000#32))) (broadcastInDim Cert.Reference38Ideal.S2048x1 ![] Cert.Reference38Ideal.Gen.bcast_S_S2048x1 (constant Cert.Reference38Ideal.S_ .f32 0x358637BD#32)))) (addf (Host.divf (broadcastInDim Cert.Reference38Ideal.S2048x1 ![0] Cert.Reference38Ideal.Gen.bcast_S2048_S2048x1_0 (Host.reduceAdd (mulf a0 a0) (constant Cert.Reference38Ideal.S_ .f32 0x00000000#32) Cert.Reference38Ideal.Gen.reducesTo_S2048x1024_S2048_d1 Cert.Reference38Ideal.Gen.h_S_)) (broadcastInDim Cert.Reference38Ideal.S2048x1 ![] Cert.Reference38Ideal.Gen.bcast_S_S2048x1 (constant Cert.Reference38Ideal.S_ .f32 0x44800000#32))) (broadcastInDim Cert.Reference38Ideal.S2048x1 ![] Cert.Reference38Ideal.Gen.bcast_S_S2048x1 (constant Cert.Reference38Ideal.S_ .f32 0x358637BD#32)))))) (broadcastInDim Cert.Reference38Ideal.S2048x1 ![] Cert.Reference38Ideal.Gen.bcast_S_S2048x1 (constant Cert.Reference38Ideal.S_ .f32 0x44800000#32))) (constant Cert.Reference38Ideal.S_ .f32 0x00000000#32) Cert.Reference38Ideal.Gen.reducesTo_S2048x1_S2048_d1 Cert.Reference38Ideal.Gen.h_S_)))) (mulf (broadcastInDim Cert.Reference38Ideal.S2048x1024 ![0] Cert.Reference38Ideal.Gen.bcast_S2048_S2048x1024_0 (Host.reduceAdd (Host.divf (mulf (shapeCast _ (Host.reduceAdd (mulf a0 (mulf a3 (broadcastInDim Cert.Reference38Ideal.S2048x1024 ![0, 1] Cert.Reference38Ideal.Gen.bcast_S1x1024_S2048x1024_0_1 (broadcastInDim Cert.Reference38Ideal.S1x1024 ![1] Cert.Reference38Ideal.Gen.bcast_S1024_S1x1024_1 a1)))) (constant Cert.Reference38Ideal.S_ .f32 0x00000000#32) Cert.Reference38Ideal.Gen.reducesTo_S2048x1024_S2048_d1 Cert.Reference38Ideal.Gen.h_S_) Cert.Reference38Ideal.Gen.shapeCasts_S2048_S2048x1) (mulf (broadcastInDim Cert.Reference38Ideal.S2048x1 ![] Cert.Reference38Ideal.Gen.bcast_S_S2048x1 (constant Cert.Reference38Ideal.S_ .f32 0xBF000000#32)) (Host.divf (Host.rsqrt (addf (Host.divf (broadcastInDim Cert.Reference38Ideal.S2048x1 ![0] Cert.Reference38Ideal.Gen.bcast_S2048_S2048x1_0 (Host.reduceAdd (mulf a0 a0) (constant Cert.Reference38Ideal.S_ .f32 0x00000000#32) Cert.Reference38Ideal.Gen.reducesTo_S2048x1024_S2048_d1 Cert.Reference38Ideal.Gen.h_S_)) (broadcastInDim Cert.Reference38Ideal.S2048x1 ![] Cert.Reference38Ideal.Gen.bcast_S_S2048x1 (constant Cert.Reference38Ideal.S_ .f32 0x44800000#32))) (broadcastInDim Cert.Reference38Ideal.S2048x1 ![] Cert.Reference38Ideal.Gen.bcast_S_S2048x1 (constant Cert.Reference38Ideal.S_ .f32 0x358637BD#32)))) (addf (Host.divf (broadcastInDim Cert.Reference38Ideal.S2048x1 ![0] Cert.Reference38Ideal.Gen.bcast_S2048_S2048x1_0 (Host.reduceAdd (mulf a0 a0) (constant Cert.Reference38Ideal.S_ .f32 0x00000000#32) Cert.Reference38Ideal.Gen.reducesTo_S2048x1024_S2048_d1 Cert.Reference38Ideal.Gen.h_S_)) (broadcastInDim Cert.Reference38Ideal.S2048x1 ![] Cert.Reference38Ideal.Gen.bcast_S_S2048x1 (constant Cert.Reference38Ideal.S_ .f32 0x44800000#32))) (broadcastInDim Cert.Reference38Ideal.S2048x1 ![] Cert.Reference38Ideal.Gen.bcast_S_S2048x1 (constant Cert.Reference38Ideal.S_ .f32 0x358637BD#32)))))) (broadcastInDim Cert.Reference38Ideal.S2048x1 ![] Cert.Reference38Ideal.Gen.bcast_S_S2048x1 (constant Cert.Reference38Ideal.S_ .f32 0x44800000#32))) (constant Cert.Reference38Ideal.S_ .f32 0x00000000#32) Cert.Reference38Ideal.Gen.reducesTo_S2048x1_S2048_d1 Cert.Reference38Ideal.Gen.h_S_)) a0))

/-- What the reference computes, over its arguments. -/
abbrev REF1 (a0 : FVec Ideal Cert.Reference38Ideal.S2048x1024 .f32) (a3 : FVec Ideal Cert.Reference38Ideal.S2048x1024 .f32) : FVec Ideal Cert.Reference38Ideal.S1x1024 .f32 :=
  shapeCast _ (Host.reduceAdd (shapeCast _ (Host.reduceAdd (mulf (mulf a0 (broadcastInDim Cert.Reference38Ideal.S2048x1024 ![0, 1] Cert.Reference38Ideal.Gen.bcast_S2048x1_S2048x1024_0_1 (Host.rsqrt (addf (Host.divf (broadcastInDim Cert.Reference38Ideal.S2048x1 ![0] Cert.Reference38Ideal.Gen.bcast_S2048_S2048x1_0 (Host.reduceAdd (mulf a0 a0) (constant Cert.Reference38Ideal.S_ .f32 0x00000000#32) Cert.Reference38Ideal.Gen.reducesTo_S2048x1024_S2048_d1 Cert.Reference38Ideal.Gen.h_S_)) (broadcastInDim Cert.Reference38Ideal.S2048x1 ![] Cert.Reference38Ideal.Gen.bcast_S_S2048x1 (constant Cert.Reference38Ideal.S_ .f32 0x44800000#32))) (broadcastInDim Cert.Reference38Ideal.S2048x1 ![] Cert.Reference38Ideal.Gen.bcast_S_S2048x1 (constant Cert.Reference38Ideal.S_ .f32 0x358637BD#32)))))) a3) (constant Cert.Reference38Ideal.S_ .f32 0x00000000#32) Cert.Reference38Ideal.Gen.reducesTo_S2048x1024_S1024_d0 Cert.Reference38Ideal.Gen.h_S_) Cert.Reference38Ideal.Gen.shapeCasts_S1024_S1x1024) (constant Cert.Reference38Ideal.S_ .f32 0x00000000#32) Cert.Reference38Ideal.Gen.reducesTo_S1x1024_S1024_d0 Cert.Reference38Ideal.Gen.h_S_) Cert.Reference38Ideal.Gen.shapeCasts_S1024_S1x1024

/-- Every window's block at every grid point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

/-- The gradient by the norm's argument, with what goes past the block, is the reference's. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 4 = 0
  · rw [outsAt0_A m c t h]; frame_out
    pointwise [k0_pay1, k0_pay2, k0_pay3, k0_pay4, k0_pay5, k0_pay6, REF0]
    blk_point [iblk, V, idx t]
  · rw [outsAt0_B m c t h]; frame_out
    pointwise [k0_pay1, k0_pay2, k0_pay3, k0_pay4, k0_pay5, k0_pay6, REF0]
    blk_point [iblk, V, idx t]

/-- The zero fill. -/
theorem hzero (j : S1x1024.Idx) : k0_pay1 (F := Ideal) j = 0 := by pointwise! [k0_pay1]

/-- A point adds its rows' products to what the block held. -/
theorem hpay (v0 v4 : Vec Ideal S512x1024 .f32) (v43 : Vec Ideal S1x1024 .f32) (j : S1x1024.Idx) :
    k0_pay2 (k0_pay5 v0 v4) v43 j = v43 j + ∑ k : Fin 512, v0 (ix2 k (j 1)) * Ideal.rsqrt (Ideal.div (∑ x : Fin 1024, v0 (ix2 k x) * v0 (ix2 k x)) (Ideal.ofBits .f32 1149239296#32) + Ideal.ofBits .f32 897988541#32) * v4 (ix2 k (j 1)) := by
  pointwise [k0_pay1, k0_pay2, k0_pay3, k0_pay4, k0_pay5, k0_pay6]

/-- A sum of one term. -/
theorem one_sum (f : Fin 1 → EReal) : f 0 = ∑ x, f x := (Fin.sum_univ_one f).symm

/-- The gradient by the gain is the reference's. -/
theorem final1 (c : Dev nD) : (dats m 0 c).arrAt 5 (cfgs 0).N = REF1 (m ((c : Thread nD τ).loc main_arg0)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 4 (fun _ => 0) _
    (fun t h j => by rw [outsAt0_A m c t h]; frame_out; rw [hpay, hzero])
    (fun t h j => by rw [outsAt0_B m c t h]; frame_out; rw [hpay])
    t ((flush0_5 t).mp hf) _, zero_add]
  pointwise [REF1]
  refine Eq.trans ?_ (one_sum _)
  refine Fin.sum_mul_add_congr fun s k hl => ?_
  blk_point [iblk, V, idx t, idx ⟨_, Pipeline.run_point_lt_of_flush t ((flush0_5 t).mp hf) s⟩]

end Cert.Kernel38Ideal.Value

end
-- ==== Proof.Calls.Loss.lean ====
/- The loss of one device's tokens and its gradient. -/
module

public import proofs.«01_k».proof.Proof.Gen.Kernel39Ideal.Value
public import proofs.«01_k».proof.Proof.Gen.Reference39Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel39Ideal.Value

open Cert.Kernel39Ideal Cert.Kernel39Ideal.Gen

variable (m : (ℓ : Loc nD τ sig) → Buf (Elt Ideal) ℓ)

/-- What the reference computes, over its arguments. -/
abbrev REF0 (a0 : FVec Ideal Cert.Reference39Ideal.S2048x1024 .f32) (a1 : FVec Ideal Cert.Reference39Ideal.S2048x1024 .f32) : FVec Ideal Cert.Reference39Ideal.S2048x1024 .f32 :=
  mulf (broadcastInDim Cert.Reference39Ideal.S2048x1024 ![0] Cert.Reference39Ideal.Gen.bcast_S2048_S2048x1024_0 (Host.divf (broadcastInDim Cert.Reference39Ideal.S2048 ![] Cert.Reference39Ideal.Gen.bcast_S_S2048 (mulf (constant Cert.Reference39Ideal.S_ .f32 0x3F000000#32) (constant Cert.Reference39Ideal.S_ .f32 0x3F800000#32))) (broadcastInDim Cert.Reference39Ideal.S2048 ![] Cert.Reference39Ideal.Gen.bcast_S_S2048 (constant Cert.Reference39Ideal.S_ .f32 0x44800000#32)))) (mulf (broadcastInDim Cert.Reference39Ideal.S2048x1024 ![] Cert.Reference39Ideal.Gen.bcast_S_S2048x1024 (constant Cert.Reference39Ideal.S_ .f32 0x40000000#32)) (subf a0 a1))

/-- What the reference computes, over its arguments. -/
abbrev REF1 (a0 : FVec Ideal Cert.Reference39Ideal.S2048x1024 .f32) (a1 : FVec Ideal Cert.Reference39Ideal.S2048x1024 .f32) : FVec Ideal Cert.Reference39Ideal.S1x128 .f32 :=
  broadcastInDim Cert.Reference39Ideal.S1x128 ![] Cert.Reference39Ideal.Gen.bcast_S_S1x128 (mulf (constant Cert.Reference39Ideal.S_ .f32 0x3F000000#32) (Host.reduceAdd (Host.divf (Host.reduceAdd (mulf (subf a0 a1) (subf a0 a1)) (constant Cert.Reference39Ideal.S_ .f32 0x00000000#32) Cert.Reference39Ideal.Gen.reducesTo_S2048x1024_S2048_d1 Cert.Reference39Ideal.Gen.h_S_) (broadcastInDim Cert.Reference39Ideal.S2048 ![] Cert.Reference39Ideal.Gen.bcast_S_S2048 (constant Cert.Reference39Ideal.S_ .f32 0x44800000#32))) (constant Cert.Reference39Ideal.S_ .f32 0x00000000#32) Cert.Reference39Ideal.Gen.reducesTo_S2048_S_d0 Cert.Reference39Ideal.Gen.h_S_))

/-- Every window's block at every grid point. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The kernel's factor, one part in 1024. -/
theorem part : Ideal.ofBits .f32 981467136#32 = (((1 : ℝ) / 1024 : ℝ) : EReal) := by
  simp [Ideal.ofBits, Ideal.ieee, -EReal.coe_mul]; norm_num

/-- One half. -/
theorem half : Ideal.ofBits .f32 1056964608#32 = (((1 : ℝ) / 2 : ℝ) : EReal) := by
  simp [Ideal.ofBits, Ideal.ieee, -EReal.coe_mul]; norm_num

/-- The number of channels. -/
theorem count : Ideal.ofBits .f32 1149239296#32 = ((1024 : ℝ) : EReal) := by
  simp [Ideal.ofBits, Ideal.ieee, -EReal.coe_mul]; norm_num

/-- Two. -/
theorem two : Ideal.ofBits .f32 1073741824#32 = ((2 : ℝ) : EReal) := by
  simp [Ideal.ofBits, Ideal.ieee, -EReal.coe_mul]; norm_num

/-- The slope of the mean square, as the kernel and as the reference write it. -/
theorem slope (x : EReal) : x * Ideal.ofBits .f32 981467136#32 =
    Ideal.div (Ideal.ofBits .f32 1056964608#32) (Ideal.ofBits .f32 1149239296#32) * (Ideal.ofBits .f32 1073741824#32 * x) := by
  rw [part, half, count, two, Ideal.div_coe (by norm_num), ← mul_assoc, ← EReal.coe_mul, ← EReal.coe_mul, mul_comm x]
  norm_num

/-- Half of a token's mean square, as the kernel writes it. -/
theorem token (x : EReal) : Ideal.ofBits .f32 1056964608#32 * x * Ideal.ofBits .f32 981467136#32 =
    Ideal.ofBits .f32 1056964608#32 * Ideal.div x (Ideal.ofBits .f32 1149239296#32) := by
  rw [part, count, Ideal.div_coe (by norm_num), mul_assoc]

/-- Half of a sum is the sum of the halves. -/
theorem half_sum {n : Nat} (f : Fin n → EReal) :
    ∑ i, Ideal.ofBits .f32 1056964608#32 * f i = Ideal.ofBits .f32 1056964608#32 * ∑ i, f i := by
  rw [half]
  let φ : EReal →+ EReal := ⟨⟨fun y => (((1 : ℝ) / 2 : ℝ) : EReal) * y, mul_zero _⟩, fun y z => EReal.left_distrib_of_nonneg_of_ne_top (EReal.coe_nonneg.mpr (by norm_num)) (EReal.coe_ne_top _) y z⟩
  exact (map_sum φ f Finset.univ).symm

/-- The gradient of the loss by the last layer's output is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp; rw [after0_2]
  by_cases h : t.val % 4 = 0
  · rw [outsAt0_A m c t h]; frame_out
    pointwise [k0_pay1, k0_pay2, k0_pay3, k0_pay4, REF0]
    refine (slope _).trans ?_
    blk_point [iblk, V, idx t]
  · rw [outsAt0_B m c t h]; frame_out
    pointwise [k0_pay1, k0_pay2, k0_pay3, k0_pay4, REF0]
    refine (slope _).trans ?_
    blk_point [iblk, V, idx t]

/-- The zero fill. -/
theorem hzero (j : S1x128.Idx) : k0_pay3 (F := Ideal) j = 0 := by pointwise! [k0_pay3]

/-- A point adds its rows' losses to what the block held. -/
theorem hpay (v0 v1 : Vec Ideal S512x1024 .f32) (v18 : Vec Ideal S1x128 .f32) (j : S1x128.Idx) :
    k0_pay4 v0 v1 v18 j = v18 j + ∑ k : Fin 512, Ideal.ofBits .f32 1056964608#32 * (∑ x : Fin 1024, (v0 (ix2 k x) - v1 (ix2 k x)) * (v0 (ix2 k x) - v1 (ix2 k x))) * Ideal.ofBits .f32 981467136#32 := by
  pointwise [k0_pay1, k0_pay2, k0_pay3, k0_pay4]

/-- The loss of the device's tokens is the reference's. -/
theorem final1 (c : Dev nD) : (dats m 0 c).arrAt 3 (cfgs 0).N = REF1 (m ((c : Thread nD τ).loc main_arg0)) (m ((c : Thread nD τ).loc main_arg1)) := by
  refine (dats m 0 c).arrAt_eq_of_covers 3 _ (by decide +kernel) fun t hf y => ?_
  blk_simp
  rw [after0_3, Pipeline.eq_sum_fin_of_reset_step_apply_of_flush (fun n h => (outsAt0 m c n h).2) 4 (fun _ => 0) _
    (fun t h j => by rw [outsAt0_A m c t h]; frame_out; rw [hpay, hzero])
    (fun t h j => by rw [outsAt0_B m c t h]; frame_out; rw [hpay])
    t ((flush0_3 t).mp hf) _, zero_add]
  pointwise [REF1]
  refine Eq.trans ?_ (half_sum _)
  refine Fin.sum_mul_add_congr fun s k hl => ?_
  refine (token _).trans ?_
  blk_point [iblk, V, idx t, idx ⟨_, Pipeline.run_point_lt_of_flush t ((flush0_3 t).mp hf) s⟩]

end Cert.Kernel39Ideal.Value

end
-- ==== Proof.Calls.Norm.lean ====
/- The norm before a block. -/
module

public import proofs.«01_k».proof.Proof.Gen.Kernel40Ideal.Value
public import proofs.«01_k».proof.Proof.Gen.Reference40Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel40Ideal.Value

open Cert.Kernel40Ideal Cert.Kernel40Ideal.Gen

variable (m : (ℓ : Loc nD τ sig) → Buf (Elt Ideal) ℓ)

/-- What the reference computes, over its arguments. -/
abbrev REF0 (a0 : FVec Ideal Cert.Reference40Ideal.S2048x1024 .f32) (a1 : FVec Ideal Cert.Reference40Ideal.S1024 .f32) : FVec Ideal Cert.Reference40Ideal.S2048x1024 .bf16 :=
  truncf .bf16 (mulf (mulf a0 (broadcastInDim Cert.Reference40Ideal.S2048x1024 ![0, 1] Cert.Reference40Ideal.Gen.bcast_S2048x1_S2048x1024_0_1 (Host.rsqrt (addf (Host.divf (broadcastInDim Cert.Reference40Ideal.S2048x1 ![0] Cert.Reference40Ideal.Gen.bcast_S2048_S2048x1_0 (Host.reduceAdd (mulf a0 a0) (constant Cert.Reference40Ideal.S_ .f32 0x00000000#32) Cert.Reference40Ideal.Gen.reducesTo_S2048x1024_S2048_d1 Cert.Reference40Ideal.Gen.h_S_)) (broadcastInDim Cert.Reference40Ideal.S2048x1 ![] Cert.Reference40Ideal.Gen.bcast_S_S2048x1 (constant Cert.Reference40Ideal.S_ .f32 0x44800000#32))) (broadcastInDim Cert.Reference40Ideal.S2048x1 ![] Cert.Reference40Ideal.Gen.bcast_S_S2048x1 (constant Cert.Reference40Ideal.S_ .f32 0x358637BD#32)))))) (broadcastInDim Cert.Reference40Ideal.S2048x1024 ![0, 1] Cert.Reference40Ideal.Gen.bcast_S1x1024_S2048x1024_0_1 (broadcastInDim Cert.Reference40Ideal.S1x1024 ![1] Cert.Reference40Ideal.Gen.bcast_S1024_S1x1024_1 a1))) Cert.Reference40Ideal.Gen.bitsLt_bf16_f32

/-- Every window's block at every grid point. -/
theorem idx : ∀ t : Fin cfg0.N, win0_0.index t = ![t.val, 0] ∧ win0_1.index t = ![0, 0] ∧ win0_2.index t = ![t.val, 0] :=
  (by decide +kernel : ∀ t : Fin grid0.N, _)

/-- The array the call leaves is the reference's. -/
theorem final (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, REF0]
  blk_point [iblk, V, idx t]

end Cert.Kernel40Ideal.Value

end
-- ==== Proof.Calls.Resid.lean ====
/- The norm after a feed-forward block. -/
module

public import proofs.«01_k».proof.Proof.Gen.Kernel41Ideal.Value
public import proofs.«01_k».proof.Proof.Gen.Reference41Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel41Ideal.Value

open Cert.Kernel41Ideal Cert.Kernel41Ideal.Gen

variable (m : (ℓ : Loc nD τ sig) → Buf (Elt Ideal) ℓ)

/-- What the reference computes, over its arguments. -/
def REF0 (a0 : FVec Ideal Cert.Reference41Ideal.S2048x1024 .f32) (a1 : FVec Ideal Cert.Reference41Ideal.S2048x1024 .f32) (a2 : FVec Ideal Cert.Reference41Ideal.S1024 .f32) : FVec Ideal Cert.Reference41Ideal.S2048x1024 .f32 :=
  addf a0 (mulf (broadcastInDim Cert.Reference41Ideal.S2048x1024 ![] Cert.Reference41Ideal.Gen.bcast_S_S2048x1024 (constant Cert.Reference41Ideal.S_ .f32 0x3F000000#32)) (mulf (mulf a1 (broadcastInDim Cert.Reference41Ideal.S2048x1024 ![0, 1] Cert.Reference41Ideal.Gen.bcast_S2048x1_S2048x1024_0_1 (Host.rsqrt (addf (Host.divf (broadcastInDim Cert.Reference41Ideal.S2048x1 ![0] Cert.Reference41Ideal.Gen.bcast_S2048_S2048x1_0 (Host.reduceAdd (mulf a1 a1) (constant Cert.Reference41Ideal.S_ .f32 0x00000000#32) Cert.Reference41Ideal.Gen.reducesTo_S2048x1024_S2048_d1 Cert.Reference41Ideal.Gen.h_S_)) (broadcastInDim Cert.Reference41Ideal.S2048x1 ![] Cert.Reference41Ideal.Gen.bcast_S_S2048x1 (constant Cert.Reference41Ideal.S_ .f32 0x44800000#32))) (broadcastInDim Cert.Reference41Ideal.S2048x1 ![] Cert.Reference41Ideal.Gen.bcast_S_S2048x1 (constant Cert.Reference41Ideal.S_ .f32 0x358637BD#32)))))) (broadcastInDim Cert.Reference41Ideal.S2048x1024 ![0, 1] Cert.Reference41Ideal.Gen.bcast_S1x1024_S2048x1024_0_1 (broadcastInDim Cert.Reference41Ideal.S1x1024 ![1] Cert.Reference41Ideal.Gen.bcast_S1024_S1x1024_1 a2))))

/-- Every window's block at every grid point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The array the call leaves is the reference's. -/
theorem final (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  pointwise [k0_pay1, REF0]
  blk_point [iblk, V, idx t]

end Cert.Kernel41Ideal.Value

end
-- ==== Proof.Calls.ResidDx.lean ====
/- The gradient of the norm after a feed-forward block. -/
module

public import proofs.«01_k».proof.Proof.Gen.Kernel42Ideal.Value
public import proofs.«01_k».proof.Proof.Gen.Reference42Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel42Ideal.Value

open Cert.Kernel42Ideal Cert.Kernel42Ideal.Gen

variable (m : (ℓ : Loc nD τ sig) → Buf (Elt Ideal) ℓ)

/-- What the reference computes, over its arguments. -/
abbrev REF0 (a0 : FVec Ideal Cert.Reference42Ideal.S2048x1024 .f32) (a1 : FVec Ideal Cert.Reference42Ideal.S1024 .f32) (a2 : FVec Ideal Cert.Reference42Ideal.S2048x1024 .f32) : FVec Ideal Cert.Reference42Ideal.S2048x1024 .bf16 :=
  truncf .bf16 (addf (addf (mulf (mulf (mulf (broadcastInDim Cert.Reference42Ideal.S2048x1024 ![] Cert.Reference42Ideal.Gen.bcast_S_S2048x1024 (constant Cert.Reference42Ideal.S_ .f32 0x3F000000#32)) a2) (broadcastInDim Cert.Reference42Ideal.S2048x1024 ![0, 1] Cert.Reference42Ideal.Gen.bcast_S1x1024_S2048x1024_0_1 (broadcastInDim Cert.Reference42Ideal.S1x1024 ![1] Cert.Reference42Ideal.Gen.bcast_S1024_S1x1024_1 a1))) (broadcastInDim Cert.Reference42Ideal.S2048x1024 ![0, 1] Cert.Reference42Ideal.Gen.bcast_S2048x1_S2048x1024_0_1 (Host.rsqrt (addf (Host.divf (broadcastInDim Cert.Reference42Ideal.S2048x1 ![0] Cert.Reference42Ideal.Gen.bcast_S2048_S2048x1_0 (Host.reduceAdd (mulf a0 a0) (constant Cert.Reference42Ideal.S_ .f32 0x00000000#32) Cert.Reference42Ideal.Gen.reducesTo_S2048x1024_S2048_d1 Cert.Reference42Ideal.Gen.h_S_)) (broadcastInDim Cert.Reference42Ideal.S2048x1 ![] Cert.Reference42Ideal.Gen.bcast_S_S2048x1 (constant Cert.Reference42Ideal.S_ .f32 0x44800000#32))) (broadcastInDim Cert.Reference42Ideal.S2048x1 ![] Cert.Reference42Ideal.Gen.bcast_S_S2048x1 (constant Cert.Reference42Ideal.S_ .f32 0x358637BD#32)))))) (mulf a0 (broadcastInDim Cert.Reference42Ideal.S2048x1024 ![0] Cert.Reference42Ideal.Gen.bcast_S2048_S2048x1024_0 (Host.reduceAdd (Host.divf (mulf (shapeCast _ (Host.reduceAdd (mulf a0 (mulf (mulf (broadcastInDim Cert.Reference42Ideal.S2048x1024 ![] Cert.Reference42Ideal.Gen.bcast_S_S2048x1024 (constant Cert.Reference42Ideal.S_ .f32 0x3F000000#32)) a2) (broadcastInDim Cert.Reference42Ideal.S2048x1024 ![0, 1] Cert.Reference42Ideal.Gen.bcast_S1x1024_S2048x1024_0_1 (broadcastInDim Cert.Reference42Ideal.S1x1024 ![1] Cert.Reference42Ideal.Gen.bcast_S1024_S1x1024_1 a1)))) (constant Cert.Reference42Ideal.S_ .f32 0x00000000#32) Cert.Reference42Ideal.Gen.reducesTo_S2048x1024_S2048_d1 Cert.Reference42Ideal.Gen.h_S_) Cert.Reference42Ideal.Gen.shapeCasts_S2048_S2048x1) (mulf (broadcastInDim Cert.Reference42Ideal.S2048x1 ![] Cert.Reference42Ideal.Gen.bcast_S_S2048x1 (constant Cert.Reference42Ideal.S_ .f32 0xBF000000#32)) (Host.divf (Host.rsqrt (addf (Host.divf (broadcastInDim Cert.Reference42Ideal.S2048x1 ![0] Cert.Reference42Ideal.Gen.bcast_S2048_S2048x1_0 (Host.reduceAdd (mulf a0 a0) (constant Cert.Reference42Ideal.S_ .f32 0x00000000#32) Cert.Reference42Ideal.Gen.reducesTo_S2048x1024_S2048_d1 Cert.Reference42Ideal.Gen.h_S_)) (broadcastInDim Cert.Reference42Ideal.S2048x1 ![] Cert.Reference42Ideal.Gen.bcast_S_S2048x1 (constant Cert.Reference42Ideal.S_ .f32 0x44800000#32))) (broadcastInDim Cert.Reference42Ideal.S2048x1 ![] Cert.Reference42Ideal.Gen.bcast_S_S2048x1 (constant Cert.Reference42Ideal.S_ .f32 0x358637BD#32)))) (addf (Host.divf (broadcastInDim Cert.Reference42Ideal.S2048x1 ![0] Cert.Reference42Ideal.Gen.bcast_S2048_S2048x1_0 (Host.reduceAdd (mulf a0 a0) (constant Cert.Reference42Ideal.S_ .f32 0x00000000#32) Cert.Reference42Ideal.Gen.reducesTo_S2048x1024_S2048_d1 Cert.Reference42Ideal.Gen.h_S_)) (broadcastInDim Cert.Reference42Ideal.S2048x1 ![] Cert.Reference42Ideal.Gen.bcast_S_S2048x1 (constant Cert.Reference42Ideal.S_ .f32 0x44800000#32))) (broadcastInDim Cert.Reference42Ideal.S2048x1 ![] Cert.Reference42Ideal.Gen.bcast_S_S2048x1 (constant Cert.Reference42Ideal.S_ .f32 0x358637BD#32)))))) (broadcastInDim Cert.Reference42Ideal.S2048x1 ![] Cert.Reference42Ideal.Gen.bcast_S_S2048x1 (constant Cert.Reference42Ideal.S_ .f32 0x44800000#32))) (constant Cert.Reference42Ideal.S_ .f32 0x00000000#32) Cert.Reference42Ideal.Gen.reducesTo_S2048x1_S2048_d1 Cert.Reference42Ideal.Gen.h_S_)))) (mulf (broadcastInDim Cert.Reference42Ideal.S2048x1024 ![0] Cert.Reference42Ideal.Gen.bcast_S2048_S2048x1024_0 (Host.reduceAdd (Host.divf (mulf (shapeCast _ (Host.reduceAdd (mulf a0 (mulf (mulf (broadcastInDim Cert.Reference42Ideal.S2048x1024 ![] Cert.Reference42Ideal.Gen.bcast_S_S2048x1024 (constant Cert.Reference42Ideal.S_ .f32 0x3F000000#32)) a2) (broadcastInDim Cert.Reference42Ideal.S2048x1024 ![0, 1] Cert.Reference42Ideal.Gen.bcast_S1x1024_S2048x1024_0_1 (broadcastInDim Cert.Reference42Ideal.S1x1024 ![1] Cert.Reference42Ideal.Gen.bcast_S1024_S1x1024_1 a1)))) (constant Cert.Reference42Ideal.S_ .f32 0x00000000#32) Cert.Reference42Ideal.Gen.reducesTo_S2048x1024_S2048_d1 Cert.Reference42Ideal.Gen.h_S_) Cert.Reference42Ideal.Gen.shapeCasts_S2048_S2048x1) (mulf (broadcastInDim Cert.Reference42Ideal.S2048x1 ![] Cert.Reference42Ideal.Gen.bcast_S_S2048x1 (constant Cert.Reference42Ideal.S_ .f32 0xBF000000#32)) (Host.divf (Host.rsqrt (addf (Host.divf (broadcastInDim Cert.Reference42Ideal.S2048x1 ![0] Cert.Reference42Ideal.Gen.bcast_S2048_S2048x1_0 (Host.reduceAdd (mulf a0 a0) (constant Cert.Reference42Ideal.S_ .f32 0x00000000#32) Cert.Reference42Ideal.Gen.reducesTo_S2048x1024_S2048_d1 Cert.Reference42Ideal.Gen.h_S_)) (broadcastInDim Cert.Reference42Ideal.S2048x1 ![] Cert.Reference42Ideal.Gen.bcast_S_S2048x1 (constant Cert.Reference42Ideal.S_ .f32 0x44800000#32))) (broadcastInDim Cert.Reference42Ideal.S2048x1 ![] Cert.Reference42Ideal.Gen.bcast_S_S2048x1 (constant Cert.Reference42Ideal.S_ .f32 0x358637BD#32)))) (addf (Host.divf (broadcastInDim Cert.Reference42Ideal.S2048x1 ![0] Cert.Reference42Ideal.Gen.bcast_S2048_S2048x1_0 (Host.reduceAdd (mulf a0 a0) (constant Cert.Reference42Ideal.S_ .f32 0x00000000#32) Cert.Reference42Ideal.Gen.reducesTo_S2048x1024_S2048_d1 Cert.Reference42Ideal.Gen.h_S_)) (broadcastInDim Cert.Reference42Ideal.S2048x1 ![] Cert.Reference42Ideal.Gen.bcast_S_S2048x1 (constant Cert.Reference42Ideal.S_ .f32 0x44800000#32))) (broadcastInDim Cert.Reference42Ideal.S2048x1 ![] Cert.Reference42Ideal.Gen.bcast_S_S2048x1 (constant Cert.Reference42Ideal.S_ .f32 0x358637BD#32)))))) (broadcastInDim Cert.Reference42Ideal.S2048x1 ![] Cert.Reference42Ideal.Gen.bcast_S_S2048x1 (constant Cert.Reference42Ideal.S_ .f32 0x44800000#32))) (constant Cert.Reference42Ideal.S_ .f32 0x00000000#32) Cert.Reference42Ideal.Gen.reducesTo_S2048x1_S2048_d1 Cert.Reference42Ideal.Gen.h_S_)) a0)) Cert.Reference42Ideal.Gen.bitsLt_bf16_f32

/-- What the reference computes, over its arguments. -/
abbrev REF1 (a0 : FVec Ideal Cert.Reference42Ideal.S2048x1024 .f32) (a2 : FVec Ideal Cert.Reference42Ideal.S2048x1024 .f32) : FVec Ideal Cert.Reference42Ideal.S1x1024 .f32 :=
  shapeCast _ (Host.reduceAdd (shapeCast _ (Host.reduceAdd (mulf (mulf a0 (broadcastInDim Cert.Reference42Ideal.S2048x1024 ![0, 1] Cert.Reference42Ideal.Gen.bcast_S2048x1_S2048x1024_0_1 (Host.rsqrt (addf (Host.divf (broadcastInDim Cert.Reference42Ideal.S2048x1 ![0] Cert.Reference42Ideal.Gen.bcast_S2048_S2048x1_0 (Host.reduceAdd (mulf a0 a0) (constant Cert.Reference42Ideal.S_ .f32 0x00000000#32) Cert.Reference42Ideal.Gen.reducesTo_S2048x1024_S2048_d1 Cert.Reference42Ideal.Gen.h_S_)) (broadcastInDim Cert.Reference42Ideal.S2048x1 ![] Cert.Reference42Ideal.Gen.bcast_S_S2048x1 (constant Cert.Reference42Ideal.S_ .f32 0x44800000#32))) (broadcastInDim Cert.Reference42Ideal.S2048x1 ![] Cert.Reference42Ideal.Gen.bcast_S_S2048x1 (constant Cert.Reference42Ideal.S_ .f32 0x358637BD#32)))))) (mulf (broadcastInDim Cert.Reference42Ideal.S2048x1024 ![] Cert.Reference42Ideal.Gen.bcast_S_S2048x1024 (constant Cert.Reference42Ideal.S_ .f32 0x3F000000#32)) a2)) (constant Cert.Reference42Ideal.S_ .f32 0x00000000#32) Cert.Reference42Ideal.Gen.reducesTo_S2048x1024_S1024_d0 Cert.Reference42Ideal.Gen.h_S_) Cert.Reference42Ideal.Gen.shapeCasts_S1024_S1x1024) (constant Cert.Reference42Ideal.S_ .f32 0x00000000#32) Cert.Reference42Ideal.Gen.reducesTo_S1x1024_S1024_d0 Cert.Reference42Ideal.Gen.h_S_) Cert.Reference42Ideal.Gen.shapeCasts_S1024_S1x1024

/-- Every window's block at every grid point. -/
theorem idx : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

/-- The gradient by the norm's argument is the reference's. -/
theorem final0 (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  by_cases h : t.val % 4 = 0
  · rw [outsAt0_A m c t h]; frame_out
    pointwise [k0_pay1, k0_pay2, k0_pay3, k0_pay4, k0_pay5, k0_pay6, k0_pay7, REF0]
    blk_point [iblk, V, idx t]
  · rw [outsAt0_B m c t h]; frame_out
    pointwise [k0_pay1, k0_pay2, k0_pay3, k0_pay4, k0_pay5, k0_pay6, k0_pay7, REF0]
    blk_point [iblk, V, idx t]

/-- The zero fill. -/
theorem hzero (j : S1x1024.Idx) : k0_pay1 (F := Ideal) j = 0 := by pointwise! [k0_pay1]

/-- A point adds its rows' products to what the block held. -/
theorem hpay (v0 v3 : Vec Ideal S512x1024 .f32) (v44 : Vec Ideal S1x1024 .f32) (j : S1x1024.Idx) :
    k0_pay2 (k0_pay6 v0 v3) v44 j = v44 j + ∑ k : Fin 512, v0 (ix2 k (j 1)) * Ideal.rsqrt (Ideal.div (∑ x : Fin 1024, v0 (ix2 k x) * v0 (ix2 k x)) (Ideal.ofBits .f32 1149239296#32) + Ideal.ofBits .f32 897988541#32) * (Ideal.ofBits .f32 1056964608#32 * v3 (ix2 k (j 1))) := by
  pointwise [k0_pay1, k0_pay2, k0_pay3, k0_pay4, k0_pay5, k0_pay6, k0_pay7]

/-- A sum of one term. -/
theorem one_sum (f : Fin 1 → EReal) : f 0 = ∑ x, f x := (Fin.sum_univ_one f).symm

/-- The gradient by the gain is the reference's. -/
theorem final1 (c : Dev nD) : (dats m 0 c).arrAt 4 (cfgs 0).N = REF1 (m ((c : Thread nD τ).loc main_arg0)) (m ((c : Thread nD τ).loc main_arg2)) := by
  refine (dats m 0 c).arrAt_eq_of_covers 4 _ (by decide +kernel) fun t hf y => ?_
  blk_simp
  rw [after0_4, Pipeline.eq_sum_fin_of_reset_step_apply_of_flush (fun n h => (outsAt0 m c n h).2) 4 (fun _ => 0) _
    (fun t h j => by rw [outsAt0_A m c t h]; frame_out; rw [hpay, hzero])
    (fun t h j => by rw [outsAt0_B m c t h]; frame_out; rw [hpay])
    t ((flush0_4 t).mp hf) _, zero_add]
  pointwise [REF1]
  refine Eq.trans ?_ (one_sum _)
  refine Fin.sum_mul_add_congr fun s k hl => ?_
  blk_point [iblk, V, idx t, idx ⟨_, Pipeline.run_point_lt_of_flush t ((flush0_4 t).mp hf) s⟩]

end Cert.Kernel42Ideal.Value

end
-- ==== Proof.Calls.MixResid.lean ====
/- The norm after the mixer. -/
module

public import proofs.«01_k».proof.Proof.Gen.Kernel43Ideal.Value
public import proofs.«01_k».proof.Proof.Gen.Reference43Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel43Ideal.Value

open Cert.Kernel43Ideal Cert.Kernel43Ideal.Gen

variable (m : (ℓ : Loc nD τ sig) → Buf (Elt Ideal) ℓ)

/-- What the reference computes, over its arguments. -/
abbrev REF0 (a0 : FVec Ideal Cert.Reference43Ideal.S2048x1024 .f32) (a1 : FVec Ideal Cert.Reference43Ideal.S2048x1024 .f32) (a2 : FVec Ideal Cert.Reference43Ideal.S1024 .f32) : FVec Ideal Cert.Reference43Ideal.S2048x1024 .f32 :=
  addf a0 (mulf (mulf a1 (broadcastInDim Cert.Reference43Ideal.S2048x1024 ![0, 1] Cert.Reference43Ideal.Gen.bcast_S2048x1_S2048x1024_0_1 (Host.rsqrt (addf (Host.divf (broadcastInDim Cert.Reference43Ideal.S2048x1 ![0] Cert.Reference43Ideal.Gen.bcast_S2048_S2048x1_0 (Host.reduceAdd (mulf a1 a1) (constant Cert.Reference43Ideal.S_ .f32 0x00000000#32) Cert.Reference43Ideal.Gen.reducesTo_S2048x1024_S2048_d1 Cert.Reference43Ideal.Gen.h_S_)) (broadcastInDim Cert.Reference43Ideal.S2048x1 ![] Cert.Reference43Ideal.Gen.bcast_S_S2048x1 (constant Cert.Reference43Ideal.S_ .f32 0x44800000#32))) (broadcastInDim Cert.Reference43Ideal.S2048x1 ![] Cert.Reference43Ideal.Gen.bcast_S_S2048x1 (constant Cert.Reference43Ideal.S_ .f32 0x358637BD#32)))))) (broadcastInDim Cert.Reference43Ideal.S2048x1024 ![0, 1] Cert.Reference43Ideal.Gen.bcast_S1x1024_S2048x1024_0_1 (broadcastInDim Cert.Reference43Ideal.S1x1024 ![1] Cert.Reference43Ideal.Gen.bcast_S1024_S1x1024_1 a2)))

/-- Every window's block at every grid point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The array the call leaves is the reference's. -/
theorem final (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  pointwise [k0_pay1, REF0]
  blk_point [iblk, V, idx t]

end Cert.Kernel43Ideal.Value

end
-- ==== Proof.Calls.MixResidDx.lean ====
/- The gradient of the norm after the mixer. -/
module

public import proofs.«01_k».proof.Proof.Gen.Kernel44Ideal.Value
public import proofs.«01_k».proof.Proof.Gen.Reference44Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel44Ideal.Value

open Cert.Kernel44Ideal Cert.Kernel44Ideal.Gen

variable (m : (ℓ : Loc nD τ sig) → Buf (Elt Ideal) ℓ)

/-- What the reference computes, over its arguments. -/
abbrev REF0 (a0 : FVec Ideal Cert.Reference44Ideal.S2048x1024 .f32) (a1 : FVec Ideal Cert.Reference44Ideal.S1024 .f32) (a2 : FVec Ideal Cert.Reference44Ideal.S2048x1024 .f32) : FVec Ideal Cert.Reference44Ideal.S2048x1024 .bf16 :=
  truncf .bf16 (addf (addf (mulf (mulf a2 (broadcastInDim Cert.Reference44Ideal.S2048x1024 ![0, 1] Cert.Reference44Ideal.Gen.bcast_S1x1024_S2048x1024_0_1 (broadcastInDim Cert.Reference44Ideal.S1x1024 ![1] Cert.Reference44Ideal.Gen.bcast_S1024_S1x1024_1 a1))) (broadcastInDim Cert.Reference44Ideal.S2048x1024 ![0, 1] Cert.Reference44Ideal.Gen.bcast_S2048x1_S2048x1024_0_1 (Host.rsqrt (addf (Host.divf (broadcastInDim Cert.Reference44Ideal.S2048x1 ![0] Cert.Reference44Ideal.Gen.bcast_S2048_S2048x1_0 (Host.reduceAdd (mulf a0 a0) (constant Cert.Reference44Ideal.S_ .f32 0x00000000#32) Cert.Reference44Ideal.Gen.reducesTo_S2048x1024_S2048_d1 Cert.Reference44Ideal.Gen.h_S_)) (broadcastInDim Cert.Reference44Ideal.S2048x1 ![] Cert.Reference44Ideal.Gen.bcast_S_S2048x1 (constant Cert.Reference44Ideal.S_ .f32 0x44800000#32))) (broadcastInDim Cert.Reference44Ideal.S2048x1 ![] Cert.Reference44Ideal.Gen.bcast_S_S2048x1 (constant Cert.Reference44Ideal.S_ .f32 0x358637BD#32)))))) (mulf a0 (broadcastInDim Cert.Reference44Ideal.S2048x1024 ![0] Cert.Reference44Ideal.Gen.bcast_S2048_S2048x1024_0 (Host.reduceAdd (Host.divf (mulf (shapeCast _ (Host.reduceAdd (mulf a0 (mulf a2 (broadcastInDim Cert.Reference44Ideal.S2048x1024 ![0, 1] Cert.Reference44Ideal.Gen.bcast_S1x1024_S2048x1024_0_1 (broadcastInDim Cert.Reference44Ideal.S1x1024 ![1] Cert.Reference44Ideal.Gen.bcast_S1024_S1x1024_1 a1)))) (constant Cert.Reference44Ideal.S_ .f32 0x00000000#32) Cert.Reference44Ideal.Gen.reducesTo_S2048x1024_S2048_d1 Cert.Reference44Ideal.Gen.h_S_) Cert.Reference44Ideal.Gen.shapeCasts_S2048_S2048x1) (mulf (broadcastInDim Cert.Reference44Ideal.S2048x1 ![] Cert.Reference44Ideal.Gen.bcast_S_S2048x1 (constant Cert.Reference44Ideal.S_ .f32 0xBF000000#32)) (Host.divf (Host.rsqrt (addf (Host.divf (broadcastInDim Cert.Reference44Ideal.S2048x1 ![0] Cert.Reference44Ideal.Gen.bcast_S2048_S2048x1_0 (Host.reduceAdd (mulf a0 a0) (constant Cert.Reference44Ideal.S_ .f32 0x00000000#32) Cert.Reference44Ideal.Gen.reducesTo_S2048x1024_S2048_d1 Cert.Reference44Ideal.Gen.h_S_)) (broadcastInDim Cert.Reference44Ideal.S2048x1 ![] Cert.Reference44Ideal.Gen.bcast_S_S2048x1 (constant Cert.Reference44Ideal.S_ .f32 0x44800000#32))) (broadcastInDim Cert.Reference44Ideal.S2048x1 ![] Cert.Reference44Ideal.Gen.bcast_S_S2048x1 (constant Cert.Reference44Ideal.S_ .f32 0x358637BD#32)))) (addf (Host.divf (broadcastInDim Cert.Reference44Ideal.S2048x1 ![0] Cert.Reference44Ideal.Gen.bcast_S2048_S2048x1_0 (Host.reduceAdd (mulf a0 a0) (constant Cert.Reference44Ideal.S_ .f32 0x00000000#32) Cert.Reference44Ideal.Gen.reducesTo_S2048x1024_S2048_d1 Cert.Reference44Ideal.Gen.h_S_)) (broadcastInDim Cert.Reference44Ideal.S2048x1 ![] Cert.Reference44Ideal.Gen.bcast_S_S2048x1 (constant Cert.Reference44Ideal.S_ .f32 0x44800000#32))) (broadcastInDim Cert.Reference44Ideal.S2048x1 ![] Cert.Reference44Ideal.Gen.bcast_S_S2048x1 (constant Cert.Reference44Ideal.S_ .f32 0x358637BD#32)))))) (broadcastInDim Cert.Reference44Ideal.S2048x1 ![] Cert.Reference44Ideal.Gen.bcast_S_S2048x1 (constant Cert.Reference44Ideal.S_ .f32 0x44800000#32))) (constant Cert.Reference44Ideal.S_ .f32 0x00000000#32) Cert.Reference44Ideal.Gen.reducesTo_S2048x1_S2048_d1 Cert.Reference44Ideal.Gen.h_S_)))) (mulf (broadcastInDim Cert.Reference44Ideal.S2048x1024 ![0] Cert.Reference44Ideal.Gen.bcast_S2048_S2048x1024_0 (Host.reduceAdd (Host.divf (mulf (shapeCast _ (Host.reduceAdd (mulf a0 (mulf a2 (broadcastInDim Cert.Reference44Ideal.S2048x1024 ![0, 1] Cert.Reference44Ideal.Gen.bcast_S1x1024_S2048x1024_0_1 (broadcastInDim Cert.Reference44Ideal.S1x1024 ![1] Cert.Reference44Ideal.Gen.bcast_S1024_S1x1024_1 a1)))) (constant Cert.Reference44Ideal.S_ .f32 0x00000000#32) Cert.Reference44Ideal.Gen.reducesTo_S2048x1024_S2048_d1 Cert.Reference44Ideal.Gen.h_S_) Cert.Reference44Ideal.Gen.shapeCasts_S2048_S2048x1) (mulf (broadcastInDim Cert.Reference44Ideal.S2048x1 ![] Cert.Reference44Ideal.Gen.bcast_S_S2048x1 (constant Cert.Reference44Ideal.S_ .f32 0xBF000000#32)) (Host.divf (Host.rsqrt (addf (Host.divf (broadcastInDim Cert.Reference44Ideal.S2048x1 ![0] Cert.Reference44Ideal.Gen.bcast_S2048_S2048x1_0 (Host.reduceAdd (mulf a0 a0) (constant Cert.Reference44Ideal.S_ .f32 0x00000000#32) Cert.Reference44Ideal.Gen.reducesTo_S2048x1024_S2048_d1 Cert.Reference44Ideal.Gen.h_S_)) (broadcastInDim Cert.Reference44Ideal.S2048x1 ![] Cert.Reference44Ideal.Gen.bcast_S_S2048x1 (constant Cert.Reference44Ideal.S_ .f32 0x44800000#32))) (broadcastInDim Cert.Reference44Ideal.S2048x1 ![] Cert.Reference44Ideal.Gen.bcast_S_S2048x1 (constant Cert.Reference44Ideal.S_ .f32 0x358637BD#32)))) (addf (Host.divf (broadcastInDim Cert.Reference44Ideal.S2048x1 ![0] Cert.Reference44Ideal.Gen.bcast_S2048_S2048x1_0 (Host.reduceAdd (mulf a0 a0) (constant Cert.Reference44Ideal.S_ .f32 0x00000000#32) Cert.Reference44Ideal.Gen.reducesTo_S2048x1024_S2048_d1 Cert.Reference44Ideal.Gen.h_S_)) (broadcastInDim Cert.Reference44Ideal.S2048x1 ![] Cert.Reference44Ideal.Gen.bcast_S_S2048x1 (constant Cert.Reference44Ideal.S_ .f32 0x44800000#32))) (broadcastInDim Cert.Reference44Ideal.S2048x1 ![] Cert.Reference44Ideal.Gen.bcast_S_S2048x1 (constant Cert.Reference44Ideal.S_ .f32 0x358637BD#32)))))) (broadcastInDim Cert.Reference44Ideal.S2048x1 ![] Cert.Reference44Ideal.Gen.bcast_S_S2048x1 (constant Cert.Reference44Ideal.S_ .f32 0x44800000#32))) (constant Cert.Reference44Ideal.S_ .f32 0x00000000#32) Cert.Reference44Ideal.Gen.reducesTo_S2048x1_S2048_d1 Cert.Reference44Ideal.Gen.h_S_)) a0)) Cert.Reference44Ideal.Gen.bitsLt_bf16_f32

/-- What the reference computes, over its arguments. -/
abbrev REF1 (a0 : FVec Ideal Cert.Reference44Ideal.S2048x1024 .f32) (a2 : FVec Ideal Cert.Reference44Ideal.S2048x1024 .f32) : FVec Ideal Cert.Reference44Ideal.S1x1024 .f32 :=
  shapeCast _ (Host.reduceAdd (shapeCast _ (Host.reduceAdd (mulf (mulf a0 (broadcastInDim Cert.Reference44Ideal.S2048x1024 ![0, 1] Cert.Reference44Ideal.Gen.bcast_S2048x1_S2048x1024_0_1 (Host.rsqrt (addf (Host.divf (broadcastInDim Cert.Reference44Ideal.S2048x1 ![0] Cert.Reference44Ideal.Gen.bcast_S2048_S2048x1_0 (Host.reduceAdd (mulf a0 a0) (constant Cert.Reference44Ideal.S_ .f32 0x00000000#32) Cert.Reference44Ideal.Gen.reducesTo_S2048x1024_S2048_d1 Cert.Reference44Ideal.Gen.h_S_)) (broadcastInDim Cert.Reference44Ideal.S2048x1 ![] Cert.Reference44Ideal.Gen.bcast_S_S2048x1 (constant Cert.Reference44Ideal.S_ .f32 0x44800000#32))) (broadcastInDim Cert.Reference44Ideal.S2048x1 ![] Cert.Reference44Ideal.Gen.bcast_S_S2048x1 (constant Cert.Reference44Ideal.S_ .f32 0x358637BD#32)))))) a2) (constant Cert.Reference44Ideal.S_ .f32 0x00000000#32) Cert.Reference44Ideal.Gen.reducesTo_S2048x1024_S1024_d0 Cert.Reference44Ideal.Gen.h_S_) Cert.Reference44Ideal.Gen.shapeCasts_S1024_S1x1024) (constant Cert.Reference44Ideal.S_ .f32 0x00000000#32) Cert.Reference44Ideal.Gen.reducesTo_S1x1024_S1024_d0 Cert.Reference44Ideal.Gen.h_S_) Cert.Reference44Ideal.Gen.shapeCasts_S1024_S1x1024

/-- Every window's block at every grid point. -/
theorem idx : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

/-- The gradient by the norm's argument is the reference's. -/
theorem final0 (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  by_cases h : t.val % 4 = 0
  · rw [outsAt0_A m c t h]; frame_out
    pointwise [k0_pay1, k0_pay2, k0_pay3, k0_pay4, k0_pay5, k0_pay6, k0_pay7, REF0]
    blk_point [iblk, V, idx t]
  · rw [outsAt0_B m c t h]; frame_out
    pointwise [k0_pay1, k0_pay2, k0_pay3, k0_pay4, k0_pay5, k0_pay6, k0_pay7, REF0]
    blk_point [iblk, V, idx t]

/-- The zero fill. -/
theorem hzero (j : S1x1024.Idx) : k0_pay1 (F := Ideal) j = 0 := by pointwise! [k0_pay1]

/-- A point adds its rows' products to what the block held. -/
theorem hpay (v0 v3 : Vec Ideal S512x1024 .f32) (v44 : Vec Ideal S1x1024 .f32) (j : S1x1024.Idx) :
    k0_pay2 (k0_pay6 v0 v3) v44 j = v44 j + ∑ k : Fin 512, v0 (ix2 k (j 1)) * Ideal.rsqrt (Ideal.div (∑ x : Fin 1024, v0 (ix2 k x) * v0 (ix2 k x)) (Ideal.ofBits .f32 1149239296#32) + Ideal.ofBits .f32 897988541#32) * v3 (ix2 k (j 1)) := by
  pointwise [k0_pay1, k0_pay2, k0_pay3, k0_pay4, k0_pay5, k0_pay6, k0_pay7]

/-- A sum of one term. -/
theorem one_sum (f : Fin 1 → EReal) : f 0 = ∑ x, f x := (Fin.sum_univ_one f).symm

/-- The gradient by the gain is the reference's. -/
theorem final1 (c : Dev nD) : (dats m 0 c).arrAt 4 (cfgs 0).N = REF1 (m ((c : Thread nD τ).loc main_arg0)) (m ((c : Thread nD τ).loc main_arg2)) := by
  refine (dats m 0 c).arrAt_eq_of_covers 4 _ (by decide +kernel) fun t hf y => ?_
  blk_simp
  rw [after0_4, Pipeline.eq_sum_fin_of_reset_step_apply_of_flush (fun n h => (outsAt0 m c n h).2) 4 (fun _ => 0) _
    (fun t h j => by rw [outsAt0_A m c t h]; frame_out; rw [hpay, hzero])
    (fun t h j => by rw [outsAt0_B m c t h]; frame_out; rw [hpay])
    t ((flush0_4 t).mp hf) _, zero_add]
  pointwise [REF1]
  refine Eq.trans ?_ (one_sum _)
  refine Fin.sum_mul_add_congr fun s k hl => ?_
  blk_point [iblk, V, idx t, idx ⟨_, Pipeline.run_point_lt_of_flush t ((flush0_4 t).mp hf) s⟩]

end Cert.Kernel44Ideal.Value

end
-- ==== Proof.Calls.MixNormDx.lean ====
/- The gradient of the norm before the mixer. -/
module

public import proofs.«01_k».proof.Proof.Gen.Kernel45Ideal.Value
public import proofs.«01_k».proof.Proof.Gen.Reference45Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel45Ideal.Value

open Cert.Kernel45Ideal Cert.Kernel45Ideal.Gen

variable (m : (ℓ : Loc nD τ sig) → Buf (Elt Ideal) ℓ)

/-- What the reference computes, over its arguments. -/
abbrev REF0 (a0 : FVec Ideal Cert.Reference45Ideal.S2048x1024 .f32) (a1 : FVec Ideal Cert.Reference45Ideal.S1024 .f32) (a2 : FVec Ideal Cert.Reference45Ideal.S2048x1024 .f32) (a3 : FVec Ideal Cert.Reference45Ideal.S2048x1024 .f32) (a4 : FVec Ideal Cert.Reference45Ideal.S2048x1024 .f32) (a5 : FVec Ideal Cert.Reference45Ideal.S2048x1024 .f32) : FVec Ideal Cert.Reference45Ideal.S2048x1024 .f32 :=
  addf a2 (addf (addf (mulf (mulf (addf (addf a3 a4) a5) (broadcastInDim Cert.Reference45Ideal.S2048x1024 ![0, 1] Cert.Reference45Ideal.Gen.bcast_S1x1024_S2048x1024_0_1 (broadcastInDim Cert.Reference45Ideal.S1x1024 ![1] Cert.Reference45Ideal.Gen.bcast_S1024_S1x1024_1 a1))) (broadcastInDim Cert.Reference45Ideal.S2048x1024 ![0, 1] Cert.Reference45Ideal.Gen.bcast_S2048x1_S2048x1024_0_1 (Host.rsqrt (addf (Host.divf (broadcastInDim Cert.Reference45Ideal.S2048x1 ![0] Cert.Reference45Ideal.Gen.bcast_S2048_S2048x1_0 (Host.reduceAdd (mulf a0 a0) (constant Cert.Reference45Ideal.S_ .f32 0x00000000#32) Cert.Reference45Ideal.Gen.reducesTo_S2048x1024_S2048_d1 Cert.Reference45Ideal.Gen.h_S_)) (broadcastInDim Cert.Reference45Ideal.S2048x1 ![] Cert.Reference45Ideal.Gen.bcast_S_S2048x1 (constant Cert.Reference45Ideal.S_ .f32 0x44800000#32))) (broadcastInDim Cert.Reference45Ideal.S2048x1 ![] Cert.Reference45Ideal.Gen.bcast_S_S2048x1 (constant Cert.Reference45Ideal.S_ .f32 0x358637BD#32)))))) (mulf a0 (broadcastInDim Cert.Reference45Ideal.S2048x1024 ![0] Cert.Reference45Ideal.Gen.bcast_S2048_S2048x1024_0 (Host.reduceAdd (Host.divf (mulf (shapeCast _ (Host.reduceAdd (mulf a0 (mulf (addf (addf a3 a4) a5) (broadcastInDim Cert.Reference45Ideal.S2048x1024 ![0, 1] Cert.Reference45Ideal.Gen.bcast_S1x1024_S2048x1024_0_1 (broadcastInDim Cert.Reference45Ideal.S1x1024 ![1] Cert.Reference45Ideal.Gen.bcast_S1024_S1x1024_1 a1)))) (constant Cert.Reference45Ideal.S_ .f32 0x00000000#32) Cert.Reference45Ideal.Gen.reducesTo_S2048x1024_S2048_d1 Cert.Reference45Ideal.Gen.h_S_) Cert.Reference45Ideal.Gen.shapeCasts_S2048_S2048x1) (mulf (broadcastInDim Cert.Reference45Ideal.S2048x1 ![] Cert.Reference45Ideal.Gen.bcast_S_S2048x1 (constant Cert.Reference45Ideal.S_ .f32 0xBF000000#32)) (Host.divf (Host.rsqrt (addf (Host.divf (broadcastInDim Cert.Reference45Ideal.S2048x1 ![0] Cert.Reference45Ideal.Gen.bcast_S2048_S2048x1_0 (Host.reduceAdd (mulf a0 a0) (constant Cert.Reference45Ideal.S_ .f32 0x00000000#32) Cert.Reference45Ideal.Gen.reducesTo_S2048x1024_S2048_d1 Cert.Reference45Ideal.Gen.h_S_)) (broadcastInDim Cert.Reference45Ideal.S2048x1 ![] Cert.Reference45Ideal.Gen.bcast_S_S2048x1 (constant Cert.Reference45Ideal.S_ .f32 0x44800000#32))) (broadcastInDim Cert.Reference45Ideal.S2048x1 ![] Cert.Reference45Ideal.Gen.bcast_S_S2048x1 (constant Cert.Reference45Ideal.S_ .f32 0x358637BD#32)))) (addf (Host.divf (broadcastInDim Cert.Reference45Ideal.S2048x1 ![0] Cert.Reference45Ideal.Gen.bcast_S2048_S2048x1_0 (Host.reduceAdd (mulf a0 a0) (constant Cert.Reference45Ideal.S_ .f32 0x00000000#32) Cert.Reference45Ideal.Gen.reducesTo_S2048x1024_S2048_d1 Cert.Reference45Ideal.Gen.h_S_)) (broadcastInDim Cert.Reference45Ideal.S2048x1 ![] Cert.Reference45Ideal.Gen.bcast_S_S2048x1 (constant Cert.Reference45Ideal.S_ .f32 0x44800000#32))) (broadcastInDim Cert.Reference45Ideal.S2048x1 ![] Cert.Reference45Ideal.Gen.bcast_S_S2048x1 (constant Cert.Reference45Ideal.S_ .f32 0x358637BD#32)))))) (broadcastInDim Cert.Reference45Ideal.S2048x1 ![] Cert.Reference45Ideal.Gen.bcast_S_S2048x1 (constant Cert.Reference45Ideal.S_ .f32 0x44800000#32))) (constant Cert.Reference45Ideal.S_ .f32 0x00000000#32) Cert.Reference45Ideal.Gen.reducesTo_S2048x1_S2048_d1 Cert.Reference45Ideal.Gen.h_S_)))) (mulf (broadcastInDim Cert.Reference45Ideal.S2048x1024 ![0] Cert.Reference45Ideal.Gen.bcast_S2048_S2048x1024_0 (Host.reduceAdd (Host.divf (mulf (shapeCast _ (Host.reduceAdd (mulf a0 (mulf (addf (addf a3 a4) a5) (broadcastInDim Cert.Reference45Ideal.S2048x1024 ![0, 1] Cert.Reference45Ideal.Gen.bcast_S1x1024_S2048x1024_0_1 (broadcastInDim Cert.Reference45Ideal.S1x1024 ![1] Cert.Reference45Ideal.Gen.bcast_S1024_S1x1024_1 a1)))) (constant Cert.Reference45Ideal.S_ .f32 0x00000000#32) Cert.Reference45Ideal.Gen.reducesTo_S2048x1024_S2048_d1 Cert.Reference45Ideal.Gen.h_S_) Cert.Reference45Ideal.Gen.shapeCasts_S2048_S2048x1) (mulf (broadcastInDim Cert.Reference45Ideal.S2048x1 ![] Cert.Reference45Ideal.Gen.bcast_S_S2048x1 (constant Cert.Reference45Ideal.S_ .f32 0xBF000000#32)) (Host.divf (Host.rsqrt (addf (Host.divf (broadcastInDim Cert.Reference45Ideal.S2048x1 ![0] Cert.Reference45Ideal.Gen.bcast_S2048_S2048x1_0 (Host.reduceAdd (mulf a0 a0) (constant Cert.Reference45Ideal.S_ .f32 0x00000000#32) Cert.Reference45Ideal.Gen.reducesTo_S2048x1024_S2048_d1 Cert.Reference45Ideal.Gen.h_S_)) (broadcastInDim Cert.Reference45Ideal.S2048x1 ![] Cert.Reference45Ideal.Gen.bcast_S_S2048x1 (constant Cert.Reference45Ideal.S_ .f32 0x44800000#32))) (broadcastInDim Cert.Reference45Ideal.S2048x1 ![] Cert.Reference45Ideal.Gen.bcast_S_S2048x1 (constant Cert.Reference45Ideal.S_ .f32 0x358637BD#32)))) (addf (Host.divf (broadcastInDim Cert.Reference45Ideal.S2048x1 ![0] Cert.Reference45Ideal.Gen.bcast_S2048_S2048x1_0 (Host.reduceAdd (mulf a0 a0) (constant Cert.Reference45Ideal.S_ .f32 0x00000000#32) Cert.Reference45Ideal.Gen.reducesTo_S2048x1024_S2048_d1 Cert.Reference45Ideal.Gen.h_S_)) (broadcastInDim Cert.Reference45Ideal.S2048x1 ![] Cert.Reference45Ideal.Gen.bcast_S_S2048x1 (constant Cert.Reference45Ideal.S_ .f32 0x44800000#32))) (broadcastInDim Cert.Reference45Ideal.S2048x1 ![] Cert.Reference45Ideal.Gen.bcast_S_S2048x1 (constant Cert.Reference45Ideal.S_ .f32 0x358637BD#32)))))) (broadcastInDim Cert.Reference45Ideal.S2048x1 ![] Cert.Reference45Ideal.Gen.bcast_S_S2048x1 (constant Cert.Reference45Ideal.S_ .f32 0x44800000#32))) (constant Cert.Reference45Ideal.S_ .f32 0x00000000#32) Cert.Reference45Ideal.Gen.reducesTo_S2048x1_S2048_d1 Cert.Reference45Ideal.Gen.h_S_)) a0))

/-- What the reference computes, over its arguments. -/
abbrev REF1 (a0 : FVec Ideal Cert.Reference45Ideal.S2048x1024 .f32) (a3 : FVec Ideal Cert.Reference45Ideal.S2048x1024 .f32) (a4 : FVec Ideal Cert.Reference45Ideal.S2048x1024 .f32) (a5 : FVec Ideal Cert.Reference45Ideal.S2048x1024 .f32) : FVec Ideal Cert.Reference45Ideal.S1x1024 .f32 :=
  shapeCast _ (Host.reduceAdd (shapeCast _ (Host.reduceAdd (mulf (mulf a0 (broadcastInDim Cert.Reference45Ideal.S2048x1024 ![0, 1] Cert.Reference45Ideal.Gen.bcast_S2048x1_S2048x1024_0_1 (Host.rsqrt (addf (Host.divf (broadcastInDim Cert.Reference45Ideal.S2048x1 ![0] Cert.Reference45Ideal.Gen.bcast_S2048_S2048x1_0 (Host.reduceAdd (mulf a0 a0) (constant Cert.Reference45Ideal.S_ .f32 0x00000000#32) Cert.Reference45Ideal.Gen.reducesTo_S2048x1024_S2048_d1 Cert.Reference45Ideal.Gen.h_S_)) (broadcastInDim Cert.Reference45Ideal.S2048x1 ![] Cert.Reference45Ideal.Gen.bcast_S_S2048x1 (constant Cert.Reference45Ideal.S_ .f32 0x44800000#32))) (broadcastInDim Cert.Reference45Ideal.S2048x1 ![] Cert.Reference45Ideal.Gen.bcast_S_S2048x1 (constant Cert.Reference45Ideal.S_ .f32 0x358637BD#32)))))) (addf (addf a3 a4) a5)) (constant Cert.Reference45Ideal.S_ .f32 0x00000000#32) Cert.Reference45Ideal.Gen.reducesTo_S2048x1024_S1024_d0 Cert.Reference45Ideal.Gen.h_S_) Cert.Reference45Ideal.Gen.shapeCasts_S1024_S1x1024) (constant Cert.Reference45Ideal.S_ .f32 0x00000000#32) Cert.Reference45Ideal.Gen.reducesTo_S1x1024_S1024_d0 Cert.Reference45Ideal.Gen.h_S_) Cert.Reference45Ideal.Gen.shapeCasts_S1024_S1x1024

/-- Every window's block at every grid point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

/-- The gradient by the norm's argument, with what goes past the block, is the reference's. -/
theorem final0 (c : Dev nD) : (dats m 0 c).arrAt 6 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  by_cases h : t.val % 4 = 0
  · rw [outsAt0_A m c t h]; frame_out
    pointwise [k0_pay1, k0_pay2, k0_pay3, k0_pay4, k0_pay5, k0_pay6, k0_pay7, k0_pay8, k0_pay9, k0_pay10, REF0]
    blk_point [iblk, V, idx t]
  · rw [outsAt0_B m c t h]; frame_out
    pointwise [k0_pay1, k0_pay2, k0_pay3, k0_pay4, k0_pay5, k0_pay6, k0_pay7, k0_pay8, k0_pay9, k0_pay10, REF0]
    blk_point [iblk, V, idx t]

/-- The zero fill. -/
theorem hzero (j : S1x1024.Idx) : k0_pay2 (F := Ideal) j = 0 := by pointwise! [k0_pay2]

/-- A point adds its rows' products to what the block held. -/
theorem hpay (v0 v4 v5 v6 : Vec Ideal S512x1024 .f32) (v43 : Vec Ideal S1x1024 .f32) (j : S1x1024.Idx) :
    k0_pay3 (k0_pay7 v0 v4 v5 v6) v43 j = v43 j + ∑ k : Fin 512, v0 (ix2 k (j 1)) * Ideal.rsqrt (Ideal.div (∑ x : Fin 1024, v0 (ix2 k x) * v0 (ix2 k x)) (Ideal.ofBits .f32 1149239296#32) + Ideal.ofBits .f32 897988541#32) * (v4 (ix2 k (j 1)) + v5 (ix2 k (j 1)) + v6 (ix2 k (j 1))) := by
  pointwise [k0_pay1, k0_pay2, k0_pay3, k0_pay4, k0_pay5, k0_pay6, k0_pay7, k0_pay8, k0_pay9, k0_pay10]

/-- A sum of one term. -/
theorem one_sum (f : Fin 1 → EReal) : f 0 = ∑ x, f x := (Fin.sum_univ_one f).symm

/-- The gradient by the gain is the reference's. -/
theorem final1 (c : Dev nD) : (dats m 0 c).arrAt 7 (cfgs 0).N = REF1 (m ((c : Thread nD τ).loc main_arg0)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, Pipeline.eq_sum_fin_of_reset_step_apply_of_flush (fun n h => (outsAt0 m c n h).2) 4 (fun _ => 0) _
    (fun t h j => by rw [outsAt0_A m c t h]; frame_out; rw [hpay, hzero])
    (fun t h j => by rw [outsAt0_B m c t h]; frame_out; rw [hpay])
    t ((flush0_7 t).mp hf) _, zero_add]
  pointwise [REF1]
  refine Eq.trans ?_ (one_sum _)
  refine Fin.sum_mul_add_congr fun s k hl => ?_
  blk_point [iblk, V, idx t, idx ⟨_, Pipeline.run_point_lt_of_flush t ((flush0_7 t).mp hf) s⟩]

end Cert.Kernel45Ideal.Value

end
-- ==== Proof.Calls.StepDx.lean ====
/- The gradient at the input of the product that gives the step sizes. -/
module

public import proofs.«01_k».proof.Proof.Gen.Kernel46Ideal.Value
public import proofs.«01_k».proof.Proof.Gen.Reference46Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel46Ideal.Value

open Cert.Kernel46Ideal Cert.Kernel46Ideal.Gen

variable (m : (ℓ : Loc nD τ sig) → Buf (Elt Ideal) ℓ)

/-- What the reference computes, over its arguments. -/
abbrev REF0 (a0 : FVec Ideal Cert.Reference46Ideal.S2048x32 .f32) (a1 : FVec Ideal Cert.Reference46Ideal.S1024x32 .f32) : FVec Ideal Cert.Reference46Ideal.S2048x1024 .f32 :=
  Host.dotGeneral Cert.Reference46Ideal.dot_S2048x32_S1024x32_S2048x1024_1_1_0_0_n_n none a0 a1

/-- Every window's block at every grid point. -/
theorem idx : ∀ t : Fin cfg0.N, win0_0.index t = ![0, 0]
    ∧ win0_1.index t = ![t.val, 0]
    ∧ win0_2.index t = ![0, t.val] :=
  (by decide +kernel : ∀ t : Fin grid0.N, _)

/-- The array the call leaves is the reference's. -/
theorem final (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, REF0]
  blk_point [iblk, V, idx t]

end Cert.Kernel46Ideal.Value

end
-- ==== Proof.Calls.StepDw.lean ====
/- The gradient of the weight that gives the step sizes. -/
module

public import proofs.«01_k».proof.Proof.Gen.Kernel47Ideal.Value
public import proofs.«01_k».proof.Proof.Gen.Reference47Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel47Ideal.Value

open Cert.Kernel47Ideal Cert.Kernel47Ideal.Gen

variable (m : (ℓ : Loc nD τ sig) → Buf (Elt Ideal) ℓ)

/-- What the reference computes, over its arguments. -/
abbrev REF0 (a0 : FVec Ideal Cert.Reference47Ideal.S2048x1024 .f32) (a1 : FVec Ideal Cert.Reference47Ideal.S2048x32 .f32) : FVec Ideal Cert.Reference47Ideal.S1024x32 .bf16 :=
  truncf .bf16 (transpose Cert.Reference47Ideal.S1024x32 [1, 0] (Host.dotGeneral Cert.Reference47Ideal.dot_S2048x32_S2048x1024_S32x1024_0_0_1_1_n_n none a1 a0) Cert.Reference47Ideal.Gen.transposes_S32x1024_S1024x32_1_0) Cert.Reference47Ideal.Gen.bitsLt_bf16_f32

/-- Every window's block at every grid point. -/
theorem idx : ∀ t : Fin cfg0.N, win0_0.index t = ![0, 0]
    ∧ win0_1.index t = ![0, 0]
    ∧ win0_2.index t = ![0, 0] :=
  (by decide +kernel : ∀ t : Fin grid0.N, _)

/-- The array the call leaves is the reference's. -/
theorem final (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, k0_pay3, REF0]
  refine Fin.sum_fin_congr fun k => (mul_comm (_ : EReal) _).trans ?_
  blk_point [iblk, V, idx t]

end Cert.Kernel47Ideal.Value

end
-- ==== Proof.Calls.Step.lean ====
/- The product that gives the step sizes. -/
module

public import proofs.«01_k».proof.Proof.Gen.Kernel48Ideal.Value
public import proofs.«01_k».proof.Proof.Gen.Reference48Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel48Ideal.Value

open Cert.Kernel48Ideal Cert.Kernel48Ideal.Gen

variable (m : (ℓ : Loc nD τ sig) → Buf (Elt Ideal) ℓ)

/-- What the reference computes, over its arguments. -/
abbrev REF0 (a0 : FVec Ideal Cert.Reference48Ideal.S2048x1024 .f32) (a1 : FVec Ideal Cert.Reference48Ideal.S1024x32 .f32) : FVec Ideal Cert.Reference48Ideal.S2048x32 .f32 :=
  Host.dotGeneral Cert.Reference48Ideal.dot_S2048x1024_S1024x32_S2048x32_1_0_0_1_n_n none a0 a1

/-- Every window's block at every grid point. -/
theorem idx : ∀ t : Fin cfg0.N, win0_0.index t = ![0, 0]
    ∧ win0_1.index t = ![0, 0]
    ∧ win0_2.index t = ![0, 0] :=
  (by decide +kernel : ∀ t : Fin grid0.N, _)

/-- The array the call leaves is the reference's. -/
theorem final (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, k0_pay2, REF0]
  blk_point [iblk, V, idx t]

end Cert.Kernel48Ideal.Value

end
-- ==== Proof.lean ====
/- The claims of the statement: every program runs to its end, every ideal program is its program, and every call leaves its
   reference's arrays. -/
module

public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Kernel20Ideal.Value
public import proofs.«01_k».proof.Proof.Gen.Kernel21Ideal.Value
public import proofs.«01_k».proof.Proof.Gen.Kernel22Ideal.Value
public import proofs.«01_k».proof.Proof.Gen.Kernel23Ideal.Value
public import proofs.«01_k».proof.Proof.Gen.Kernel24Ideal.Value
public import proofs.«01_k».proof.Proof.Gen.Kernel25Ideal.Value
public import proofs.«01_k».proof.Proof.Gen.Kernel26Ideal.Value
public import proofs.«01_k».proof.Proof.Gen.Kernel27Ideal.Value
public import proofs.«01_k».proof.Proof.Gen.Kernel28Ideal.Value
public import proofs.«01_k».proof.Proof.Gen.Kernel29Ideal.Value
public import proofs.«01_k».proof.Proof.Gen.Kernel2Ideal.Value
public import proofs.«01_k».proof.Proof.Gen.Kernel30Ideal.Value
public import proofs.«01_k».proof.Proof.Gen.Kernel31Ideal.Value
public import proofs.«01_k».proof.Proof.Gen.Kernel32Ideal.Value
public import proofs.«01_k».proof.Proof.Gen.Kernel33Ideal.Value
public import proofs.«01_k».proof.Proof.Gen.Kernel34Ideal.Value
public import proofs.«01_k».proof.Proof.Gen.Kernel35Ideal.Value
public import proofs.«01_k».proof.Proof.Gen.Kernel36Ideal.Value
public import proofs.«01_k».proof.Proof.Gen.Kernel37Ideal.Value
public import proofs.«01_k».proof.Proof.Gen.Kernel38Ideal.Value
public import proofs.«01_k».proof.Proof.Gen.Kernel39Ideal.Value
public import proofs.«01_k».proof.Proof.Gen.Kernel3Ideal.Value
public import proofs.«01_k».proof.Proof.Gen.Kernel40Ideal.Value
public import proofs.«01_k».proof.Proof.Gen.Kernel41Ideal.Value
public import proofs.«01_k».proof.Proof.Gen.Kernel42Ideal.Value
public import proofs.«01_k».proof.Proof.Gen.Kernel43Ideal.Value
public import proofs.«01_k».proof.Proof.Gen.Kernel44Ideal.Value
public import proofs.«01_k».proof.Proof.Gen.Kernel45Ideal.Value
public import proofs.«01_k».proof.Proof.Gen.Kernel46Ideal.Value
public import proofs.«01_k».proof.Proof.Gen.Kernel47Ideal.Value
public import proofs.«01_k».proof.Proof.Gen.Kernel48Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Gen.Reference29Ideal.Run
public import proofs.«01_k».proof.Proof.Gen.Reference2Ideal.Run
public import proofs.«01_k».proof.Proof.Gen.Reference30Ideal.Run
public import proofs.«01_k».proof.Proof.Gen.Reference31Ideal.Run
public import proofs.«01_k».proof.Proof.Gen.Reference32Ideal.Run
public import proofs.«01_k».proof.Proof.Gen.Reference33Ideal.Run
public import proofs.«01_k».proof.Proof.Gen.Reference34Ideal.Run
public import proofs.«01_k».proof.Proof.Gen.Reference35Ideal.Run
public import proofs.«01_k».proof.Proof.Gen.Reference36Ideal.Run
public import proofs.«01_k».proof.Proof.Gen.Reference37Ideal.Run
public import proofs.«01_k».proof.Proof.Gen.Reference38Ideal.Run
public import proofs.«01_k».proof.Proof.Gen.Reference39Ideal.Run
public import proofs.«01_k».proof.Proof.Gen.Reference3Ideal.Run
public import proofs.«01_k».proof.Proof.Gen.Reference40Ideal.Run
public import proofs.«01_k».proof.Proof.Gen.Reference41Ideal.Run
public import proofs.«01_k».proof.Proof.Gen.Reference42Ideal.Run
public import proofs.«01_k».proof.Proof.Gen.Reference43Ideal.Run
public import proofs.«01_k».proof.Proof.Gen.Reference44Ideal.Run
public import proofs.«01_k».proof.Proof.Gen.Reference45Ideal.Run
public import proofs.«01_k».proof.Proof.Gen.Reference46Ideal.Run
public import proofs.«01_k».proof.Proof.Gen.Reference47Ideal.Run
public import proofs.«01_k».proof.Proof.Gen.Reference48Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Reference35Ideal
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Reference37Ideal
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Reference38Ideal
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Reference39Ideal
public import proofs.«01_k».proof.Proof.Gen.Kernel40
public import proofs.«01_k».proof.Proof.Gen.Kernel40.Skeleton
public import proofs.«01_k».proof.Proof.Gen.Kernel40.Launch
public import proofs.«01_k».proof.Proof.Gen.Kernel40.Points
public import proofs.«01_k».proof.Proof.Gen.Kernel40.Frame
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Reference40Ideal
public import proofs.«01_k».proof.Proof.Gen.Kernel41
public import proofs.«01_k».proof.Proof.Gen.Kernel41.Skeleton
public import proofs.«01_k».proof.Proof.Gen.Kernel41.Launch
public import proofs.«01_k».proof.Proof.Gen.Kernel41.Points
public import proofs.«01_k».proof.Proof.Gen.Kernel41.Frame
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Reference41Ideal
public import proofs.«01_k».proof.Proof.Gen.Kernel42
public import proofs.«01_k».proof.Proof.Gen.Kernel42.Skeleton
public import proofs.«01_k».proof.Proof.Gen.Kernel42.Launch
public import proofs.«01_k».proof.Proof.Gen.Kernel42.Points
public import proofs.«01_k».proof.Proof.Gen.Kernel42.Frame
public import proofs.«01_k».proof.Proof.Gen.Kernel42Ideal
public import proofs.«01_k».proof.Proof.Gen.Kernel42Ideal.Skeleton
public import proofs.«01_k».proof.Proof.Gen.Kernel42Ideal.Launch
public import proofs.«01_k».proof.Proof.Gen.Kernel42Ideal.Points
public import proofs.«01_k».proof.Proof.Gen.Kernel42Ideal.Frame
public import proofs.«01_k».proof.Proof.Gen.Reference42Ideal
public import proofs.«01_k».proof.Proof.Gen.Kernel43
public import proofs.«01_k».proof.Proof.Gen.Kernel43.Skeleton
public import proofs.«01_k».proof.Proof.Gen.Kernel43.Launch
public import proofs.«01_k».proof.Proof.Gen.Kernel43.Points
public import proofs.«01_k».proof.Proof.Gen.Kernel43.Frame
public import proofs.«01_k».proof.Proof.Gen.Kernel43Ideal
public import proofs.«01_k».proof.Proof.Gen.Kernel43Ideal.Skeleton
public import proofs.«01_k».proof.Proof.Gen.Kernel43Ideal.Launch
public import proofs.«01_k».proof.Proof.Gen.Kernel43Ideal.Points
public import proofs.«01_k».proof.Proof.Gen.Kernel43Ideal.Frame
public import proofs.«01_k».proof.Proof.Gen.Reference43Ideal
public import proofs.«01_k».proof.Proof.Gen.Kernel44
public import proofs.«01_k».proof.Proof.Gen.Kernel44.Skeleton
public import proofs.«01_k».proof.Proof.Gen.Kernel44.Launch
public import proofs.«01_k».proof.Proof.Gen.Kernel44.Points
public import proofs.«01_k».proof.Proof.Gen.Kernel44.Frame
public import proofs.«01_k».proof.Proof.Gen.Kernel44Ideal
public import proofs.«01_k».proof.Proof.Gen.Kernel44Ideal.Skeleton
public import proofs.«01_k».proof.Proof.Gen.Kernel44Ideal.Launch
public import proofs.«01_k».proof.Proof.Gen.Kernel44Ideal.Points
public import proofs.«01_k».proof.Proof.Gen.Kernel44Ideal.Frame
public import proofs.«01_k».proof.Proof.Gen.Reference44Ideal
public import proofs.«01_k».proof.Proof.Gen.Kernel45
public import proofs.«01_k».proof.Proof.Gen.Kernel45.Skeleton
public import proofs.«01_k».proof.Proof.Gen.Kernel45.Launch
public import proofs.«01_k».proof.Proof.Gen.Kernel45.Points
public import proofs.«01_k».proof.Proof.Gen.Kernel45.Frame
public import proofs.«01_k».proof.Proof.Gen.Kernel45Ideal
public import proofs.«01_k».proof.Proof.Gen.Kernel45Ideal.Skeleton
public import proofs.«01_k».proof.Proof.Gen.Kernel45Ideal.Launch
public import proofs.«01_k».proof.Proof.Gen.Kernel45Ideal.Points
public import proofs.«01_k».proof.Proof.Gen.Kernel45Ideal.Frame
public import proofs.«01_k».proof.Proof.Gen.Reference45Ideal
public import proofs.«01_k».proof.Proof.Gen.Kernel46
public import proofs.«01_k».proof.Proof.Gen.Kernel46.Skeleton
public import proofs.«01_k».proof.Proof.Gen.Kernel46.Launch
public import proofs.«01_k».proof.Proof.Gen.Kernel46.Points
public import proofs.«01_k».proof.Proof.Gen.Kernel46.Frame
public import proofs.«01_k».proof.Proof.Gen.Kernel46Ideal
public import proofs.«01_k».proof.Proof.Gen.Kernel46Ideal.Skeleton
public import proofs.«01_k».proof.Proof.Gen.Kernel46Ideal.Launch
public import proofs.«01_k».proof.Proof.Gen.Kernel46Ideal.Points
public import proofs.«01_k».proof.Proof.Gen.Kernel46Ideal.Frame
public import proofs.«01_k».proof.Proof.Gen.Reference46Ideal
public import proofs.«01_k».proof.Proof.Gen.Kernel47
public import proofs.«01_k».proof.Proof.Gen.Kernel47.Skeleton
public import proofs.«01_k».proof.Proof.Gen.Kernel47.Launch
public import proofs.«01_k».proof.Proof.Gen.Kernel47.Points
public import proofs.«01_k».proof.Proof.Gen.Kernel47.Frame
public import proofs.«01_k».proof.Proof.Gen.Kernel47Ideal
public import proofs.«01_k».proof.Proof.Gen.Kernel47Ideal.Skeleton
public import proofs.«01_k».proof.Proof.Gen.Kernel47Ideal.Launch
public import proofs.«01_k».proof.Proof.Gen.Kernel47Ideal.Points
public import proofs.«01_k».proof.Proof.Gen.Kernel47Ideal.Frame
public import proofs.«01_k».proof.Proof.Gen.Reference47Ideal
public import proofs.«01_k».proof.Proof.Gen.Kernel48
public import proofs.«01_k».proof.Proof.Gen.Kernel48.Skeleton
public import proofs.«01_k».proof.Proof.Gen.Kernel48.Launch
public import proofs.«01_k».proof.Proof.Gen.Kernel48.Points
public import proofs.«01_k».proof.Proof.Gen.Kernel48.Frame
public import proofs.«01_k».proof.Proof.Gen.Kernel48Ideal
public import proofs.«01_k».proof.Proof.Gen.Kernel48Ideal.Skeleton
public import proofs.«01_k».proof.Proof.Gen.Kernel48Ideal.Launch
public import proofs.«01_k».proof.Proof.Gen.Kernel48Ideal.Points
public import proofs.«01_k».proof.Proof.Gen.Kernel48Ideal.Frame
public import proofs.«01_k».proof.Proof.Gen.Reference48Ideal
public import proofs.«01_k».proof.Proof.Calls.FfnDownDw
public import proofs.«01_k».proof.Proof.Calls.FfnUpDw
public import proofs.«01_k».proof.Proof.Calls.FfnUpDx
public import proofs.«01_k».proof.Proof.Calls.FfnDownDx
public import proofs.«01_k».proof.Proof.Calls.FfnUp
public import proofs.«01_k».proof.Proof.Calls.FfnDown
public import proofs.«01_k».proof.Proof.Calls.InDx
public import proofs.«01_k».proof.Proof.Calls.InDw
public import proofs.«01_k».proof.Proof.Calls.In
public import proofs.«01_k».proof.Proof.Calls.OutDx
public import proofs.«01_k».proof.Proof.Calls.OutDw
public import proofs.«01_k».proof.Proof.Calls.Out
public import proofs.«01_k».proof.Proof.Calls.BranchDx
public import proofs.«01_k».proof.Proof.Calls.BranchDw
public import proofs.«01_k».proof.Proof.Calls.Branch
public import proofs.«01_k».proof.Proof.Calls.GluDx
public import proofs.«01_k».proof.Proof.Calls.GluDw
public import proofs.«01_k».proof.Proof.Calls.Glu
public import proofs.«01_k».proof.Proof.Calls.MergeDx
public import proofs.«01_k».proof.Proof.Calls.Merge
public import proofs.«01_k».proof.Proof.Calls.GateDx
public import proofs.«01_k».proof.Proof.Calls.Gate
public import proofs.«01_k».proof.Proof.Calls.AdamGains
public import proofs.«01_k».proof.Proof.Calls.AdamConvB
public import proofs.«01_k».proof.Proof.Calls.AdamNorm
public import proofs.«01_k».proof.Proof.Calls.AdamHeads
public import proofs.«01_k».proof.Proof.Calls.AdamStep
public import proofs.«01_k».proof.Proof.Calls.AdamConvW
public import proofs.«01_k».proof.Proof.Calls.AdamPoles
public import proofs.«01_k».proof.Proof.Calls.AdamS5B
public import proofs.«01_k».proof.Proof.Calls.AdamS5C
public import proofs.«01_k».proof.Proof.Calls.AdamFfn
public import proofs.«01_k».proof.Proof.Calls.AdamIn
public import proofs.«01_k».proof.Proof.Calls.AdamBranch
public import proofs.«01_k».proof.Proof.Calls.AdamGlu
public import proofs.«01_k».proof.Proof.Calls.AdamOut
public import proofs.«01_k».proof.Proof.Calls.NormDx
public import proofs.«01_k».proof.Proof.Calls.Loss
public import proofs.«01_k».proof.Proof.Calls.Norm
public import proofs.«01_k».proof.Proof.Calls.Resid
public import proofs.«01_k».proof.Proof.Calls.ResidDx
public import proofs.«01_k».proof.Proof.Calls.MixResid
public import proofs.«01_k».proof.Proof.Calls.MixResidDx
public import proofs.«01_k».proof.Proof.Calls.MixNormDx
public import proofs.«01_k».proof.Proof.Calls.StepDx
public import proofs.«01_k».proof.Proof.Calls.StepDw
public import proofs.«01_k».proof.Proof.Calls.Step
public import Idealize.ShloMosaic.Lib.Claim
public import Idealize.ShloMosaic.Lib.Quiescent
public import Idealize.ShloMosaic.Adequacy
public import Idealize.ShloMosaic.Init

@[expose] public section

set_option maxRecDepth 16384

noncomputable section

-- The claims about the programs also say that every semaphore counter ends at zero.

namespace Cert.Proof

open Idealize.ShloMosaic Idealize.SL.Sem

/-- The reference of call 2 runs to its end. -/
theorem frameReference2 : Cert.quiescent_Reference2Ideal := fun m g _ =>
  θ_run_mono (Cert.Reference2Ideal.Value.run m g) fun r hr =>
    ⟨fun c => (hr c).2, sem_eq_zero_of_no_sems rfl r.2⟩

/-- The reference of call 3 runs to its end. -/
theorem frameReference3 : Cert.quiescent_Reference3Ideal := fun m g _ =>
  θ_run_mono (Cert.Reference3Ideal.Value.run m g) fun r hr =>
    ⟨fun c => (hr c).2.2, sem_eq_zero_of_no_sems rfl r.2⟩

/-- The reference of call 4 runs to its end. -/
theorem frameReference4 : Cert.quiescent_Reference4Ideal := fun m g _ =>
  θ_run_mono (Cert.Reference4Ideal.Value.run m g) fun r hr =>
    ⟨fun c => (hr c).2, sem_eq_zero_of_no_sems rfl r.2⟩

/-- The reference of call 5 runs to its end. -/
theorem frameReference5 : Cert.quiescent_Reference5Ideal := fun m g _ =>
  θ_run_mono (Cert.Reference5Ideal.Value.run m g) fun r hr =>
    ⟨fun c => (hr c).2, sem_eq_zero_of_no_sems rfl r.2⟩

/-- The reference of call 6 runs to its end. -/
theorem frameReference6 : Cert.quiescent_Reference6Ideal := fun m g _ =>
  θ_run_mono (Cert.Reference6Ideal.Value.run m g) fun r hr =>
    ⟨fun c => (hr c).2.2, sem_eq_zero_of_no_sems rfl r.2⟩

/-- The reference of call 7 runs to its end. -/
theorem frameReference7 : Cert.quiescent_Reference7Ideal := fun m g _ =>
  θ_run_mono (Cert.Reference7Ideal.Value.run m g) fun r hr =>
    ⟨fun c => (hr c).2, sem_eq_zero_of_no_sems rfl r.2⟩

/-- The reference of call 8 runs to its end. -/
theorem frameReference8 : Cert.quiescent_Reference8Ideal := fun m g _ =>
  θ_run_mono (Cert.Reference8Ideal.Value.run m g) fun r hr =>
    ⟨fun c => (hr c).2, sem_eq_zero_of_no_sems rfl r.2⟩

/-- The reference of call 9 runs to its end. -/
theorem frameReference9 : Cert.quiescent_Reference9Ideal := fun m g _ =>
  θ_run_mono (Cert.Reference9Ideal.Value.run m g) fun r hr =>
    ⟨fun c => (hr c).2, sem_eq_zero_of_no_sems rfl r.2⟩

/-- The reference of call 10 runs to its end. -/
theorem frameReference10 : Cert.quiescent_Reference10Ideal := fun m g _ =>
  θ_run_mono (Cert.Reference10Ideal.Value.run m g) fun r hr =>
    ⟨fun c => (hr c).2, sem_eq_zero_of_no_sems rfl r.2⟩

/-- The reference of call 11 runs to its end. -/
theorem frameReference11 : Cert.quiescent_Reference11Ideal := fun m g _ =>
  θ_run_mono (Cert.Reference11Ideal.Value.run m g) fun r hr =>
    ⟨fun c => (hr c).2, sem_eq_zero_of_no_sems rfl r.2⟩

/-- The reference of call 12 runs to its end. -/
theorem frameReference12 : Cert.quiescent_Reference12Ideal := fun m g _ =>
  θ_run_mono (Cert.Reference12Ideal.Value.run m g) fun r hr =>
    ⟨fun c => (hr c).2, sem_eq_zero_of_no_sems rfl r.2⟩

/-- The reference of call 13 runs to its end. -/
theorem frameReference13 : Cert.quiescent_Reference13Ideal := fun m g _ =>
  θ_run_mono (Cert.Reference13Ideal.Value.run m g) fun r hr =>
    ⟨fun c => (hr c).2, sem_eq_zero_of_no_sems rfl r.2⟩

/-- The reference of call 14 runs to its end. -/
theorem frameReference14 : Cert.quiescent_Reference14Ideal := fun m g _ =>
  θ_run_mono (Cert.Reference14Ideal.Value.run m g) fun r hr =>
    ⟨fun c => (hr c).2, sem_eq_zero_of_no_sems rfl r.2⟩

/-- The reference of call 15 runs to its end. -/
theorem frameReference15 : Cert.quiescent_Reference15Ideal := fun m g _ =>
  θ_run_mono (Cert.Reference15Ideal.Value.run m g) fun r hr =>
    ⟨fun c => (hr c).2, sem_eq_zero_of_no_sems rfl r.2⟩

/-- The reference of call 16 runs to its end. -/
theorem frameReference16 : Cert.quiescent_Reference16Ideal := fun m g _ =>
  θ_run_mono (Cert.Reference16Ideal.Value.run m g) fun r hr =>
    ⟨fun c => (hr c).2, sem_eq_zero_of_no_sems rfl r.2⟩

/-- The reference of call 17 runs to its end. -/
theorem frameReference17 : Cert.quiescent_Reference17Ideal := fun m g _ =>
  θ_run_mono (Cert.Reference17Ideal.Value.run m g) fun r hr =>
    ⟨fun c => (hr c).2, sem_eq_zero_of_no_sems rfl r.2⟩

/-- The reference of call 18 runs to its end. -/
theorem frameReference18 : Cert.quiescent_Reference18Ideal := fun m g _ =>
  θ_run_mono (Cert.Reference18Ideal.Value.run m g) fun r hr =>
    ⟨fun c => (hr c).2, sem_eq_zero_of_no_sems rfl r.2⟩

/-- The reference of call 19 runs to its end. -/
theorem frameReference19 : Cert.quiescent_Reference19Ideal := fun m g _ =>
  θ_run_mono (Cert.Reference19Ideal.Value.run m g) fun r hr =>
    ⟨fun c => (hr c).2, sem_eq_zero_of_no_sems rfl r.2⟩

/-- The reference of call 20 runs to its end. -/
theorem frameReference20 : Cert.quiescent_Reference20Ideal := fun m g _ =>
  θ_run_mono (Cert.Reference20Ideal.Value.run m g) fun r hr =>
    ⟨fun c => (hr c).2.2.2, sem_eq_zero_of_no_sems rfl r.2⟩

/-- The reference of call 21 runs to its end. -/
theorem frameReference21 : Cert.quiescent_Reference21Ideal := fun m g _ =>
  θ_run_mono (Cert.Reference21Ideal.Value.run m g) fun r hr =>
    ⟨fun c => (hr c).2, sem_eq_zero_of_no_sems rfl r.2⟩

/-- The reference of call 22 runs to its end. -/
theorem frameReference22 : Cert.quiescent_Reference22Ideal := fun m g _ =>
  θ_run_mono (Cert.Reference22Ideal.Value.run m g) fun r hr =>
    ⟨fun c => (hr c).2, sem_eq_zero_of_no_sems rfl r.2⟩

/-- The reference of call 23 runs to its end. -/
theorem frameReference23 : Cert.quiescent_Reference23Ideal := fun m g _ =>
  θ_run_mono (Cert.Reference23Ideal.Value.run m g) fun r hr =>
    ⟨fun c => (hr c).2, sem_eq_zero_of_no_sems rfl r.2⟩

/-- The reference of call 24 runs to its end. -/
theorem frameReference24 : Cert.quiescent_Reference24Ideal := fun m g _ =>
  θ_run_mono (Cert.Reference24Ideal.Value.run m g) fun r hr =>
    ⟨fun c => (hr c).2.2.2.2, sem_eq_zero_of_no_sems rfl r.2⟩

/-- The reference of call 25 runs to its end. -/
theorem frameReference25 : Cert.quiescent_Reference25Ideal := fun m g _ =>
  θ_run_mono (Cert.Reference25Ideal.Value.run m g) fun r hr =>
    ⟨fun c => (hr c).2.2.2.2, sem_eq_zero_of_no_sems rfl r.2⟩

/-- The reference of call 26 runs to its end. -/
theorem frameReference26 : Cert.quiescent_Reference26Ideal := fun m g _ =>
  θ_run_mono (Cert.Reference26Ideal.Value.run m g) fun r hr =>
    ⟨fun c => (hr c).2.2.2.2, sem_eq_zero_of_no_sems rfl r.2⟩

/-- The reference of call 27 runs to its end. -/
theorem frameReference27 : Cert.quiescent_Reference27Ideal := fun m g _ =>
  θ_run_mono (Cert.Reference27Ideal.Value.run m g) fun r hr =>
    ⟨fun c => (hr c).2.2.2.2, sem_eq_zero_of_no_sems rfl r.2⟩

/-- The reference of call 28 runs to its end. -/
theorem frameReference28 : Cert.quiescent_Reference28Ideal := fun m g _ =>
  θ_run_mono (Cert.Reference28Ideal.Value.run m g) fun r hr =>
    ⟨fun c => (hr c).2.2.2.2, sem_eq_zero_of_no_sems rfl r.2⟩

/-- The reference of call 29 runs to its end. -/
theorem frameReference29 : Cert.quiescent_Reference29Ideal := fun m g _ =>
  θ_run_mono (Cert.Reference29Ideal.Value.run m g) fun r hr =>
    ⟨fun c => (hr c).2.2.2.2, sem_eq_zero_of_no_sems rfl r.2⟩

/-- The reference of call 30 runs to its end. -/
theorem frameReference30 : Cert.quiescent_Reference30Ideal := fun m g _ =>
  θ_run_mono (Cert.Reference30Ideal.Value.run m g) fun r hr =>
    ⟨fun c => (hr c).2.2.2.2, sem_eq_zero_of_no_sems rfl r.2⟩

/-- The reference of call 31 runs to its end. -/
theorem frameReference31 : Cert.quiescent_Reference31Ideal := fun m g _ =>
  θ_run_mono (Cert.Reference31Ideal.Value.run m g) fun r hr =>
    ⟨fun c => (hr c).2.2.2.2, sem_eq_zero_of_no_sems rfl r.2⟩

/-- The reference of call 32 runs to its end. -/
theorem frameReference32 : Cert.quiescent_Reference32Ideal := fun m g _ =>
  θ_run_mono (Cert.Reference32Ideal.Value.run m g) fun r hr =>
    ⟨fun c => (hr c).2.2.2.2, sem_eq_zero_of_no_sems rfl r.2⟩

/-- The reference of call 33 runs to its end. -/
theorem frameReference33 : Cert.quiescent_Reference33Ideal := fun m g _ =>
  θ_run_mono (Cert.Reference33Ideal.Value.run m g) fun r hr =>
    ⟨fun c => (hr c).2.2.2.2, sem_eq_zero_of_no_sems rfl r.2⟩

/-- The reference of call 34 runs to its end. -/
theorem frameReference34 : Cert.quiescent_Reference34Ideal := fun m g _ =>
  θ_run_mono (Cert.Reference34Ideal.Value.run m g) fun r hr =>
    ⟨fun c => (hr c).2.2.2.2, sem_eq_zero_of_no_sems rfl r.2⟩

/-- The reference of call 35 runs to its end. -/
theorem frameReference35 : Cert.quiescent_Reference35Ideal := fun m g _ =>
  θ_run_mono (Cert.Reference35Ideal.Value.run m g) fun r hr =>
    ⟨fun c => (hr c).2.2.2.2, sem_eq_zero_of_no_sems rfl r.2⟩

/-- The reference of call 36 runs to its end. -/
theorem frameReference36 : Cert.quiescent_Reference36Ideal := fun m g _ =>
  θ_run_mono (Cert.Reference36Ideal.Value.run m g) fun r hr =>
    ⟨fun c => (hr c).2.2.2.2, sem_eq_zero_of_no_sems rfl r.2⟩

/-- The reference of call 37 runs to its end. -/
theorem frameReference37 : Cert.quiescent_Reference37Ideal := fun m g _ =>
  θ_run_mono (Cert.Reference37Ideal.Value.run m g) fun r hr =>
    ⟨fun c => (hr c).2.2.2.2, sem_eq_zero_of_no_sems rfl r.2⟩

/-- The reference of call 38 runs to its end. -/
theorem frameReference38 : Cert.quiescent_Reference38Ideal := fun m g _ =>
  θ_run_mono (Cert.Reference38Ideal.Value.run m g) fun r hr =>
    ⟨fun c => (hr c).2.2, sem_eq_zero_of_no_sems rfl r.2⟩

/-- The reference of call 39 runs to its end. -/
theorem frameReference39 : Cert.quiescent_Reference39Ideal := fun m g _ =>
  θ_run_mono (Cert.Reference39Ideal.Value.run m g) fun r hr =>
    ⟨fun c => (hr c).2.2, sem_eq_zero_of_no_sems rfl r.2⟩

/-- The reference of call 40 runs to its end. -/
theorem frameReference40 : Cert.quiescent_Reference40Ideal := fun m g _ =>
  θ_run_mono (Cert.Reference40Ideal.Value.run m g) fun r hr =>
    ⟨fun c => (hr c).2, sem_eq_zero_of_no_sems rfl r.2⟩

/-- The reference of call 41 runs to its end. -/
theorem frameReference41 : Cert.quiescent_Reference41Ideal := fun m g _ =>
  θ_run_mono (Cert.Reference41Ideal.Value.run m g) fun r hr =>
    ⟨fun c => (hr c).2, sem_eq_zero_of_no_sems rfl r.2⟩

/-- The reference of call 42 runs to its end. -/
theorem frameReference42 : Cert.quiescent_Reference42Ideal := fun m g _ =>
  θ_run_mono (Cert.Reference42Ideal.Value.run m g) fun r hr =>
    ⟨fun c => (hr c).2.2, sem_eq_zero_of_no_sems rfl r.2⟩

/-- The reference of call 43 runs to its end. -/
theorem frameReference43 : Cert.quiescent_Reference43Ideal := fun m g _ =>
  θ_run_mono (Cert.Reference43Ideal.Value.run m g) fun r hr =>
    ⟨fun c => (hr c).2, sem_eq_zero_of_no_sems rfl r.2⟩

/-- The reference of call 44 runs to its end. -/
theorem frameReference44 : Cert.quiescent_Reference44Ideal := fun m g _ =>
  θ_run_mono (Cert.Reference44Ideal.Value.run m g) fun r hr =>
    ⟨fun c => (hr c).2.2, sem_eq_zero_of_no_sems rfl r.2⟩

/-- The reference of call 45 runs to its end. -/
theorem frameReference45 : Cert.quiescent_Reference45Ideal := fun m g _ =>
  θ_run_mono (Cert.Reference45Ideal.Value.run m g) fun r hr =>
    ⟨fun c => (hr c).2.2, sem_eq_zero_of_no_sems rfl r.2⟩

/-- The reference of call 46 runs to its end. -/
theorem frameReference46 : Cert.quiescent_Reference46Ideal := fun m g _ =>
  θ_run_mono (Cert.Reference46Ideal.Value.run m g) fun r hr =>
    ⟨fun c => (hr c).2, sem_eq_zero_of_no_sems rfl r.2⟩

/-- The reference of call 47 runs to its end. -/
theorem frameReference47 : Cert.quiescent_Reference47Ideal := fun m g _ =>
  θ_run_mono (Cert.Reference47Ideal.Value.run m g) fun r hr =>
    ⟨fun c => (hr c).2, sem_eq_zero_of_no_sems rfl r.2⟩

/-- The reference of call 48 runs to its end. -/
theorem frameReference48 : Cert.quiescent_Reference48Ideal := fun m g _ =>
  θ_run_mono (Cert.Reference48Ideal.Value.run m g) fun r hr =>
    ⟨fun c => (hr c).2, sem_eq_zero_of_no_sems rfl r.2⟩

/-- Call 2 and its reference leave the same arrays. -/
theorem algebraic2 : Cert.algebraic_Kernel2Ideal_Reference2Ideal := by
  pair_intro
  · run_from Cert.Kernel2Ideal.Gen.run_main m g
  · run_from Cert.Reference2Ideal.Value.run m' g'
    exact (Cert.Kernel2Ideal.Value.final m c).symm

/-- Call 3 and its reference leave the same arrays. -/
theorem algebraic3 : Cert.algebraic_Kernel3Ideal_Reference3Ideal := by
  pair_intro
  · run_from Cert.Kernel3Ideal.Gen.run_main m g
  · run_from Cert.Reference3Ideal.Value.run m' g'
    · exact (Cert.Kernel3Ideal.Value.final0 m c).symm
    · exact (Cert.Kernel3Ideal.Value.final1 m c).symm

/-- Call 4 and its reference leave the same arrays. -/
theorem algebraic4 : Cert.algebraic_Kernel4Ideal_Reference4Ideal := by
  pair_intro
  · run_from Cert.Kernel4Ideal.Gen.run_main m g
  · run_from Cert.Reference4Ideal.Value.run m' g'
    exact (Cert.Kernel4Ideal.Value.final m c).symm

/-- Call 5 and its reference leave the same arrays. -/
theorem algebraic5 : Cert.algebraic_Kernel5Ideal_Reference5Ideal := by
  pair_intro
  · run_from Cert.Kernel5Ideal.Gen.run_main m g
  · run_from Cert.Reference5Ideal.Value.run m' g'
    rw [(hagree c).2.2.2]
    exact (Cert.Kernel5Ideal.Value.final m c).symm

/-- Call 6 and its reference leave the same arrays. -/
theorem algebraic6 : Cert.algebraic_Kernel6Ideal_Reference6Ideal := by
  pair_intro
  · run_from Cert.Kernel6Ideal.Gen.run_main m g
  · run_from Cert.Reference6Ideal.Value.run m' g'
    · rw [(hagree c).2.2]
      exact (Cert.Kernel6Ideal.Value.final0 m c).symm
    · exact (Cert.Kernel6Ideal.Value.final1 m c).symm

/-- Call 7 and its reference leave the same arrays. -/
theorem algebraic7 : Cert.algebraic_Kernel7Ideal_Reference7Ideal := by
  pair_intro
  · run_from Cert.Kernel7Ideal.Gen.run_main m g
  · run_from Cert.Reference7Ideal.Value.run m' g'
    exact (Cert.Kernel7Ideal.Value.final m c).symm

/-- Call 8 and its reference leave the same arrays. -/
theorem algebraic8 : Cert.algebraic_Kernel8Ideal_Reference8Ideal := by
  pair_intro
  · run_from Cert.Kernel8Ideal.Gen.run_main m g
  · run_from Cert.Reference8Ideal.Value.run m' g'
    exact (Cert.Kernel8Ideal.Value.final m c).symm

/-- Call 9 and its reference leave the same arrays. -/
theorem algebraic9 : Cert.algebraic_Kernel9Ideal_Reference9Ideal := by
  pair_intro
  · run_from Cert.Kernel9Ideal.Gen.run_main m g
  · run_from Cert.Reference9Ideal.Value.run m' g'
    exact (Cert.Kernel9Ideal.Value.final m c).symm

/-- Call 10 and its reference leave the same arrays. -/
theorem algebraic10 : Cert.algebraic_Kernel10Ideal_Reference10Ideal := by
  pair_intro
  · run_from Cert.Kernel10Ideal.Gen.run_main m g
  · run_from Cert.Reference10Ideal.Value.run m' g'
    exact (Cert.Kernel10Ideal.Value.final m c).symm

/-- Call 11 and its reference leave the same arrays. -/
theorem algebraic11 : Cert.algebraic_Kernel11Ideal_Reference11Ideal := by
  pair_intro
  · run_from Cert.Kernel11Ideal.Gen.run_main m g
  · run_from Cert.Reference11Ideal.Value.run m' g'
    exact (Cert.Kernel11Ideal.Value.final m c).symm

/-- Call 12 and its reference leave the same arrays. -/
theorem algebraic12 : Cert.algebraic_Kernel12Ideal_Reference12Ideal := by
  pair_intro
  · run_from Cert.Kernel12Ideal.Gen.run_main m g
  · run_from Cert.Reference12Ideal.Value.run m' g'
    exact (Cert.Kernel12Ideal.Value.final m c).symm

/-- Call 13 and its reference leave the same arrays. -/
theorem algebraic13 : Cert.algebraic_Kernel13Ideal_Reference13Ideal := by
  pair_intro
  · run_from Cert.Kernel13Ideal.Gen.run_main m g
  · run_from Cert.Reference13Ideal.Value.run m' g'
    exact (Cert.Kernel13Ideal.Value.final m c).symm

/-- Call 14 and its reference leave the same arrays. -/
theorem algebraic14 : Cert.algebraic_Kernel14Ideal_Reference14Ideal := by
  pair_intro
  · run_from Cert.Kernel14Ideal.Gen.run_main m g
  · run_from Cert.Reference14Ideal.Value.run m' g'
    exact (Cert.Kernel14Ideal.Value.final m c).symm

/-- Call 15 and its reference leave the same arrays. -/
theorem algebraic15 : Cert.algebraic_Kernel15Ideal_Reference15Ideal := by
  pair_intro
  · run_from Cert.Kernel15Ideal.Gen.run_main m g
  · run_from Cert.Reference15Ideal.Value.run m' g'
    exact (Cert.Kernel15Ideal.Value.final m c).symm

/-- Call 16 and its reference leave the same arrays. -/
theorem algebraic16 : Cert.algebraic_Kernel16Ideal_Reference16Ideal := by
  pair_intro
  · run_from Cert.Kernel16Ideal.Gen.run_main m g
  · run_from Cert.Reference16Ideal.Value.run m' g'
    exact (Cert.Kernel16Ideal.Value.final m c).symm

/-- Call 17 and its reference leave the same arrays. -/
theorem algebraic17 : Cert.algebraic_Kernel17Ideal_Reference17Ideal := by
  pair_intro
  · run_from Cert.Kernel17Ideal.Gen.run_main m g
  · run_from Cert.Reference17Ideal.Value.run m' g'
    exact (Cert.Kernel17Ideal.Value.final m c).symm

/-- Call 18 and its reference leave the same arrays. -/
theorem algebraic18 : Cert.algebraic_Kernel18Ideal_Reference18Ideal := by
  pair_intro
  · run_from Cert.Kernel18Ideal.Gen.run_main m g
  · run_from Cert.Reference18Ideal.Value.run m' g'
    exact (Cert.Kernel18Ideal.Value.final m c).symm

/-- Call 19 and its reference leave the same arrays. -/
theorem algebraic19 : Cert.algebraic_Kernel19Ideal_Reference19Ideal := by
  pair_intro
  · run_from Cert.Kernel19Ideal.Gen.run_main m g
  · run_from Cert.Reference19Ideal.Value.run m' g'
    exact (Cert.Kernel19Ideal.Value.final m c).symm

/-- Call 20 and its reference leave the same arrays. -/
theorem algebraic20 : Cert.algebraic_Kernel20Ideal_Reference20Ideal := by
  pair_intro
  · run_from Cert.Kernel20Ideal.Gen.run_main m g
  · run_from Cert.Reference20Ideal.Value.run m' g'
    · rw [(hagree c).2.2.2]
      exact (Cert.Kernel20Ideal.Value.final0 m c).symm
    · exact (Cert.Kernel20Ideal.Value.final1 m c).symm
    · exact (Cert.Kernel20Ideal.Value.final2 m c).symm

/-- Call 21 and its reference leave the same arrays. -/
theorem algebraic21 : Cert.algebraic_Kernel21Ideal_Reference21Ideal := by
  pair_intro
  · run_from Cert.Kernel21Ideal.Gen.run_main m g
  · run_from Cert.Reference21Ideal.Value.run m' g'
    exact (Cert.Kernel21Ideal.Value.final m c).symm

/-- Call 22 and its reference leave the same arrays. -/
theorem algebraic22 : Cert.algebraic_Kernel22Ideal_Reference22Ideal := by
  pair_intro
  · run_from Cert.Kernel22Ideal.Gen.run_main m g
  · run_from Cert.Reference22Ideal.Value.run m' g'
    exact (Cert.Kernel22Ideal.Value.final m c).symm

/-- Call 23 and its reference leave the same arrays. -/
theorem algebraic23 : Cert.algebraic_Kernel23Ideal_Reference23Ideal := by
  pair_intro
  · run_from Cert.Kernel23Ideal.Gen.run_main m g
  · run_from Cert.Reference23Ideal.Value.run m' g'
    exact (Cert.Kernel23Ideal.Value.final m c).symm

/-- Call 24 and its reference leave the same arrays. -/
theorem algebraic24 : Cert.algebraic_Kernel24Ideal_Reference24Ideal := by
  pair_intro
  · run_from Cert.Kernel24Ideal.Gen.run_main m g
  · run_from Cert.Reference24Ideal.Value.run m' g'
    · exact (Cert.Kernel24Ideal.Value.final0 m c).symm
    · exact (Cert.Kernel24Ideal.Value.final1 m c).symm
    · exact (Cert.Kernel24Ideal.Value.final2 m c).symm
    · exact (Cert.Kernel24Ideal.Value.final3 m c).symm

/-- Call 25 and its reference leave the same arrays. -/
theorem algebraic25 : Cert.algebraic_Kernel25Ideal_Reference25Ideal := by
  pair_intro
  · run_from Cert.Kernel25Ideal.Gen.run_main m g
  · run_from Cert.Reference25Ideal.Value.run m' g'
    · exact (Cert.Kernel25Ideal.Value.final0 m c).symm
    · exact (Cert.Kernel25Ideal.Value.final1 m c).symm
    · exact (Cert.Kernel25Ideal.Value.final2 m c).symm
    · exact (Cert.Kernel25Ideal.Value.final3 m c).symm

/-- Call 26 and its reference leave the same arrays. -/
theorem algebraic26 : Cert.algebraic_Kernel26Ideal_Reference26Ideal := by
  pair_intro
  · run_from Cert.Kernel26Ideal.Gen.run_main m g
  · run_from Cert.Reference26Ideal.Value.run m' g'
    · exact (Cert.Kernel26Ideal.Value.final0 m c).symm
    · exact (Cert.Kernel26Ideal.Value.final1 m c).symm
    · exact (Cert.Kernel26Ideal.Value.final2 m c).symm
    · exact (Cert.Kernel26Ideal.Value.final3 m c).symm

/-- Call 27 and its reference leave the same arrays. -/
theorem algebraic27 : Cert.algebraic_Kernel27Ideal_Reference27Ideal := by
  pair_intro
  · run_from Cert.Kernel27Ideal.Gen.run_main m g
  · run_from Cert.Reference27Ideal.Value.run m' g'
    · exact (Cert.Kernel27Ideal.Value.final0 m c).symm
    · exact (Cert.Kernel27Ideal.Value.final1 m c).symm
    · exact (Cert.Kernel27Ideal.Value.final2 m c).symm
    · exact (Cert.Kernel27Ideal.Value.final3 m c).symm

/-- Call 28 and its reference leave the same arrays. -/
theorem algebraic28 : Cert.algebraic_Kernel28Ideal_Reference28Ideal := by
  pair_intro
  · run_from Cert.Kernel28Ideal.Gen.run_main m g
  · run_from Cert.Reference28Ideal.Value.run m' g'
    · exact (Cert.Kernel28Ideal.Value.final0 m c).symm
    · exact (Cert.Kernel28Ideal.Value.final1 m c).symm
    · exact (Cert.Kernel28Ideal.Value.final2 m c).symm
    · exact (Cert.Kernel28Ideal.Value.final3 m c).symm

/-- Call 29 and its reference leave the same arrays. -/
theorem algebraic29 : Cert.algebraic_Kernel29Ideal_Reference29Ideal := by
  pair_intro
  · run_from Cert.Kernel29Ideal.Gen.run_main m g
  · run_from Cert.Reference29Ideal.Value.run m' g'
    · exact (Cert.Kernel29Ideal.Value.final0 m c).symm
    · exact (Cert.Kernel29Ideal.Value.final1 m c).symm
    · exact (Cert.Kernel29Ideal.Value.final2 m c).symm
    · exact (Cert.Kernel29Ideal.Value.final3 m c).symm

/-- Call 30 and its reference leave the same arrays. -/
theorem algebraic30 : Cert.algebraic_Kernel30Ideal_Reference30Ideal := by
  pair_intro
  · run_from Cert.Kernel30Ideal.Gen.run_main m g
  · run_from Cert.Reference30Ideal.Value.run m' g'
    · exact (Cert.Kernel30Ideal.Value.final0 m c).symm
    · exact (Cert.Kernel30Ideal.Value.final1 m c).symm
    · exact (Cert.Kernel30Ideal.Value.final2 m c).symm
    · exact (Cert.Kernel30Ideal.Value.final3 m c).symm

/-- Call 31 and its reference leave the same arrays. -/
theorem algebraic31 : Cert.algebraic_Kernel31Ideal_Reference31Ideal := by
  pair_intro
  · run_from Cert.Kernel31Ideal.Gen.run_main m g
  · run_from Cert.Reference31Ideal.Value.run m' g'
    · exact (Cert.Kernel31Ideal.Value.final0 m c).symm
    · exact (Cert.Kernel31Ideal.Value.final1 m c).symm
    · exact (Cert.Kernel31Ideal.Value.final2 m c).symm
    · exact (Cert.Kernel31Ideal.Value.final3 m c).symm

/-- Call 32 and its reference leave the same arrays. -/
theorem algebraic32 : Cert.algebraic_Kernel32Ideal_Reference32Ideal := by
  pair_intro
  · run_from Cert.Kernel32Ideal.Gen.run_main m g
  · run_from Cert.Reference32Ideal.Value.run m' g'
    · exact (Cert.Kernel32Ideal.Value.final0 m c).symm
    · exact (Cert.Kernel32Ideal.Value.final1 m c).symm
    · exact (Cert.Kernel32Ideal.Value.final2 m c).symm
    · exact (Cert.Kernel32Ideal.Value.final3 m c).symm

/-- Call 33 and its reference leave the same arrays. -/
theorem algebraic33 : Cert.algebraic_Kernel33Ideal_Reference33Ideal := by
  pair_intro
  · run_from Cert.Kernel33Ideal.Gen.run_main m g
  · run_from Cert.Reference33Ideal.Value.run m' g'
    · rw [(hagree c).2.1, (hagree c).2.2.1]
      exact (Cert.Kernel33Ideal.Value.final0 m c).symm
    · rw [(hagree c).2.1, (hagree c).2.2.1]
      exact (Cert.Kernel33Ideal.Value.final1 m c).symm
    · rw [(hagree c).2.1, (hagree c).2.2.1]
      exact (Cert.Kernel33Ideal.Value.final2 m c).symm
    · rw [(hagree c).2.1, (hagree c).2.2.1]
      exact (Cert.Kernel33Ideal.Value.final3 m c).symm

/-- Call 34 and its reference leave the same arrays. -/
theorem algebraic34 : Cert.algebraic_Kernel34Ideal_Reference34Ideal := by
  pair_intro
  · run_from Cert.Kernel34Ideal.Gen.run_main m g
  · run_from Cert.Reference34Ideal.Value.run m' g'
    · rw [(hagree c).2.1, (hagree c).2.2.1]
      exact (Cert.Kernel34Ideal.Value.final0 m c).symm
    · rw [(hagree c).2.1, (hagree c).2.2.1]
      exact (Cert.Kernel34Ideal.Value.final1 m c).symm
    · rw [(hagree c).2.1, (hagree c).2.2.1]
      exact (Cert.Kernel34Ideal.Value.final2 m c).symm
    · rw [(hagree c).2.1, (hagree c).2.2.1]
      exact (Cert.Kernel34Ideal.Value.final3 m c).symm

/-- Call 35 and its reference leave the same arrays. -/
theorem algebraic35 : Cert.algebraic_Kernel35Ideal_Reference35Ideal := by
  pair_intro
  · run_from Cert.Kernel35Ideal.Gen.run_main m g
  · run_from Cert.Reference35Ideal.Value.run m' g'
    · rw [(hagree c).2.1, (hagree c).2.2.1]
      exact (Cert.Kernel35Ideal.Value.final0 m c).symm
    · rw [(hagree c).2.1, (hagree c).2.2.1]
      exact (Cert.Kernel35Ideal.Value.final1 m c).symm
    · rw [(hagree c).2.1, (hagree c).2.2.1]
      exact (Cert.Kernel35Ideal.Value.final2 m c).symm
    · rw [(hagree c).2.1, (hagree c).2.2.1]
      exact (Cert.Kernel35Ideal.Value.final3 m c).symm

/-- Call 36 and its reference leave the same arrays. -/
theorem algebraic36 : Cert.algebraic_Kernel36Ideal_Reference36Ideal := by
  pair_intro
  · run_from Cert.Kernel36Ideal.Gen.run_main m g
  · run_from Cert.Reference36Ideal.Value.run m' g'
    · rw [(hagree c).2.1, (hagree c).2.2.1]
      exact (Cert.Kernel36Ideal.Value.final0 m c).symm
    · rw [(hagree c).2.1, (hagree c).2.2.1]
      exact (Cert.Kernel36Ideal.Value.final1 m c).symm
    · rw [(hagree c).2.1, (hagree c).2.2.1]
      exact (Cert.Kernel36Ideal.Value.final2 m c).symm
    · rw [(hagree c).2.1, (hagree c).2.2.1]
      exact (Cert.Kernel36Ideal.Value.final3 m c).symm

/-- Call 37 and its reference leave the same arrays. -/
theorem algebraic37 : Cert.algebraic_Kernel37Ideal_Reference37Ideal := by
  pair_intro
  · run_from Cert.Kernel37Ideal.Gen.run_main m g
  · run_from Cert.Reference37Ideal.Value.run m' g'
    · rw [(hagree c).2.1, (hagree c).2.2.1]
      exact (Cert.Kernel37Ideal.Value.final0 m c).symm
    · rw [(hagree c).2.1, (hagree c).2.2.1]
      exact (Cert.Kernel37Ideal.Value.final1 m c).symm
    · rw [(hagree c).2.1, (hagree c).2.2.1]
      exact (Cert.Kernel37Ideal.Value.final2 m c).symm
    · rw [(hagree c).2.1, (hagree c).2.2.1]
      exact (Cert.Kernel37Ideal.Value.final3 m c).symm

/-- Call 38 and its reference leave the same arrays. -/
theorem algebraic38 : Cert.algebraic_Kernel38Ideal_Reference38Ideal := by
  pair_intro
  · run_from Cert.Kernel38Ideal.Gen.run_main m g
  · run_from Cert.Reference38Ideal.Value.run m' g'
    · exact (Cert.Kernel38Ideal.Value.final0 m c).symm
    · exact (Cert.Kernel38Ideal.Value.final1 m c).symm

/-- Call 39 and its reference leave the same arrays. -/
theorem algebraic39 : Cert.algebraic_Kernel39Ideal_Reference39Ideal := by
  pair_intro
  · run_from Cert.Kernel39Ideal.Gen.run_main m g
  · run_from Cert.Reference39Ideal.Value.run m' g'
    · exact (Cert.Kernel39Ideal.Value.final0 m c).symm
    · exact (Cert.Kernel39Ideal.Value.final1 m c).symm

/-- Call 40 and its reference leave the same arrays. -/
theorem algebraic40 : Cert.algebraic_Kernel40Ideal_Reference40Ideal := by
  pair_intro
  · run_from Cert.Kernel40Ideal.Gen.run_main m g
  · run_from Cert.Reference40Ideal.Value.run m' g'
    exact (Cert.Kernel40Ideal.Value.final m c).symm

/-- Call 41 and its reference leave the same arrays. -/
theorem algebraic41 : Cert.algebraic_Kernel41Ideal_Reference41Ideal := by
  pair_intro
  · run_from Cert.Kernel41Ideal.Gen.run_main m g
  · run_from Cert.Reference41Ideal.Value.run m' g'
    exact (Cert.Kernel41Ideal.Value.final m c).symm

/-- Call 42 and its reference leave the same arrays. -/
theorem algebraic42 : Cert.algebraic_Kernel42Ideal_Reference42Ideal := by
  pair_intro
  · run_from Cert.Kernel42Ideal.Gen.run_main m g
  · run_from Cert.Reference42Ideal.Value.run m' g'
    · unfold Cert.Reference42Ideal.Value.res_main_v40
      rw [(hagree c).1, (hagree c).2.1, (hagree c).2.2]
      exact (Cert.Kernel42Ideal.Value.final0 m c).symm
    · exact (Cert.Kernel42Ideal.Value.final1 m c).symm

/-- Call 43 and its reference leave the same arrays. -/
theorem algebraic43 : Cert.algebraic_Kernel43Ideal_Reference43Ideal := by
  pair_intro
  · run_from Cert.Kernel43Ideal.Gen.run_main m g
  · run_from Cert.Reference43Ideal.Value.run m' g'
    exact (Cert.Kernel43Ideal.Value.final m c).symm

/-- Call 44 and its reference leave the same arrays. -/
theorem algebraic44 : Cert.algebraic_Kernel44Ideal_Reference44Ideal := by
  pair_intro
  · run_from Cert.Kernel44Ideal.Gen.run_main m g
  · run_from Cert.Reference44Ideal.Value.run m' g'
    · exact (Cert.Kernel44Ideal.Value.final0 m c).symm
    · exact (Cert.Kernel44Ideal.Value.final1 m c).symm

/-- Call 45 and its reference leave the same arrays. -/
theorem algebraic45 : Cert.algebraic_Kernel45Ideal_Reference45Ideal := by
  pair_intro
  · run_from Cert.Kernel45Ideal.Gen.run_main m g
  · run_from Cert.Reference45Ideal.Value.run m' g'
    · unfold Cert.Reference45Ideal.Value.res_main_v38
      rw [(hagree c).1, (hagree c).2.1, (hagree c).2.2.1, (hagree c).2.2.2.1, (hagree c).2.2.2.2.1, (hagree c).2.2.2.2.2]
      exact (Cert.Kernel45Ideal.Value.final0 m c).symm
    · exact (Cert.Kernel45Ideal.Value.final1 m c).symm

/-- Call 46 and its reference leave the same arrays. -/
theorem algebraic46 : Cert.algebraic_Kernel46Ideal_Reference46Ideal := by
  pair_intro
  · run_from Cert.Kernel46Ideal.Gen.run_main m g
  · run_from Cert.Reference46Ideal.Value.run m' g'
    exact (Cert.Kernel46Ideal.Value.final m c).symm

/-- Call 47 and its reference leave the same arrays. -/
theorem algebraic47 : Cert.algebraic_Kernel47Ideal_Reference47Ideal := by
  pair_intro
  · run_from Cert.Kernel47Ideal.Gen.run_main m g
  · run_from Cert.Reference47Ideal.Value.run m' g'
    exact (Cert.Kernel47Ideal.Value.final m c).symm

/-- Call 48 and its reference leave the same arrays. -/
theorem algebraic48 : Cert.algebraic_Kernel48Ideal_Reference48Ideal := by
  pair_intro
  · run_from Cert.Kernel48Ideal.Gen.run_main m g
  · run_from Cert.Reference48Ideal.Value.run m' g'
    exact (Cert.Kernel48Ideal.Value.final m c).symm

/-- The whole claim. -/
theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, Cert.Kernel46.Gen.facts, Cert.Kernel46Ideal.Gen.facts, Cert.Reference46Ideal.Gen.facts, Cert.Kernel47.Gen.facts, Cert.Kernel47Ideal.Gen.facts, Cert.Reference47Ideal.Gen.facts, Cert.Kernel48.Gen.facts, Cert.Kernel48Ideal.Gen.facts, Cert.Reference48Ideal.Gen.facts, fun m ρ _ => Cert.Kernel2.Gen.frame m ρ,
    fun m ρ _ => Cert.Kernel2Ideal.Gen.frame m ρ,
    frameReference2,
    fun m ρ _ => Cert.Kernel3.Gen.frame m ρ,
    fun m ρ _ => Cert.Kernel3Ideal.Gen.frame m ρ,
    frameReference3,
    fun m ρ _ => Cert.Kernel4.Gen.frame m ρ,
    fun m ρ _ => Cert.Kernel4Ideal.Gen.frame m ρ,
    frameReference4,
    fun m ρ _ => Cert.Kernel5.Gen.frame m ρ,
    fun m ρ _ => Cert.Kernel5Ideal.Gen.frame m ρ,
    frameReference5,
    fun m ρ _ => Cert.Kernel6.Gen.frame m ρ,
    fun m ρ _ => Cert.Kernel6Ideal.Gen.frame m ρ,
    frameReference6,
    fun m ρ _ => Cert.Kernel7.Gen.frame m ρ,
    fun m ρ _ => Cert.Kernel7Ideal.Gen.frame m ρ,
    frameReference7,
    fun m ρ _ => Cert.Kernel8.Gen.frame m ρ,
    fun m ρ _ => Cert.Kernel8Ideal.Gen.frame m ρ,
    frameReference8,
    fun m ρ _ => Cert.Kernel9.Gen.frame m ρ,
    fun m ρ _ => Cert.Kernel9Ideal.Gen.frame m ρ,
    frameReference9,
    fun m ρ _ => Cert.Kernel10.Gen.frame m ρ,
    fun m ρ _ => Cert.Kernel10Ideal.Gen.frame m ρ,
    frameReference10,
    fun m ρ _ => Cert.Kernel11.Gen.frame m ρ,
    fun m ρ _ => Cert.Kernel11Ideal.Gen.frame m ρ,
    frameReference11,
    fun m ρ _ => Cert.Kernel12.Gen.frame m ρ,
    fun m ρ _ => Cert.Kernel12Ideal.Gen.frame m ρ,
    frameReference12,
    fun m ρ _ => Cert.Kernel13.Gen.frame m ρ,
    fun m ρ _ => Cert.Kernel13Ideal.Gen.frame m ρ,
    frameReference13,
    fun m ρ _ => Cert.Kernel14.Gen.frame m ρ,
    fun m ρ _ => Cert.Kernel14Ideal.Gen.frame m ρ,
    frameReference14,
    fun m ρ _ => Cert.Kernel15.Gen.frame m ρ,
    fun m ρ _ => Cert.Kernel15Ideal.Gen.frame m ρ,
    frameReference15,
    fun m ρ _ => Cert.Kernel16.Gen.frame m ρ,
    fun m ρ _ => Cert.Kernel16Ideal.Gen.frame m ρ,
    frameReference16,
    fun m ρ _ => Cert.Kernel17.Gen.frame m ρ,
    fun m ρ _ => Cert.Kernel17Ideal.Gen.frame m ρ,
    frameReference17,
    fun m ρ _ => Cert.Kernel18.Gen.frame m ρ,
    fun m ρ _ => Cert.Kernel18Ideal.Gen.frame m ρ,
    frameReference18,
    fun m ρ _ => Cert.Kernel19.Gen.frame m ρ,
    fun m ρ _ => Cert.Kernel19Ideal.Gen.frame m ρ,
    frameReference19,
    fun m ρ _ => Cert.Kernel20.Gen.frame m ρ,
    fun m ρ _ => Cert.Kernel20Ideal.Gen.frame m ρ,
    frameReference20,
    fun m ρ _ => Cert.Kernel21.Gen.frame m ρ,
    fun m ρ _ => Cert.Kernel21Ideal.Gen.frame m ρ,
    frameReference21,
    fun m ρ _ => Cert.Kernel22.Gen.frame m ρ,
    fun m ρ _ => Cert.Kernel22Ideal.Gen.frame m ρ,
    frameReference22,
    fun m ρ _ => Cert.Kernel23.Gen.frame m ρ,
    fun m ρ _ => Cert.Kernel23Ideal.Gen.frame m ρ,
    frameReference23,
    fun m ρ _ => Cert.Kernel24.Gen.frame m ρ,
    fun m ρ _ => Cert.Kernel24Ideal.Gen.frame m ρ,
    frameReference24,
    fun m ρ _ => Cert.Kernel25.Gen.frame m ρ,
    fun m ρ _ => Cert.Kernel25Ideal.Gen.frame m ρ,
    frameReference25,
    fun m ρ _ => Cert.Kernel26.Gen.frame m ρ,
    fun m ρ _ => Cert.Kernel26Ideal.Gen.frame m ρ,
    frameReference26,
    fun m ρ _ => Cert.Kernel27.Gen.frame m ρ,
    fun m ρ _ => Cert.Kernel27Ideal.Gen.frame m ρ,
    frameReference27,
    fun m ρ _ => Cert.Kernel28.Gen.frame m ρ,
    fun m ρ _ => Cert.Kernel28Ideal.Gen.frame m ρ,
    frameReference28,
    fun m ρ _ => Cert.Kernel29.Gen.frame m ρ,
    fun m ρ _ => Cert.Kernel29Ideal.Gen.frame m ρ,
    frameReference29,
    fun m ρ _ => Cert.Kernel30.Gen.frame m ρ,
    fun m ρ _ => Cert.Kernel30Ideal.Gen.frame m ρ,
    frameReference30,
    fun m ρ _ => Cert.Kernel31.Gen.frame m ρ,
    fun m ρ _ => Cert.Kernel31Ideal.Gen.frame m ρ,
    frameReference31,
    fun m ρ _ => Cert.Kernel32.Gen.frame m ρ,
    fun m ρ _ => Cert.Kernel32Ideal.Gen.frame m ρ,
    frameReference32,
    fun m ρ _ => Cert.Kernel33.Gen.frame m ρ,
    fun m ρ _ => Cert.Kernel33Ideal.Gen.frame m ρ,
    frameReference33,
    fun m ρ _ => Cert.Kernel34.Gen.frame m ρ,
    fun m ρ _ => Cert.Kernel34Ideal.Gen.frame m ρ,
    frameReference34,
    fun m ρ _ => Cert.Kernel35.Gen.frame m ρ,
    fun m ρ _ => Cert.Kernel35Ideal.Gen.frame m ρ,
    frameReference35,
    fun m ρ _ => Cert.Kernel36.Gen.frame m ρ,
    fun m ρ _ => Cert.Kernel36Ideal.Gen.frame m ρ,
    frameReference36,
    fun m ρ _ => Cert.Kernel37.Gen.frame m ρ,
    fun m ρ _ => Cert.Kernel37Ideal.Gen.frame m ρ,
    frameReference37,
    fun m ρ _ => Cert.Kernel38.Gen.frame m ρ,
    fun m ρ _ => Cert.Kernel38Ideal.Gen.frame m ρ,
    frameReference38,
    fun m ρ _ => Cert.Kernel39.Gen.frame m ρ,
    fun m ρ _ => Cert.Kernel39Ideal.Gen.frame m ρ,
    frameReference39,
    fun m ρ _ => Cert.Kernel40.Gen.frame m ρ,
    fun m ρ _ => Cert.Kernel40Ideal.Gen.frame m ρ,
    frameReference40,
    fun m ρ _ => Cert.Kernel41.Gen.frame m ρ,
    fun m ρ _ => Cert.Kernel41Ideal.Gen.frame m ρ,
    frameReference41,
    fun m ρ _ => Cert.Kernel42.Gen.frame m ρ,
    fun m ρ _ => Cert.Kernel42Ideal.Gen.frame m ρ,
    frameReference42,
    fun m ρ _ => Cert.Kernel43.Gen.frame m ρ,
    fun m ρ _ => Cert.Kernel43Ideal.Gen.frame m ρ,
    frameReference43,
    fun m ρ _ => Cert.Kernel44.Gen.frame m ρ,
    fun m ρ _ => Cert.Kernel44Ideal.Gen.frame m ρ,
    frameReference44,
    fun m ρ _ => Cert.Kernel45.Gen.frame m ρ,
    fun m ρ _ => Cert.Kernel45Ideal.Gen.frame m ρ,
    frameReference45,
    fun m ρ _ => Cert.Kernel46.Gen.frame m ρ,
    fun m ρ _ => Cert.Kernel46Ideal.Gen.frame m ρ,
    frameReference46,
    fun m ρ _ => Cert.Kernel47.Gen.frame m ρ,
    fun m ρ _ => Cert.Kernel47Ideal.Gen.frame m ρ,
    frameReference47,
    fun m ρ _ => Cert.Kernel48.Gen.frame m ρ,
    fun m ρ _ => Cert.Kernel48Ideal.Gen.frame m ρ,
    frameReference48,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13,
    trivial,
    algebraic14,
    trivial,
    algebraic15,
    trivial,
    algebraic16,
    trivial,
    algebraic17,
    trivial,
    algebraic18,
    trivial,
    algebraic19,
    trivial,
    algebraic20,
    trivial,
    algebraic21,
    trivial,
    algebraic22,
    trivial,
    algebraic23,
    trivial,
    algebraic24,
    trivial,
    algebraic25,
    trivial,
    algebraic26,
    trivial,
    algebraic27,
    trivial,
    algebraic28,
    trivial,
    algebraic29,
    trivial,
    algebraic30,
    trivial,
    algebraic31,
    trivial,
    algebraic32,
    trivial,
    algebraic33,
    trivial,
    algebraic34,
    trivial,
    algebraic35,
    trivial,
    algebraic36,
    trivial,
    algebraic37,
    trivial,
    algebraic38,
    trivial,
    algebraic39,
    trivial,
    algebraic40,
    trivial,
    algebraic41,
    trivial,
    algebraic42,
    trivial,
    algebraic43,
    trivial,
    algebraic44,
    trivial,
    algebraic45,
    trivial,
    algebraic46,
    trivial,
    algebraic47,
    trivial,
    algebraic48⟩

end Cert.Proof

end
